-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_affine_codebooks [hPre_affine_codebooks : Cert.Pre_affine_codebooks.Facts] (m : (ℓ : Loc Cert.KernelIdeal.nD Cert.KernelIdeal.τ Cert.KernelIdeal.sig) → Buf (Elt Ideal) ℓ) : Prop :=
  ∀ c : Dev Cert.KernelIdeal.nD,
    (Cert.Pre_affine_codebooks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_affine_codebooks [hPre_affine_codebooks : Cert.Pre_affine_codebooks.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_affine_codebooks.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_affine_codebooks [hKernelIdeal : Cert.KernelIdeal.Facts] [hPre_affine_codebooks : Cert.Pre_affine_codebooks.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_affine_codebooks m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_affine_codebooks [hReferenceIdeal : Cert.ReferenceIdeal.Facts] [hPre_affine_codebooks : Cert.Pre_affine_codebooks.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_affine_codebooks m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_affine_codebooks [hKernelIdeal : Cert.KernelIdeal.Facts] [hReferenceIdeal : Cert.ReferenceIdeal.Facts] [hPre_affine_codebooks : Cert.Pre_affine_codebooks.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_affine_codebooks m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_affine_codebooks : Cert.Pre_affine_codebooks.Facts),
    quiescent_Kernel (hKernel := hKernel)
    ∧ quiescent_KernelIdeal (hKernelIdeal := hKernelIdeal)
    ∧ quiescent_KernelIdeal_pre_affine_codebooks (hKernelIdeal := hKernelIdeal) (hPre_affine_codebooks := hPre_affine_codebooks)
    ∧ quiescent_ReferenceIdeal (hReferenceIdeal := hReferenceIdeal)
    ∧ quiescent_ReferenceIdeal_pre_affine_codebooks (hReferenceIdeal := hReferenceIdeal) (hPre_affine_codebooks := hPre_affine_codebooks)
    ∧ preserves_Kernel_KernelIdeal
    ∧ algebraic_KernelIdeal_ReferenceIdeal_pre_affine_codebooks (hKernelIdeal := hKernelIdeal) (hReferenceIdeal := hReferenceIdeal) (hPre_affine_codebooks := hPre_affine_codebooks)
-- ==== Pre_affine_codebooks.lean ====
abbrev S8x8x224x224 : Shape := ⟨4, ![8, 8, 224, 224]⟩
abbrev S8x16 : Shape := ⟨2, ![8, 16]⟩
abbrev S16 : Shape := ⟨1, ![16]⟩
abbrev S1x16 : Shape := ⟨2, ![1, 16]⟩
abbrev S8x1 : Shape := ⟨2, ![8, 1]⟩
abbrev S8x8x1x224x224 : Shape := ⟨5, ![8, 8, 1, 224, 224]⟩
abbrev S1x8x16x1x1 : Shape := ⟨5, ![1, 8, 16, 1, 1]⟩
abbrev S8x8x16x224x224 : Shape := ⟨5, ![8, 8, 16, 224, 224]⟩
abbrev S_ : Shape := ⟨0, ![]⟩
abbrev S8x8x15x224x224 : Shape := ⟨5, ![8, 8, 15, 224, 224]⟩

class Facts : Prop where
  bcast_S16_S1x16_1 : S16.BroadcastsInDim S1x16 (![1] : Fin 1 → Fin S1x16.rank)
  slices_S8x16_S8x1_0_1 : S8x16.Slices ![0, 1] S8x1
  slices_S8x16_S8x1_0_0 : S8x16.Slices ![0, 0] S8x1
  bcast_S8x8x224x224_S8x8x1x224x224_0_1_3_4 : S8x8x224x224.BroadcastsInDim S8x8x1x224x224 (![0, 1, 3, 4] : Fin 4 → Fin S8x8x1x224x224.rank)
  bcast_S8x16_S1x8x16x1x1_1_2 : S8x16.BroadcastsInDim S1x8x16x1x1 (![1, 2] : Fin 2 → Fin S1x8x16x1x1.rank)
  bcast_S8x8x1x224x224_S8x8x16x224x224_0_1_2_3_4 : S8x8x1x224x224.BroadcastsInDim S8x8x16x224x224 (![0, 1, 2, 3, 4] : Fin 5 → Fin S8x8x16x224x224.rank)
  bcast_S1x8x16x1x1_S8x8x16x224x224_0_1_2_3_4 : S1x8x16x1x1.BroadcastsInDim S8x8x16x224x224 (![0, 1, 2, 3, 4] : Fin 5 → Fin S8x8x16x224x224.rank)
  bcast_S_S8x16 : S_.BroadcastsInDim S8x16 (![] : Fin 0 → Fin S8x16.rank)
  reducesTo_S8x16_S_d0_1 : S8x16.ReducesTo [0, 1] S_
  h_S_ : 0 < S_.numel
  bcast_S1x16_S8x16_0_1 : S1x16.BroadcastsInDim S8x16 (![0, 1] : Fin 2 → Fin S8x16.rank)
  bcast_S8x1_S8x16_0_1 : S8x1.BroadcastsInDim S8x16 (![0, 1] : Fin 2 → Fin S8x16.rank)
  slices_S8x8x16x224x224_S8x8x15x224x224_0_0_1_0_0 : S8x8x16x224x224.Slices ![0, 0, 1, 0, 0] S8x8x15x224x224
  slices_S8x8x16x224x224_S8x8x15x224x224_0_0_0_0_0 : S8x8x16x224x224.Slices ![0, 0, 0, 0, 0] S8x8x15x224x224
  reducesTo_S8x8x15x224x224_S_d0_1_2_3_4 : S8x8x15x224x224.ReducesTo [0, 1, 2, 3, 4] S_

variable [Facts]

def fn_part1 {F : FTy → Type} [FloatOps F] (main_arg1 : FVec F S8x16 .f32) (main_arg2 : FVec F S8x16 .f32) (main_v1 : FVec F S1x16 .f32) (main_v7 : FVec F S8x1 .f32) (main_v13 : FVec F S8x8x16x224x224 .f32) (main_v17 : IVec S_ 1) (main_v18 : FVec F S8x1 .f32) (main_v21 : FVec F S8x16 .f32) : IVec S_ 1 :=
  let main_v22 : FVec F S8x16 .f32 := broadcastInDim S8x16 ![0, 1] bcast_S8x1_S8x16_0_1 main_v18
  let main_v23 : FVec F S8x16 .f32 := addf main_v22 main_v21
  let main_v24 : IVec S8x16 1 := cmpf .oeq main_arg1 main_v23
  let main_c_0 : IVec S_ 1 := constantI S_ 1 1#1
  let main_v25 : IVec S_ 1 := (fun x v => Host.reduce IntOp.andi x v reducesTo_S8x16_S_d0_1 h_S_) main_v24 main_c_0
  let main_v26 : IVec S_ 1 := andi main_v17 main_v25
  let main_v27 : FVec F S8x1 .f32 := (extractStridedSlice S8x1 ![0, 0] · slices_S8x16_S8x1_0_0) main_arg2
  let main_v28 : FVec F S8x16 .f32 := broadcastInDim S8x16 ![0, 1] bcast_S1x16_S8x16_0_1 main_v1
  let main_v29 : FVec F S8x16 .f32 := broadcastInDim S8x16 ![0, 1] bcast_S8x1_S8x16_0_1 main_v7
  let main_v30 : FVec F S8x16 .f32 := mulf main_v28 main_v29
  let main_v31 : FVec F S8x16 .f32 := broadcastInDim S8x16 ![0, 1] bcast_S8x1_S8x16_0_1 main_v27
  let main_v32 : FVec F S8x16 .f32 := addf main_v31 main_v30
  let main_v33 : IVec S8x16 1 := cmpf .oeq main_arg2 main_v32
  let main_c_1 : IVec S_ 1 := constantI S_ 1 1#1
  let main_v34 : IVec S_ 1 := (fun x v => Host.reduce IntOp.andi x v reducesTo_S8x16_S_d0_1 h_S_) main_v33 main_c_1
  let main_v35 : IVec S_ 1 := andi main_v26 main_v34
  let main_v36 : FVec F S8x8x15x224x224 .f32 := (extractStridedSlice S8x8x15x224x224 ![0, 0, 1, 0, 0] · slices_S8x8x16x224x224_S8x8x15x224x224_0_0_1_0_0) main_v13
  let main_v37 : FVec F S8x8x15x224x224 .f32 := (extractStridedSlice S8x8x15x224x224 ![0, 0, 0, 0, 0] · slices_S8x8x16x224x224_S8x8x15x224x224_0_0_0_0_0) main_v13
  let main_v38 : IVec S8x8x15x224x224 1 := cmpf .une main_v36 main_v37
  let main_c_2 : IVec S_ 1 := constantI S_ 1 1#1
  let main_v39 : IVec S_ 1 := (fun x v => Host.reduce IntOp.andi x v reducesTo_S8x8x15x224x224_S_d0_1_2_3_4 h_S_) main_v38 main_c_2
  let main_v40 : IVec S_ 1 := andi main_v35 main_v39
  main_v40

def fn {F : FTy → Type} [FloatOps F] (main_arg0 : FVec F S8x8x224x224 .f32) (main_arg1 : FVec F S8x16 .f32) (main_arg2 : FVec F S8x16 .f32) : IVec S_ 1 :=
  let main_v0 : FVec F S16 .f32 := sitofp .f32 (iotaInDim S16 32 0)
  let main_v1 : FVec F S1x16 .f32 := broadcastInDim S1x16 ![1] bcast_S16_S1x16_1 main_v0
  let main_v2 : FVec F S8x1 .f32 := (extractStridedSlice S8x1 ![0, 1] · slices_S8x16_S8x1_0_1) main_arg1
  let main_v3 : FVec F S8x1 .f32 := (extractStridedSlice S8x1 ![0, 0] · slices_S8x16_S8x1_0_0) main_arg1
  let main_v4 : FVec F S8x1 .f32 := subf main_v2 main_v3
  let main_v5 : FVec F S8x1 .f32 := (extractStridedSlice S8x1 ![0, 1] · slices_S8x16_S8x1_0_1) main_arg2
  let main_v6 : FVec F S8x1 .f32 := (extractStridedSlice S8x1 ![0, 0] · slices_S8x16_S8x1_0_0) main_arg2
  let main_v7 : FVec F S8x1 .f32 := subf main_v5 main_v6
  let main_v8 : FVec F S8x8x1x224x224 .f32 := broadcastInDim S8x8x1x224x224 ![0, 1, 3, 4] bcast_S8x8x224x224_S8x8x1x224x224_0_1_3_4 main_arg0
  let main_v9 : FVec F S1x8x16x1x1 .f32 := broadcastInDim S1x8x16x1x1 ![1, 2] bcast_S8x16_S1x8x16x1x1_1_2 main_arg1
  let main_v10 : FVec F S8x8x16x224x224 .f32 := broadcastInDim S8x8x16x224x224 ![0, 1, 2, 3, 4] bcast_S8x8x1x224x224_S8x8x16x224x224_0_1_2_3_4 main_v8
  let main_v11 : FVec F S8x8x16x224x224 .f32 := broadcastInDim S8x8x16x224x224 ![0, 1, 2, 3, 4] bcast_S1x8x16x1x1_S8x8x16x224x224_0_1_2_3_4 main_v9
  let main_v12 : FVec F S8x8x16x224x224 .f32 := subf main_v10 main_v11
  let main_v13 : FVec F S8x8x16x224x224 .f32 := Host.absf main_v12
  let main_v14 : FVec F S8x16 .f32 := Host.absf main_arg2
  let main_cst : FVec F S_ .f32 := constant S_ .f32 0x7F800000#32
  let main_v15 : FVec F S8x16 .f32 := broadcastInDim S8x16 ![] bcast_S_S8x16 main_cst
  let main_v16 : IVec S8x16 1 := cmpf .olt main_v14 main_v15
  let main_c : IVec S_ 1 := constantI S_ 1 1#1
  let main_v17 : IVec S_ 1 := (fun x v => Host.reduce IntOp.andi x v reducesTo_S8x16_S_d0_1 h_S_) main_v16 main_c
  let main_v18 : FVec F S8x1 .f32 := (extractStridedSlice S8x1 ![0, 0] · slices_S8x16_S8x1_0_0) main_arg1
  let main_v19 : FVec F S8x16 .f32 := broadcastInDim S8x16 ![0, 1] bcast_S1x16_S8x16_0_1 main_v1
  let main_v20 : FVec F S8x16 .f32 := broadcastInDim S8x16 ![0, 1] bcast_S8x1_S8x16_0_1 main_v4
  let main_v21 : FVec F S8x16 .f32 := mulf main_v19 main_v20
  fn_part1 (F := F) main_arg1 main_arg2 main_v1 main_v7 main_v13 main_v17 main_v18 main_v21
-- ==== Kernel.lean ====
abbrev S8x8x224x224 : Shape := ⟨4, ![8, 8, 224, 224]⟩
abbrev S8x16 : Shape := ⟨2, ![8, 16]⟩
abbrev S8x1 : Shape := ⟨2, ![8, 1]⟩
abbrev S8 : Shape := ⟨1, ![8]⟩
abbrev S_ : Shape := ⟨0, ![]⟩
abbrev S8x4 : Shape := ⟨2, ![8, 4]⟩
abbrev S8x20 : Shape := ⟨2, ![8, 20]⟩
abbrev S8x20x1 : Shape := ⟨3, ![8, 20, 1]⟩
abbrev S8x20x16 : Shape := ⟨3, ![8, 20, 16]⟩
abbrev S2560 : Shape := ⟨1, ![2560]⟩
abbrev S8x128x224x224 : Shape := ⟨4, ![8, 128, 224, 224]⟩
abbrev S320 : Shape := ⟨1, ![320]⟩
abbrev S8x224 : Shape := ⟨2, ![8, 224]⟩
abbrev S16x8x224 : Shape := ⟨3, ![16, 8, 224]⟩
abbrev S1x1x8x224 : Shape := ⟨4, ![1, 1, 8, 224]⟩
abbrev S1x8x224 : Shape := ⟨3, ![1, 8, 224]⟩
abbrev S16 : Shape := ⟨1, ![16]⟩
abbrev S1x16 : Shape := ⟨2, ![1, 16]⟩
abbrev S1x1x16 : Shape := ⟨3, ![1, 1, 16]⟩

abbrev nBuf : Table → Nat
  | .hbm => 81
  | .local .scVector .vmem => 5
  | _ => 0

abbrev bufTy : (tb : Table) → Fin (nBuf tb) → BufTy
  | .hbm, ⟨0, _⟩ => ⟨S8x8x224x224, .f32⟩
  | .hbm, ⟨1, _⟩ => ⟨S8x16, .f32⟩
  | .hbm, ⟨2, _⟩ => ⟨S8x16, .f32⟩
  | .hbm, ⟨3, _⟩ => ⟨S8x1, .f32⟩
  | .hbm, ⟨4, _⟩ => ⟨S8, .f32⟩
  | .hbm, ⟨5, _⟩ => ⟨S8x1, .f32⟩
  | .hbm, ⟨6, _⟩ => ⟨S8, .f32⟩
  | .hbm, ⟨7, _⟩ => ⟨S8x1, .f32⟩
  | .hbm, ⟨8, _⟩ => ⟨S8, .f32⟩
  | .hbm, ⟨9, _⟩ => ⟨S8, .f32⟩
  | .hbm, ⟨10, _⟩ => ⟨S8x1, .f32⟩
  | .hbm, ⟨11, _⟩ => ⟨S8, .f32⟩
  | .hbm, ⟨12, _⟩ => ⟨S8, .f32⟩
  | .hbm, ⟨13, _⟩ => ⟨S8x1, .f32⟩
  | .hbm, ⟨14, _⟩ => ⟨S8, .f32⟩
  | .hbm, ⟨15, _⟩ => ⟨S8x1, .f32⟩
  | .hbm, ⟨16, _⟩ => ⟨S8, .f32⟩
  | .hbm, ⟨17, _⟩ => ⟨S8, .f32⟩
  | .hbm, ⟨18, _⟩ => ⟨S8, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S8x1, .f32⟩
  | .hbm, ⟨23, _⟩ => ⟨S8, .f32⟩
  | .hbm, ⟨24, _⟩ => ⟨S8x1, .f32⟩
  | .hbm, ⟨25, _⟩ => ⟨S8, .f32⟩
  | .hbm, ⟨26, _⟩ => ⟨S8x1, .f32⟩
  | .hbm, ⟨27, _⟩ => ⟨S8, .f32⟩
  | .hbm, ⟨28, _⟩ => ⟨S8x1, .f32⟩
  | .hbm, ⟨29, _⟩ => ⟨S8, .f32⟩
  | .hbm, ⟨30, _⟩ => ⟨S8x1, .f32⟩
  | .hbm, ⟨31, _⟩ => ⟨S8, .f32⟩
  | .hbm, ⟨32, _⟩ => ⟨S8x1, .f32⟩
  | .hbm, ⟨33, _⟩ => ⟨S8, .f32⟩
  | .hbm, ⟨34, _⟩ => ⟨S8x1, .f32⟩
  | .hbm, ⟨35, _⟩ => ⟨S8, .f32⟩
  | .hbm, ⟨36, _⟩ => ⟨S8x1, .f32⟩
  | .hbm, ⟨37, _⟩ => ⟨S8, .f32⟩
  | .hbm, ⟨38, _⟩ => ⟨S8x1, .f32⟩
  | .hbm, ⟨39, _⟩ => ⟨S8, .f32⟩
  | .hbm, ⟨40, _⟩ => ⟨S8x1, .f32⟩
  | .hbm, ⟨41, _⟩ => ⟨S8, .f32⟩
  | .hbm, ⟨42, _⟩ => ⟨S8x1, .f32⟩
  | .hbm, ⟨43, _⟩ => ⟨S8, .f32⟩
  | .hbm, ⟨44, _⟩ => ⟨S8x1, .f32⟩
  | .hbm, ⟨45, _⟩ => ⟨S8, .f32⟩
  | .hbm, ⟨46, _⟩ => ⟨S8x1, .f32⟩
  | .hbm, ⟨47, _⟩ => ⟨S8, .f32⟩
  | .hbm, ⟨48, _⟩ => ⟨S8x1, .f32⟩
  | .hbm, ⟨49, _⟩ => ⟨S8, .f32⟩
  | .hbm, ⟨50, _⟩ => ⟨S8x1, .f32⟩
  | .hbm, ⟨51, _⟩ => ⟨S8, .f32⟩
  | .hbm, ⟨52, _⟩ => ⟨S8x1, .f32⟩
  | .hbm, ⟨53, _⟩ => ⟨S8, .f32⟩
  | .hbm, ⟨54, _⟩ => ⟨S8x1, .f32⟩
  | .hbm, ⟨55, _⟩ => ⟨S8x1, .f32⟩
  | .hbm, ⟨56, _⟩ => ⟨S8x1, .f32⟩
  | .hbm, ⟨57, _⟩ => ⟨S8x1, .f32⟩
  | .hbm, ⟨58, _⟩ => ⟨S8x1, .f32⟩
  | .hbm, ⟨59, _⟩ => ⟨S8x1, .f32⟩
  | .hbm, ⟨60, _⟩ => ⟨S8x1, .f32⟩
  | .hbm, ⟨61, _⟩ => ⟨S8x1, .f32⟩
  | .hbm, ⟨62, _⟩ => ⟨S8x1, .f32⟩
  | .hbm, ⟨63, _⟩ => ⟨S8x1, .f32⟩
  | .hbm, ⟨64, _⟩ => ⟨S8x1, .f32⟩
  | .hbm, ⟨65, _⟩ => ⟨S8x1, .f32⟩
  | .hbm, ⟨66, _⟩ => ⟨S8x1, .f32⟩
  | .hbm, ⟨67, _⟩ => ⟨S8x1, .f32⟩
  | .hbm, ⟨68, _⟩ => ⟨S8x1, .f32⟩
  | .hbm, ⟨69, _⟩ => ⟨S8x1, .f32⟩
  | .hbm, ⟨70, _⟩ => ⟨S8x1, .f32⟩
  | .hbm, ⟨71, _⟩ => ⟨S8x1, .f32⟩
  | .hbm, ⟨72, _⟩ => ⟨S8x1, .f32⟩
  | .hbm, ⟨73, _⟩ => ⟨S8x1, .f32⟩
  | .hbm, ⟨74, _⟩ => ⟨S8x16, .f32⟩
  | .hbm, ⟨75, _⟩ => ⟨S8x4, .f32⟩
  | .hbm, ⟨76, _⟩ => ⟨S8x20, .f32⟩
  | .hbm, ⟨77, _⟩ => ⟨S8x20x1, .f32⟩
  | .hbm, ⟨78, _⟩ => ⟨S8x20x16, .f32⟩
  | .hbm, ⟨79, _⟩ => ⟨S2560, .f32⟩
  | .hbm, ⟨80, _⟩ => ⟨S8x128x224x224, .f32⟩
  | .local .scVector .vmem, ⟨0, _⟩ => ⟨S320, .f32⟩
  | .local .scVector .vmem, ⟨1, _⟩ => ⟨S8x224, .f32⟩
  | .local .scVector .vmem, ⟨2, _⟩ => ⟨S8x224, .f32⟩
  | .local .scVector .vmem, ⟨3, _⟩ => ⟨S16x8x224, .f32⟩
  | .local .scVector .vmem, ⟨4, _⟩ => ⟨S16x8x224, .f32⟩
  | _, _ => ⟨S8x8x224x224, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩
abbrev main_v64 : Ref sig .tc := ⟨.hbm, 68, rfl⟩
abbrev main_v65 : Ref sig .tc := ⟨.hbm, 69, rfl⟩
abbrev main_v66 : Ref sig .tc := ⟨.hbm, 70, rfl⟩
abbrev main_v67 : Ref sig .tc := ⟨.hbm, 71, rfl⟩
abbrev main_v68 : Ref sig .tc := ⟨.hbm, 72, rfl⟩
abbrev main_v69 : Ref sig .tc := ⟨.hbm, 73, rfl⟩
abbrev main_v70 : Ref sig .tc := ⟨.hbm, 74, rfl⟩
abbrev main_v71 : Ref sig .tc := ⟨.hbm, 75, rfl⟩
abbrev main_v72 : Ref sig .tc := ⟨.hbm, 76, rfl⟩
abbrev main_v73 : Ref sig .tc := ⟨.hbm, 77, rfl⟩
abbrev main_v74 : Ref sig .tc := ⟨.hbm, 78, rfl⟩
abbrev main_v75 : Ref sig .tc := ⟨.hbm, 79, rfl⟩
abbrev main_v76 : Ref sig .tc := ⟨.hbm, 80, rfl⟩
abbrev main_arg0_scv : Ref sig .scVector := ⟨.hbm, 0, rfl⟩
abbrev main_v75_scv : Ref sig .scVector := ⟨.hbm, 79, rfl⟩
abbrev main_v76_scv : Ref sig .scVector := ⟨.hbm, 80, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c2_i32_1 : BitVec 32 := 2#32
  let v2 : BitVec 32 := Scalar.addi c0_i32_0 c2_i32_1
  let c1_i32 : BitVec 32 := 1#32
  ⟨c0_i32_0, v2, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_342 : BitVec 32 := 2#32
  let v260 : BitVec 32 := Scalar.muli v1 c2_i32_342
  let c0_i32_0 : BitVec 32 := 0#32
  let c1_i32 : BitVec 32 := 1#32
  let arg14 : BitVec 32 := Scf.iv c0_i32_0 c1_i32 k0_t1
  let v261 : BitVec 32 := Scalar.addi v260 arg14
  let c8_i32_350 : BitVec 32 := 8#32
  let v279 : BitVec 32 := Scalar.remsi v261 c8_i32_350
  let c320_i32 : BitVec 32 := 320#32
  let v280 : BitVec 32 := Scalar.muli v279 c320_i32
  ![v280.toNat]
@[reducible] def k0_t2_loop : Scf.Loop 32 :=
  let c0_i32_352 : BitVec 32 := 0#32
  let c14_i32_353 : BitVec 32 := 14#32
  let v281 : BitVec 32 := Scalar.addi c0_i32_352 c14_i32_353
  let c1_i32_354 : BitVec 32 := 1#32
  ⟨c0_i32_352, v281, c1_i32_354⟩
def k0_off2 (i : grid0.Coords) (k0_t1 : Fin k0_t1_loop.trips) (k0_t2 : Fin k0_t2_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_342 : BitVec 32 := 2#32
  let v260 : BitVec 32 := Scalar.muli v1 c2_i32_342
  let c0_i32_0 : BitVec 32 := 0#32
  let c1_i32 : BitVec 32 := 1#32
  let arg14 : BitVec 32 := Scf.iv c0_i32_0 c1_i32 k0_t1
  let v261 : BitVec 32 := Scalar.addi v260 arg14
  let c0_i32_344 : BitVec 32 := 0#32
  let v263 : BitVec 1 := Scalar.cmpi .sgt v261 c0_i32_344
  let v264 : BitVec 32 := Scalar.extui v263
  let c0_i32_345 : BitVec 32 := 0#32
  let v265 : BitVec 1 := Scalar.cmpi .slt v261 c0_i32_345
  let v266 : BitVec 32 := Scalar.extui v265
  let v267 : BitVec 32 := Scalar.subi v264 v266
  let c8_i32_343 : BitVec 32 := 8#32
  let c0_i32_346 : BitVec 32 := 0#32
  let v268 : BitVec 1 := Scalar.cmpi .sgt c8_i32_343 c0_i32_346
  let v269 : BitVec 32 := Scalar.extui v268
  let c0_i32_347 : BitVec 32 := 0#32
  let v270 : BitVec 1 := Scalar.cmpi .slt c8_i32_343 c0_i32_347
  let v271 : BitVec 32 := Scalar.extui v270
  let v272 : BitVec 32 := Scalar.subi v269 v271
  let v273 : BitVec 1 := Scalar.cmpi .ne v267 v272
  let v274 : BitVec 32 := Scalar.remsi v261 c8_i32_343
  let c0_i32_348 : BitVec 32 := 0#32
  let v275 : BitVec 1 := Scalar.cmpi .ne v274 c0_i32_348
  let v276 : BitVec 1 := Scalar.andi v273 v275
  let v262 : BitVec 32 := Scalar.divsi v261 c8_i32_343
  let c1_i32_349 : BitVec 32 := 1#32
  let v277 : BitVec 32 := Scalar.subi v262 c1_i32_349
  let v278 : BitVec 32 := Scalar.select v276 v277 v262
  let c8_i32_350 : BitVec 32 := 8#32
  let v279 : BitVec 32 := Scalar.remsi v261 c8_i32_350
  let c0_i32_352 : BitVec 32 := 0#32
  let c1_i32_354 : BitVec 32 := 1#32
  let arg16 : BitVec 32 := Scf.iv c0_i32_352 c1_i32_354 k0_t2
  let c2_i32_359 : BitVec 32 := 2#32
  let v286 : BitVec 32 := Scalar.muli arg16 c2_i32_359
  let c8_i32_360 : BitVec 32 := 8#32
  let v287 : BitVec 32 := Scalar.muli v286 c8_i32_360
  let c0_i32_361 : BitVec 32 := 0#32
  ![v278.toNat, v279.toNat, v287.toNat, 0]
def k0_off3 (i : grid0.Coords) (k0_t1 : Fin k0_t1_loop.trips) (k0_t2 : Fin k0_t2_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_342 : BitVec 32 := 2#32
  let v260 : BitVec 32 := Scalar.muli v1 c2_i32_342
  let c0_i32_0 : BitVec 32 := 0#32
  let c1_i32 : BitVec 32 := 1#32
  let arg14 : BitVec 32 := Scf.iv c0_i32_0 c1_i32 k0_t1
  let v261 : BitVec 32 := Scalar.addi v260 arg14
  let c0_i32_344 : BitVec 32 := 0#32
  let v263 : BitVec 1 := Scalar.cmpi .sgt v261 c0_i32_344
  let v264 : BitVec 32 := Scalar.extui v263
  let c0_i32_345 : BitVec 32 := 0#32
  let v265 : BitVec 1 := Scalar.cmpi .slt v261 c0_i32_345
  let v266 : BitVec 32 := Scalar.extui v265
  let v267 : BitVec 32 := Scalar.subi v264 v266
  let c8_i32_343 : BitVec 32 := 8#32
  let c0_i32_346 : BitVec 32 := 0#32
  let v268 : BitVec 1 := Scalar.cmpi .sgt c8_i32_343 c0_i32_346
  let v269 : BitVec 32 := Scalar.extui v268
  let c0_i32_347 : BitVec 32 := 0#32
  let v270 : BitVec 1 := Scalar.cmpi .slt c8_i32_343 c0_i32_347
  let v271 : BitVec 32 := Scalar.extui v270
  let v272 : BitVec 32 := Scalar.subi v269 v271
  let v273 : BitVec 1 := Scalar.cmpi .ne v267 v272
  let v274 : BitVec 32 := Scalar.remsi v261 c8_i32_343
  let c0_i32_348 : BitVec 32 := 0#32
  let v275 : BitVec 1 := Scalar.cmpi .ne v274 c0_i32_348
  let v276 : BitVec 1 := Scalar.andi v273 v275
  let v262 : BitVec 32 := Scalar.divsi v261 c8_i32_343
  let c1_i32_349 : BitVec 32 := 1#32
  let v277 : BitVec 32 := Scalar.subi v262 c1_i32_349
  let v278 : BitVec 32 := Scalar.select v276 v277 v262
  let c8_i32_350 : BitVec 32 := 8#32
  let v279 : BitVec 32 := Scalar.remsi v261 c8_i32_350
  let c0_i32_352 : BitVec 32 := 0#32
  let c1_i32_354 : BitVec 32 := 1#32
  let arg16 : BitVec 32 := Scf.iv c0_i32_352 c1_i32_354 k0_t2
  let c2_i32_359 : BitVec 32 := 2#32
  let v286 : BitVec 32 := Scalar.muli arg16 c2_i32_359
  let c8_i32_360 : BitVec 32 := 8#32
  let v287 : BitVec 32 := Scalar.muli v286 c8_i32_360
  let c8_i32_363 : BitVec 32 := 8#32
  let v292 : BitVec 32 := Scalar.addi v287 c8_i32_363
  let c0_i32_364 : BitVec 32 := 0#32
  ![v278.toNat, v279.toNat, v292.toNat, 0]
@[reducible] def k0_t3_loop : Scf.Loop 32 :=
  let c0_i32_370 : BitVec 32 := 0#32
  let c112_i32 : BitVec 32 := 112#32
  let v343 : BitVec 32 := Scalar.addi c0_i32_370 c112_i32
  let c1_i32_371 : BitVec 32 := 1#32
  ⟨c0_i32_370, v343, c1_i32_371⟩
def k0_off4 (k0_t3 : Fin k0_t3_loop.trips) : Fin 2 → Nat :=
  let c0_i32_370 : BitVec 32 := 0#32
  let c1_i32_371 : BitVec 32 := 1#32
  let arg18 : BitVec 32 := Scf.iv c0_i32_370 c1_i32_371 k0_t3
  let c0_i32_691 : BitVec 32 := 0#32
  let v713 : BitVec 1 := Scalar.cmpi .sgt arg18 c0_i32_691
  let v714 : BitVec 32 := Scalar.extui v713
  let c0_i32_692 : BitVec 32 := 0#32
  let v715 : BitVec 1 := Scalar.cmpi .slt arg18 c0_i32_692
  let v716 : BitVec 32 := Scalar.extui v715
  let v717 : BitVec 32 := Scalar.subi v714 v716
  let c14_i32_690 : BitVec 32 := 14#32
  let c0_i32_693 : BitVec 32 := 0#32
  let v718 : BitVec 1 := Scalar.cmpi .sgt c14_i32_690 c0_i32_693
  let v719 : BitVec 32 := Scalar.extui v718
  let c0_i32_694 : BitVec 32 := 0#32
  let v720 : BitVec 1 := Scalar.cmpi .slt c14_i32_690 c0_i32_694
  let v721 : BitVec 32 := Scalar.extui v720
  let v722 : BitVec 32 := Scalar.subi v719 v721
  let v723 : BitVec 1 := Scalar.cmpi .ne v717 v722
  let v724 : BitVec 32 := Scalar.remsi arg18 c14_i32_690
  let c0_i32_695 : BitVec 32 := 0#32
  let v725 : BitVec 1 := Scalar.cmpi .ne v724 c0_i32_695
  let v726 : BitVec 1 := Scalar.andi v723 v725
  let v712 : BitVec 32 := Scalar.divsi arg18 c14_i32_690
  let c1_i32_696 : BitVec 32 := 1#32
  let v727 : BitVec 32 := Scalar.subi v712 c1_i32_696
  let v728 : BitVec 32 := Scalar.select v726 v727 v712
  let v732 : Index := Scalar.indexCast v728
  let c14_i32_697 : BitVec 32 := 14#32
  let v729 : BitVec 32 := Scalar.muli v728 c14_i32_697
  let v730 : BitVec 32 := Scalar.subi arg18 v729
  let c16_i32_698 : BitVec 32 := 16#32
  let v731 : BitVec 32 := Scalar.muli v730 c16_i32_698
  let v733 : Index := Scalar.indexCast v731
  ![v732.toNat, v733.toNat]
def k0_off5 (k0_t3 : Fin k0_t3_loop.trips) : Fin 3 → Nat :=
  let c0_i32_702 : BitVec 32 := 0#32
  let v830 : Index := Scalar.indexCast c0_i32_702
  let c0_i32_370 : BitVec 32 := 0#32
  let c1_i32_371 : BitVec 32 := 1#32
  let arg18 : BitVec 32 := Scf.iv c0_i32_370 c1_i32_371 k0_t3
  let c0_i32_691 : BitVec 32 := 0#32
  let v713 : BitVec 1 := Scalar.cmpi .sgt arg18 c0_i32_691
  let v714 : BitVec 32 := Scalar.extui v713
  let c0_i32_692 : BitVec 32 := 0#32
  let v715 : BitVec 1 := Scalar.cmpi .slt arg18 c0_i32_692
  let v716 : BitVec 32 := Scalar.extui v715
  let v717 : BitVec 32 := Scalar.subi v714 v716
  let c14_i32_690 : BitVec 32 := 14#32
  let c0_i32_693 : BitVec 32 := 0#32
  let v718 : BitVec 1 := Scalar.cmpi .sgt c14_i32_690 c0_i32_693
  let v719 : BitVec 32 := Scalar.extui v718
  let c0_i32_694 : BitVec 32 := 0#32
  let v720 : BitVec 1 := Scalar.cmpi .slt c14_i32_690 c0_i32_694
  let v721 : BitVec 32 := Scalar.extui v720
  let v722 : BitVec 32 := Scalar.subi v719 v721
  let v723 : BitVec 1 := Scalar.cmpi .ne v717 v722
  let v724 : BitVec 32 := Scalar.remsi arg18 c14_i32_690
  let c0_i32_695 : BitVec 32 := 0#32
  let v725 : BitVec 1 := Scalar.cmpi .ne v724 c0_i32_695
  let v726 : BitVec 1 := Scalar.andi v723 v725
  let v712 : BitVec 32 := Scalar.divsi arg18 c14_i32_690
  let c1_i32_696 : BitVec 32 := 1#32
  let v727 : BitVec 32 := Scalar.subi v712 c1_i32_696
  let v728 : BitVec 32 := Scalar.select v726 v727 v712
  let v831 : Index := Scalar.indexCast v728
  let c14_i32_697 : BitVec 32 := 14#32
  let v729 : BitVec 32 := Scalar.muli v728 c14_i32_697
  let v730 : BitVec 32 := Scalar.subi arg18 v729
  let c16_i32_698 : BitVec 32 := 16#32
  let v731 : BitVec 32 := Scalar.muli v730 c16_i32_698
  let v832 : Index := Scalar.indexCast v731
  ![0, v831.toNat, v832.toNat]
def k0_off6 (k0_t3 : Fin k0_t3_loop.trips) : Fin 3 → Nat :=
  let c1_i32_703 : BitVec 32 := 1#32
  let v837 : Index := Scalar.indexCast c1_i32_703
  let c0_i32_370 : BitVec 32 := 0#32
  let c1_i32_371 : BitVec 32 := 1#32
  let arg18 : BitVec 32 := Scf.iv c0_i32_370 c1_i32_371 k0_t3
  let c0_i32_691 : BitVec 32 := 0#32
  let v713 : BitVec 1 := Scalar.cmpi .sgt arg18 c0_i32_691
  let v714 : BitVec 32 := Scalar.extui v713
  let c0_i32_692 : BitVec 32 := 0#32
  let v715 : BitVec 1 := Scalar.cmpi .slt arg18 c0_i32_692
  let v716 : BitVec 32 := Scalar.extui v715
  let v717 : BitVec 32 := Scalar.subi v714 v716
  let c14_i32_690 : BitVec 32 := 14#32
  let c0_i32_693 : BitVec 32 := 0#32
  let v718 : BitVec 1 := Scalar.cmpi .sgt c14_i32_690 c0_i32_693
  let v719 : BitVec 32 := Scalar.extui v718
  let c0_i32_694 : BitVec 32 := 0#32
  let v720 : BitVec 1 := Scalar.cmpi .slt c14_i32_690 c0_i32_694
  let v721 : BitVec 32 := Scalar.extui v720
  let v722 : BitVec 32 := Scalar.subi v719 v721
  let v723 : BitVec 1 := Scalar.cmpi .ne v717 v722
  let v724 : BitVec 32 := Scalar.remsi arg18 c14_i32_690
  let c0_i32_695 : BitVec 32 := 0#32
  let v725 : BitVec 1 := Scalar.cmpi .ne v724 c0_i32_695
  let v726 : BitVec 1 := Scalar.andi v723 v725
  let v712 : BitVec 32 := Scalar.divsi arg18 c14_i32_690
  let c1_i32_696 : BitVec 32 := 1#32
  let v727 : BitVec 32 := Scalar.subi v712 c1_i32_696
  let v728 : BitVec 32 := Scalar.select v726 v727 v712
  let v838 : Index := Scalar.indexCast v728
  let c14_i32_697 : BitVec 32 := 14#32
  let v729 : BitVec 32 := Scalar.muli v728 c14_i32_697
  let v730 : BitVec 32 := Scalar.subi arg18 v729
  let c16_i32_698 : BitVec 32 := 16#32
  let v731 : BitVec 32 := Scalar.muli v730 c16_i32_698
  let v839 : Index := Scalar.indexCast v731
  ![1, v838.toNat, v839.toNat]
def k0_off7 (k0_t3 : Fin k0_t3_loop.trips) : Fin 3 → Nat :=
  let c2_i32_704 : BitVec 32 := 2#32
  let v844 : Index := Scalar.indexCast c2_i32_704
  let c0_i32_370 : BitVec 32 := 0#32
  let c1_i32_371 : BitVec 32 := 1#32
  let arg18 : BitVec 32 := Scf.iv c0_i32_370 c1_i32_371 k0_t3
  let c0_i32_691 : BitVec 32 := 0#32
  let v713 : BitVec 1 := Scalar.cmpi .sgt arg18 c0_i32_691
  let v714 : BitVec 32 := Scalar.extui v713
  let c0_i32_692 : BitVec 32 := 0#32
  let v715 : BitVec 1 := Scalar.cmpi .slt arg18 c0_i32_692
  let v716 : BitVec 32 := Scalar.extui v715
  let v717 : BitVec 32 := Scalar.subi v714 v716
  let c14_i32_690 : BitVec 32 := 14#32
  let c0_i32_693 : BitVec 32 := 0#32
  let v718 : BitVec 1 := Scalar.cmpi .sgt c14_i32_690 c0_i32_693
  let v719 : BitVec 32 := Scalar.extui v718
  let c0_i32_694 : BitVec 32 := 0#32
  let v720 : BitVec 1 := Scalar.cmpi .slt c14_i32_690 c0_i32_694
  let v721 : BitVec 32 := Scalar.extui v720
  let v722 : BitVec 32 := Scalar.subi v719 v721
  let v723 : BitVec 1 := Scalar.cmpi .ne v717 v722
  let v724 : BitVec 32 := Scalar.remsi arg18 c14_i32_690
  let c0_i32_695 : BitVec 32 := 0#32
  let v725 : BitVec 1 := Scalar.cmpi .ne v724 c0_i32_695
  let v726 : BitVec 1 := Scalar.andi v723 v725
  let v712 : BitVec 32 := Scalar.divsi arg18 c14_i32_690
  let c1_i32_696 : BitVec 32 := 1#32
  let v727 : BitVec 32 := Scalar.subi v712 c1_i32_696
  let v728 : BitVec 32 := Scalar.select v726 v727 v712
  let v845 : Index := Scalar.indexCast v728
  let c14_i32_697 : BitVec 32 := 14#32
  let v729 : BitVec 32 := Scalar.muli v728 c14_i32_697
  let v730 : BitVec 32 := Scalar.subi arg18 v729
  let c16_i32_698 : BitVec 32 := 16#32
  let v731 : BitVec 32 := Scalar.muli v730 c16_i32_698
  let v846 : Index := Scalar.indexCast v731
  ![2, v845.toNat, v846.toNat]
def k0_off8 (k0_t3 : Fin k0_t3_loop.trips) : Fin 3 → Nat :=
  let c3_i32_705 : BitVec 32 := 3#32
  let v851 : Index := Scalar.indexCast c3_i32_705
  let c0_i32_370 : BitVec 32 := 0#32
  let c1_i32_371 : BitVec 32 := 1#32
  let arg18 : BitVec 32 := Scf.iv c0_i32_370 c1_i32_371 k0_t3
  let c0_i32_691 : BitVec 32 := 0#32
  let v713 : BitVec 1 := Scalar.cmpi .sgt arg18 c0_i32_691
  let v714 : BitVec 32 := Scalar.extui v713
  let c0_i32_692 : BitVec 32 := 0#32
  let v715 : BitVec 1 := Scalar.cmpi .slt arg18 c0_i32_692
  let v716 : BitVec 32 := Scalar.extui v715
  let v717 : BitVec 32 := Scalar.subi v714 v716
  let c14_i32_690 : BitVec 32 := 14#32
  let c0_i32_693 : BitVec 32 := 0#32
  let v718 : BitVec 1 := Scalar.cmpi .sgt c14_i32_690 c0_i32_693
  let v719 : BitVec 32 := Scalar.extui v718
  let c0_i32_694 : BitVec 32 := 0#32
  let v720 : BitVec 1 := Scalar.cmpi .slt c14_i32_690 c0_i32_694
  let v721 : BitVec 32 := Scalar.extui v720
  let v722 : BitVec 32 := Scalar.subi v719 v721
  let v723 : BitVec 1 := Scalar.cmpi .ne v717 v722
  let v724 : BitVec 32 := Scalar.remsi arg18 c14_i32_690
  let c0_i32_695 : BitVec 32 := 0#32
  let v725 : BitVec 1 := Scalar.cmpi .ne v724 c0_i32_695
  let v726 : BitVec 1 := Scalar.andi v723 v725
  let v712 : BitVec 32 := Scalar.divsi arg18 c14_i32_690
  let c1_i32_696 : BitVec 32 := 1#32
  let v727 : BitVec 32 := Scalar.subi v712 c1_i32_696
  let v728 : BitVec 32 := Scalar.select v726 v727 v712
  let v852 : Index := Scalar.indexCast v728
  let c14_i32_697 : BitVec 32 := 14#32
  let v729 : BitVec 32 := Scalar.muli v728 c14_i32_697
  let v730 : BitVec 32 := Scalar.subi arg18 v729
  let c16_i32_698 : BitVec 32 := 16#32
  let v731 : BitVec 32 := Scalar.muli v730 c16_i32_698
  let v853 : Index := Scalar.indexCast v731
  ![3, v852.toNat, v853.toNat]
def k0_off9 (k0_t3 : Fin k0_t3_loop.trips) : Fin 3 → Nat :=
  let c4_i32_706 : BitVec 32 := 4#32
  let v858 : Index := Scalar.indexCast c4_i32_706
  let c0_i32_370 : BitVec 32 := 0#32
  let c1_i32_371 : BitVec 32 := 1#32
  let arg18 : BitVec 32 := Scf.iv c0_i32_370 c1_i32_371 k0_t3
  let c0_i32_691 : BitVec 32 := 0#32
  let v713 : BitVec 1 := Scalar.cmpi .sgt arg18 c0_i32_691
  let v714 : BitVec 32 := Scalar.extui v713
  let c0_i32_692 : BitVec 32 := 0#32
  let v715 : BitVec 1 := Scalar.cmpi .slt arg18 c0_i32_692
  let v716 : BitVec 32 := Scalar.extui v715
  let v717 : BitVec 32 := Scalar.subi v714 v716
  let c14_i32_690 : BitVec 32 := 14#32
  let c0_i32_693 : BitVec 32 := 0#32
  let v718 : BitVec 1 := Scalar.cmpi .sgt c14_i32_690 c0_i32_693
  let v719 : BitVec 32 := Scalar.extui v718
  let c0_i32_694 : BitVec 32 := 0#32
  let v720 : BitVec 1 := Scalar.cmpi .slt c14_i32_690 c0_i32_694
  let v721 : BitVec 32 := Scalar.extui v720
  let v722 : BitVec 32 := Scalar.subi v719 v721
  let v723 : BitVec 1 := Scalar.cmpi .ne v717 v722
  let v724 : BitVec 32 := Scalar.remsi arg18 c14_i32_690
  let c0_i32_695 : BitVec 32 := 0#32
  let v725 : BitVec 1 := Scalar.cmpi .ne v724 c0_i32_695
  let v726 : BitVec 1 := Scalar.andi v723 v725
  let v712 : BitVec 32 := Scalar.divsi arg18 c14_i32_690
  let c1_i32_696 : BitVec 32 := 1#32
  let v727 : BitVec 32 := Scalar.subi v712 c1_i32_696
  let v728 : BitVec 32 := Scalar.select v726 v727 v712
  let v859 : Index := Scalar.indexCast v728
  let c14_i32_697 : BitVec 32 := 14#32
  let v729 : BitVec 32 := Scalar.muli v728 c14_i32_697
  let v730 : BitVec 32 := Scalar.subi arg18 v729
  let c16_i32_698 : BitVec 32 := 16#32
  let v731 : BitVec 32 := Scalar.muli v730 c16_i32_698
  let v860 : Index := Scalar.indexCast v731
  ![4, v859.toNat, v860.toNat]
def k0_off10 (k0_t3 : Fin k0_t3_loop.trips) : Fin 3 → Nat :=
  let c5_i32_707 : BitVec 32 := 5#32
  let v865 : Index := Scalar.indexCast c5_i32_707
  let c0_i32_370 : BitVec 32 := 0#32
  let c1_i32_371 : BitVec 32 := 1#32
  let arg18 : BitVec 32 := Scf.iv c0_i32_370 c1_i32_371 k0_t3
  let c0_i32_691 : BitVec 32 := 0#32
  let v713 : BitVec 1 := Scalar.cmpi .sgt arg18 c0_i32_691
  let v714 : BitVec 32 := Scalar.extui v713
  let c0_i32_692 : BitVec 32 := 0#32
  let v715 : BitVec 1 := Scalar.cmpi .slt arg18 c0_i32_692
  let v716 : BitVec 32 := Scalar.extui v715
  let v717 : BitVec 32 := Scalar.subi v714 v716
  let c14_i32_690 : BitVec 32 := 14#32
  let c0_i32_693 : BitVec 32 := 0#32
  let v718 : BitVec 1 := Scalar.cmpi .sgt c14_i32_690 c0_i32_693
  let v719 : BitVec 32 := Scalar.extui v718
  let c0_i32_694 : BitVec 32 := 0#32
  let v720 : BitVec 1 := Scalar.cmpi .slt c14_i32_690 c0_i32_694
  let v721 : BitVec 32 := Scalar.extui v720
  let v722 : BitVec 32 := Scalar.subi v719 v721
  let v723 : BitVec 1 := Scalar.cmpi .ne v717 v722
  let v724 : BitVec 32 := Scalar.remsi arg18 c14_i32_690
  let c0_i32_695 : BitVec 32 := 0#32
  let v725 : BitVec 1 := Scalar.cmpi .ne v724 c0_i32_695
  let v726 : BitVec 1 := Scalar.andi v723 v725
  let v712 : BitVec 32 := Scalar.divsi arg18 c14_i32_690
  let c1_i32_696 : BitVec 32 := 1#32
  let v727 : BitVec 32 := Scalar.subi v712 c1_i32_696
  let v728 : BitVec 32 := Scalar.select v726 v727 v712
  let v866 : Index := Scalar.indexCast v728
  let c14_i32_697 : BitVec 32 := 14#32
  let v729 : BitVec 32 := Scalar.muli v728 c14_i32_697
  let v730 : BitVec 32 := Scalar.subi arg18 v729
  let c16_i32_698 : BitVec 32 := 16#32
  let v731 : BitVec 32 := Scalar.muli v730 c16_i32_698
  let v867 : Index := Scalar.indexCast v731
  ![5, v866.toNat, v867.toNat]
def k0_off11 (k0_t3 : Fin k0_t3_loop.trips) : Fin 3 → Nat :=
  let c6_i32_708 : BitVec 32 := 6#32
  let v872 : Index := Scalar.indexCast c6_i32_708
  let c0_i32_370 : BitVec 32 := 0#32
  let c1_i32_371 : BitVec 32 := 1#32
  let arg18 : BitVec 32 := Scf.iv c0_i32_370 c1_i32_371 k0_t3
  let c0_i32_691 : BitVec 32 := 0#32
  let v713 : BitVec 1 := Scalar.cmpi .sgt arg18 c0_i32_691
  let v714 : BitVec 32 := Scalar.extui v713
  let c0_i32_692 : BitVec 32 := 0#32
  let v715 : BitVec 1 := Scalar.cmpi .slt arg18 c0_i32_692
  let v716 : BitVec 32 := Scalar.extui v715
  let v717 : BitVec 32 := Scalar.subi v714 v716
  let c14_i32_690 : BitVec 32 := 14#32
  let c0_i32_693 : BitVec 32 := 0#32
  let v718 : BitVec 1 := Scalar.cmpi .sgt c14_i32_690 c0_i32_693
  let v719 : BitVec 32 := Scalar.extui v718
  let c0_i32_694 : BitVec 32 := 0#32
  let v720 : BitVec 1 := Scalar.cmpi .slt c14_i32_690 c0_i32_694
  let v721 : BitVec 32 := Scalar.extui v720
  let v722 : BitVec 32 := Scalar.subi v719 v721
  let v723 : BitVec 1 := Scalar.cmpi .ne v717 v722
  let v724 : BitVec 32 := Scalar.remsi arg18 c14_i32_690
  let c0_i32_695 : BitVec 32 := 0#32
  let v725 : BitVec 1 := Scalar.cmpi .ne v724 c0_i32_695
  let v726 : BitVec 1 := Scalar.andi v723 v725
  let v712 : BitVec 32 := Scalar.divsi arg18 c14_i32_690
  let c1_i32_696 : BitVec 32 := 1#32
  let v727 : BitVec 32 := Scalar.subi v712 c1_i32_696
  let v728 : BitVec 32 := Scalar.select v726 v727 v712
  let v873 : Index := Scalar.indexCast v728
  let c14_i32_697 : BitVec 32 := 14#32
  let v729 : BitVec 32 := Scalar.muli v728 c14_i32_697
  let v730 : BitVec 32 := Scalar.subi arg18 v729
  let c16_i32_698 : BitVec 32 := 16#32
  let v731 : BitVec 32 := Scalar.muli v730 c16_i32_698
  let v874 : Index := Scalar.indexCast v731
  ![6, v873.toNat, v874.toNat]
def k0_off12 (k0_t3 : Fin k0_t3_loop.trips) : Fin 3 → Nat :=
  let c7_i32_709 : BitVec 32 := 7#32
  let v879 : Index := Scalar.indexCast c7_i32_709
  let c0_i32_370 : BitVec 32 := 0#32
  let c1_i32_371 : BitVec 32 := 1#32
  let arg18 : BitVec 32 := Scf.iv c0_i32_370 c1_i32_371 k0_t3
  let c0_i32_691 : BitVec 32 := 0#32
  let v713 : BitVec 1 := Scalar.cmpi .sgt arg18 c0_i32_691
  let v714 : BitVec 32 := Scalar.extui v713
  let c0_i32_692 : BitVec 32 := 0#32
  let v715 : BitVec 1 := Scalar.cmpi .slt arg18 c0_i32_692
  let v716 : BitVec 32 := Scalar.extui v715
  let v717 : BitVec 32 := Scalar.subi v714 v716
  let c14_i32_690 : BitVec 32 := 14#32
  let c0_i32_693 : BitVec 32 := 0#32
  let v718 : BitVec 1 := Scalar.cmpi .sgt c14_i32_690 c0_i32_693
  let v719 : BitVec 32 := Scalar.extui v718
  let c0_i32_694 : BitVec 32 := 0#32
  let v720 : BitVec 1 := Scalar.cmpi .slt c14_i32_690 c0_i32_694
  let v721 : BitVec 32 := Scalar.extui v720
  let v722 : BitVec 32 := Scalar.subi v719 v721
  let v723 : BitVec 1 := Scalar.cmpi .ne v717 v722
  let v724 : BitVec 32 := Scalar.remsi arg18 c14_i32_690
  let c0_i32_695 : BitVec 32 := 0#32
  let v725 : BitVec 1 := Scalar.cmpi .ne v724 c0_i32_695
  let v726 : BitVec 1 := Scalar.andi v723 v725
  let v712 : BitVec 32 := Scalar.divsi arg18 c14_i32_690
  let c1_i32_696 : BitVec 32 := 1#32
  let v727 : BitVec 32 := Scalar.subi v712 c1_i32_696
  let v728 : BitVec 32 := Scalar.select v726 v727 v712
  let v880 : Index := Scalar.indexCast v728
  let c14_i32_697 : BitVec 32 := 14#32
  let v729 : BitVec 32 := Scalar.muli v728 c14_i32_697
  let v730 : BitVec 32 := Scalar.subi arg18 v729
  let c16_i32_698 : BitVec 32 := 16#32
  let v731 : BitVec 32 := Scalar.muli v730 c16_i32_698
  let v881 : Index := Scalar.indexCast v731
  ![7, v880.toNat, v881.toNat]
def k0_off13 (k0_t3 : Fin k0_t3_loop.trips) : Fin 3 → Nat :=
  let c8_i32_710 : BitVec 32 := 8#32
  let v886 : Index := Scalar.indexCast c8_i32_710
  let c0_i32_370 : BitVec 32 := 0#32
  let c1_i32_371 : BitVec 32 := 1#32
  let arg18 : BitVec 32 := Scf.iv c0_i32_370 c1_i32_371 k0_t3
  let c0_i32_691 : BitVec 32 := 0#32
  let v713 : BitVec 1 := Scalar.cmpi .sgt arg18 c0_i32_691
  let v714 : BitVec 32 := Scalar.extui v713
  let c0_i32_692 : BitVec 32 := 0#32
  let v715 : BitVec 1 := Scalar.cmpi .slt arg18 c0_i32_692
  let v716 : BitVec 32 := Scalar.extui v715
  let v717 : BitVec 32 := Scalar.subi v714 v716
  let c14_i32_690 : BitVec 32 := 14#32
  let c0_i32_693 : BitVec 32 := 0#32
  let v718 : BitVec 1 := Scalar.cmpi .sgt c14_i32_690 c0_i32_693
  let v719 : BitVec 32 := Scalar.extui v718
  let c0_i32_694 : BitVec 32 := 0#32
  let v720 : BitVec 1 := Scalar.cmpi .slt c14_i32_690 c0_i32_694
  let v721 : BitVec 32 := Scalar.extui v720
  let v722 : BitVec 32 := Scalar.subi v719 v721
  let v723 : BitVec 1 := Scalar.cmpi .ne v717 v722
  let v724 : BitVec 32 := Scalar.remsi arg18 c14_i32_690
  let c0_i32_695 : BitVec 32 := 0#32
  let v725 : BitVec 1 := Scalar.cmpi .ne v724 c0_i32_695
  let v726 : BitVec 1 := Scalar.andi v723 v725
  let v712 : BitVec 32 := Scalar.divsi arg18 c14_i32_690
  let c1_i32_696 : BitVec 32 := 1#32
  let v727 : BitVec 32 := Scalar.subi v712 c1_i32_696
  let v728 : BitVec 32 := Scalar.select v726 v727 v712
  let v887 : Index := Scalar.indexCast v728
  let c14_i32_697 : BitVec 32 := 14#32
  let v729 : BitVec 32 := Scalar.muli v728 c14_i32_697
  let v730 : BitVec 32 := Scalar.subi arg18 v729
  let c16_i32_698 : BitVec 32 := 16#32
  let v731 : BitVec 32 := Scalar.muli v730 c16_i32_698
  let v888 : Index := Scalar.indexCast v731
  ![8, v887.toNat, v888.toNat]
def k0_off14 (k0_t3 : Fin k0_t3_loop.trips) : Fin 3 → Nat :=
  let c9_i32_711 : BitVec 32 := 9#32
  let v893 : Index := Scalar.indexCast c9_i32_711
  let c0_i32_370 : BitVec 32 := 0#32
  let c1_i32_371 : BitVec 32 := 1#32
  let arg18 : BitVec 32 := Scf.iv c0_i32_370 c1_i32_371 k0_t3
  let c0_i32_691 : BitVec 32 := 0#32
  let v713 : BitVec 1 := Scalar.cmpi .sgt arg18 c0_i32_691
  let v714 : BitVec 32 := Scalar.extui v713
  let c0_i32_692 : BitVec 32 := 0#32
  let v715 : BitVec 1 := Scalar.cmpi .slt arg18 c0_i32_692
  let v716 : BitVec 32 := Scalar.extui v715
  let v717 : BitVec 32 := Scalar.subi v714 v716
  let c14_i32_690 : BitVec 32 := 14#32
  let c0_i32_693 : BitVec 32 := 0#32
  let v718 : BitVec 1 := Scalar.cmpi .sgt c14_i32_690 c0_i32_693
  let v719 : BitVec 32 := Scalar.extui v718
  let c0_i32_694 : BitVec 32 := 0#32
  let v720 : BitVec 1 := Scalar.cmpi .slt c14_i32_690 c0_i32_694
  let v721 : BitVec 32 := Scalar.extui v720
  let v722 : BitVec 32 := Scalar.subi v719 v721
  let v723 : BitVec 1 := Scalar.cmpi .ne v717 v722
  let v724 : BitVec 32 := Scalar.remsi arg18 c14_i32_690
  let c0_i32_695 : BitVec 32 := 0#32
  let v725 : BitVec 1 := Scalar.cmpi .ne v724 c0_i32_695
  let v726 : BitVec 1 := Scalar.andi v723 v725
  let v712 : BitVec 32 := Scalar.divsi arg18 c14_i32_690
  let c1_i32_696 : BitVec 32 := 1#32
  let v727 : BitVec 32 := Scalar.subi v712 c1_i32_696
  let v728 : BitVec 32 := Scalar.select v726 v727 v712
  let v894 : Index := Scalar.indexCast v728
  let c14_i32_697 : BitVec 32 := 14#32
  let v729 : BitVec 32 := Scalar.muli v728 c14_i32_697
  let v730 : BitVec 32 := Scalar.subi arg18 v729
  let c16_i32_698 : BitVec 32 := 16#32
  let v731 : BitVec 32 := Scalar.muli v730 c16_i32_698
  let v895 : Index := Scalar.indexCast v731
  ![9, v894.toNat, v895.toNat]
def k0_off15 (k0_t3 : Fin k0_t3_loop.trips) : Fin 3 → Nat :=
  let c10_i32_712 : BitVec 32 := 10#32
  let v900 : Index := Scalar.indexCast c10_i32_712
  let c0_i32_370 : BitVec 32 := 0#32
  let c1_i32_371 : BitVec 32 := 1#32
  let arg18 : BitVec 32 := Scf.iv c0_i32_370 c1_i32_371 k0_t3
  let c0_i32_691 : BitVec 32 := 0#32
  let v713 : BitVec 1 := Scalar.cmpi .sgt arg18 c0_i32_691
  let v714 : BitVec 32 := Scalar.extui v713
  let c0_i32_692 : BitVec 32 := 0#32
  let v715 : BitVec 1 := Scalar.cmpi .slt arg18 c0_i32_692
  let v716 : BitVec 32 := Scalar.extui v715
  let v717 : BitVec 32 := Scalar.subi v714 v716
  let c14_i32_690 : BitVec 32 := 14#32
  let c0_i32_693 : BitVec 32 := 0#32
  let v718 : BitVec 1 := Scalar.cmpi .sgt c14_i32_690 c0_i32_693
  let v719 : BitVec 32 := Scalar.extui v718
  let c0_i32_694 : BitVec 32 := 0#32
  let v720 : BitVec 1 := Scalar.cmpi .slt c14_i32_690 c0_i32_694
  let v721 : BitVec 32 := Scalar.extui v720
  let v722 : BitVec 32 := Scalar.subi v719 v721
  let v723 : BitVec 1 := Scalar.cmpi .ne v717 v722
  let v724 : BitVec 32 := Scalar.remsi arg18 c14_i32_690
  let c0_i32_695 : BitVec 32 := 0#32
  let v725 : BitVec 1 := Scalar.cmpi .ne v724 c0_i32_695
  let v726 : BitVec 1 := Scalar.andi v723 v725
  let v712 : BitVec 32 := Scalar.divsi arg18 c14_i32_690
  let c1_i32_696 : BitVec 32 := 1#32
  let v727 : BitVec 32 := Scalar.subi v712 c1_i32_696
  let v728 : BitVec 32 := Scalar.select v726 v727 v712
  let v901 : Index := Scalar.indexCast v728
  let c14_i32_697 : BitVec 32 := 14#32
  let v729 : BitVec 32 := Scalar.muli v728 c14_i32_697
  let v730 : BitVec 32 := Scalar.subi arg18 v729
  let c16_i32_698 : BitVec 32 := 16#32
  let v731 : BitVec 32 := Scalar.muli v730 c16_i32_698
  let v902 : Index := Scalar.indexCast v731
  ![10, v901.toNat, v902.toNat]
def k0_off16 (k0_t3 : Fin k0_t3_loop.trips) : Fin 3 → Nat :=
  let c11_i32_713 : BitVec 32 := 11#32
  let v907 : Index := Scalar.indexCast c11_i32_713
  let c0_i32_370 : BitVec 32 := 0#32
  let c1_i32_371 : BitVec 32 := 1#32
  let arg18 : BitVec 32 := Scf.iv c0_i32_370 c1_i32_371 k0_t3
  let c0_i32_691 : BitVec 32 := 0#32
  let v713 : BitVec 1 := Scalar.cmpi .sgt arg18 c0_i32_691
  let v714 : BitVec 32 := Scalar.extui v713
  let c0_i32_692 : BitVec 32 := 0#32
  let v715 : BitVec 1 := Scalar.cmpi .slt arg18 c0_i32_692
  let v716 : BitVec 32 := Scalar.extui v715
  let v717 : BitVec 32 := Scalar.subi v714 v716
  let c14_i32_690 : BitVec 32 := 14#32
  let c0_i32_693 : BitVec 32 := 0#32
  let v718 : BitVec 1 := Scalar.cmpi .sgt c14_i32_690 c0_i32_693
  let v719 : BitVec 32 := Scalar.extui v718
  let c0_i32_694 : BitVec 32 := 0#32
  let v720 : BitVec 1 := Scalar.cmpi .slt c14_i32_690 c0_i32_694
  let v721 : BitVec 32 := Scalar.extui v720
  let v722 : BitVec 32 := Scalar.subi v719 v721
  let v723 : BitVec 1 := Scalar.cmpi .ne v717 v722
  let v724 : BitVec 32 := Scalar.remsi arg18 c14_i32_690
  let c0_i32_695 : BitVec 32 := 0#32
  let v725 : BitVec 1 := Scalar.cmpi .ne v724 c0_i32_695
  let v726 : BitVec 1 := Scalar.andi v723 v725
  let v712 : BitVec 32 := Scalar.divsi arg18 c14_i32_690
  let c1_i32_696 : BitVec 32 := 1#32
  let v727 : BitVec 32 := Scalar.subi v712 c1_i32_696
  let v728 : BitVec 32 := Scalar.select v726 v727 v712
  let v908 : Index := Scalar.indexCast v728
  let c14_i32_697 : BitVec 32 := 14#32
  let v729 : BitVec 32 := Scalar.muli v728 c14_i32_697
  let v730 : BitVec 32 := Scalar.subi arg18 v729
  let c16_i32_698 : BitVec 32 := 16#32
  let v731 : BitVec 32 := Scalar.muli v730 c16_i32_698
  let v909 : Index := Scalar.indexCast v731
  ![11, v908.toNat, v909.toNat]
def k0_off17 (k0_t3 : Fin k0_t3_loop.trips) : Fin 3 → Nat :=
  let c12_i32_714 : BitVec 32 := 12#32
  let v914 : Index := Scalar.indexCast c12_i32_714
  let c0_i32_370 : BitVec 32 := 0#32
  let c1_i32_371 : BitVec 32 := 1#32
  let arg18 : BitVec 32 := Scf.iv c0_i32_370 c1_i32_371 k0_t3
  let c0_i32_691 : BitVec 32 := 0#32
  let v713 : BitVec 1 := Scalar.cmpi .sgt arg18 c0_i32_691
  let v714 : BitVec 32 := Scalar.extui v713
  let c0_i32_692 : BitVec 32 := 0#32
  let v715 : BitVec 1 := Scalar.cmpi .slt arg18 c0_i32_692
  let v716 : BitVec 32 := Scalar.extui v715
  let v717 : BitVec 32 := Scalar.subi v714 v716
  let c14_i32_690 : BitVec 32 := 14#32
  let c0_i32_693 : BitVec 32 := 0#32
  let v718 : BitVec 1 := Scalar.cmpi .sgt c14_i32_690 c0_i32_693
  let v719 : BitVec 32 := Scalar.extui v718
  let c0_i32_694 : BitVec 32 := 0#32
  let v720 : BitVec 1 := Scalar.cmpi .slt c14_i32_690 c0_i32_694
  let v721 : BitVec 32 := Scalar.extui v720
  let v722 : BitVec 32 := Scalar.subi v719 v721
  let v723 : BitVec 1 := Scalar.cmpi .ne v717 v722
  let v724 : BitVec 32 := Scalar.remsi arg18 c14_i32_690
  let c0_i32_695 : BitVec 32 := 0#32
  let v725 : BitVec 1 := Scalar.cmpi .ne v724 c0_i32_695
  let v726 : BitVec 1 := Scalar.andi v723 v725
  let v712 : BitVec 32 := Scalar.divsi arg18 c14_i32_690
  let c1_i32_696 : BitVec 32 := 1#32
  let v727 : BitVec 32 := Scalar.subi v712 c1_i32_696
  let v728 : BitVec 32 := Scalar.select v726 v727 v712
  let v915 : Index := Scalar.indexCast v728
  let c14_i32_697 : BitVec 32 := 14#32
  let v729 : BitVec 32 := Scalar.muli v728 c14_i32_697
  let v730 : BitVec 32 := Scalar.subi arg18 v729
  let c16_i32_698 : BitVec 32 := 16#32
  let v731 : BitVec 32 := Scalar.muli v730 c16_i32_698
  let v916 : Index := Scalar.indexCast v731
  ![12, v915.toNat, v916.toNat]
def k0_off18 (k0_t3 : Fin k0_t3_loop.trips) : Fin 3 → Nat :=
  let c13_i32_715 : BitVec 32 := 13#32
  let v921 : Index := Scalar.indexCast c13_i32_715
  let c0_i32_370 : BitVec 32 := 0#32
  let c1_i32_371 : BitVec 32 := 1#32
  let arg18 : BitVec 32 := Scf.iv c0_i32_370 c1_i32_371 k0_t3
  let c0_i32_691 : BitVec 32 := 0#32
  let v713 : BitVec 1 := Scalar.cmpi .sgt arg18 c0_i32_691
  let v714 : BitVec 32 := Scalar.extui v713
  let c0_i32_692 : BitVec 32 := 0#32
  let v715 : BitVec 1 := Scalar.cmpi .slt arg18 c0_i32_692
  let v716 : BitVec 32 := Scalar.extui v715
  let v717 : BitVec 32 := Scalar.subi v714 v716
  let c14_i32_690 : BitVec 32 := 14#32
  let c0_i32_693 : BitVec 32 := 0#32
  let v718 : BitVec 1 := Scalar.cmpi .sgt c14_i32_690 c0_i32_693
  let v719 : BitVec 32 := Scalar.extui v718
  let c0_i32_694 : BitVec 32 := 0#32
  let v720 : BitVec 1 := Scalar.cmpi .slt c14_i32_690 c0_i32_694
  let v721 : BitVec 32 := Scalar.extui v720
  let v722 : BitVec 32 := Scalar.subi v719 v721
  let v723 : BitVec 1 := Scalar.cmpi .ne v717 v722
  let v724 : BitVec 32 := Scalar.remsi arg18 c14_i32_690
  let c0_i32_695 : BitVec 32 := 0#32
  let v725 : BitVec 1 := Scalar.cmpi .ne v724 c0_i32_695
  let v726 : BitVec 1 := Scalar.andi v723 v725
  let v712 : BitVec 32 := Scalar.divsi arg18 c14_i32_690
  let c1_i32_696 : BitVec 32 := 1#32
  let v727 : BitVec 32 := Scalar.subi v712 c1_i32_696
  let v728 : BitVec 32 := Scalar.select v726 v727 v712
  let v922 : Index := Scalar.indexCast v728
  let c14_i32_697 : BitVec 32 := 14#32
  let v729 : BitVec 32 := Scalar.muli v728 c14_i32_697
  let v730 : BitVec 32 := Scalar.subi arg18 v729
  let c16_i32_698 : BitVec 32 := 16#32
  let v731 : BitVec 32 := Scalar.muli v730 c16_i32_698
  let v923 : Index := Scalar.indexCast v731
  ![13, v922.toNat, v923.toNat]
def k0_off19 (k0_t3 : Fin k0_t3_loop.trips) : Fin 3 → Nat :=
  let c14_i32_716 : BitVec 32 := 14#32
  let v928 : Index := Scalar.indexCast c14_i32_716
  let c0_i32_370 : BitVec 32 := 0#32
  let c1_i32_371 : BitVec 32 := 1#32
  let arg18 : BitVec 32 := Scf.iv c0_i32_370 c1_i32_371 k0_t3
  let c0_i32_691 : BitVec 32 := 0#32
  let v713 : BitVec 1 := Scalar.cmpi .sgt arg18 c0_i32_691
  let v714 : BitVec 32 := Scalar.extui v713
  let c0_i32_692 : BitVec 32 := 0#32
  let v715 : BitVec 1 := Scalar.cmpi .slt arg18 c0_i32_692
  let v716 : BitVec 32 := Scalar.extui v715
  let v717 : BitVec 32 := Scalar.subi v714 v716
  let c14_i32_690 : BitVec 32 := 14#32
  let c0_i32_693 : BitVec 32 := 0#32
  let v718 : BitVec 1 := Scalar.cmpi .sgt c14_i32_690 c0_i32_693
  let v719 : BitVec 32 := Scalar.extui v718
  let c0_i32_694 : BitVec 32 := 0#32
  let v720 : BitVec 1 := Scalar.cmpi .slt c14_i32_690 c0_i32_694
  let v721 : BitVec 32 := Scalar.extui v720
  let v722 : BitVec 32 := Scalar.subi v719 v721
  let v723 : BitVec 1 := Scalar.cmpi .ne v717 v722
  let v724 : BitVec 32 := Scalar.remsi arg18 c14_i32_690
  let c0_i32_695 : BitVec 32 := 0#32
  let v725 : BitVec 1 := Scalar.cmpi .ne v724 c0_i32_695
  let v726 : BitVec 1 := Scalar.andi v723 v725
  let v712 : BitVec 32 := Scalar.divsi arg18 c14_i32_690
  let c1_i32_696 : BitVec 32 := 1#32
  let v727 : BitVec 32 := Scalar.subi v712 c1_i32_696
  let v728 : BitVec 32 := Scalar.select v726 v727 v712
  let v929 : Index := Scalar.indexCast v728
  let c14_i32_697 : BitVec 32 := 14#32
  let v729 : BitVec 32 := Scalar.muli v728 c14_i32_697
  let v730 : BitVec 32 := Scalar.subi arg18 v729
  let c16_i32_698 : BitVec 32 := 16#32
  let v731 : BitVec 32 := Scalar.muli v730 c16_i32_698
  let v930 : Index := Scalar.indexCast v731
  ![14, v929.toNat, v930.toNat]
def k0_off20 (k0_t3 : Fin k0_t3_loop.trips) : Fin 3 → Nat :=
  let c15_i32_717 : BitVec 32 := 15#32
  let v935 : Index := Scalar.indexCast c15_i32_717
  let c0_i32_370 : BitVec 32 := 0#32
  let c1_i32_371 : BitVec 32 := 1#32
  let arg18 : BitVec 32 := Scf.iv c0_i32_370 c1_i32_371 k0_t3
  let c0_i32_691 : BitVec 32 := 0#32
  let v713 : BitVec 1 := Scalar.cmpi .sgt arg18 c0_i32_691
  let v714 : BitVec 32 := Scalar.extui v713
  let c0_i32_692 : BitVec 32 := 0#32
  let v715 : BitVec 1 := Scalar.cmpi .slt arg18 c0_i32_692
  let v716 : BitVec 32 := Scalar.extui v715
  let v717 : BitVec 32 := Scalar.subi v714 v716
  let c14_i32_690 : BitVec 32 := 14#32
  let c0_i32_693 : BitVec 32 := 0#32
  let v718 : BitVec 1 := Scalar.cmpi .sgt c14_i32_690 c0_i32_693
  let v719 : BitVec 32 := Scalar.extui v718
  let c0_i32_694 : BitVec 32 := 0#32
  let v720 : BitVec 1 := Scalar.cmpi .slt c14_i32_690 c0_i32_694
  let v721 : BitVec 32 := Scalar.extui v720
  let v722 : BitVec 32 := Scalar.subi v719 v721
  let v723 : BitVec 1 := Scalar.cmpi .ne v717 v722
  let v724 : BitVec 32 := Scalar.remsi arg18 c14_i32_690
  let c0_i32_695 : BitVec 32 := 0#32
  let v725 : BitVec 1 := Scalar.cmpi .ne v724 c0_i32_695
  let v726 : BitVec 1 := Scalar.andi v723 v725
  let v712 : BitVec 32 := Scalar.divsi arg18 c14_i32_690
  let c1_i32_696 : BitVec 32 := 1#32
  let v727 : BitVec 32 := Scalar.subi v712 c1_i32_696
  let v728 : BitVec 32 := Scalar.select v726 v727 v712
  let v936 : Index := Scalar.indexCast v728
  let c14_i32_697 : BitVec 32 := 14#32
  let v729 : BitVec 32 := Scalar.muli v728 c14_i32_697
  let v730 : BitVec 32 := Scalar.subi arg18 v729
  let c16_i32_698 : BitVec 32 := 16#32
  let v731 : BitVec 32 := Scalar.muli v730 c16_i32_698
  let v937 : Index := Scalar.indexCast v731
  ![15, v936.toNat, v937.toNat]
def k0_off21 (i : grid0.Coords) (k0_t1 : Fin k0_t1_loop.trips) (k0_t2 : Fin k0_t2_loop.trips) (c0_i32_373 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_342 : BitVec 32 := 2#32
  let v260 : BitVec 32 := Scalar.muli v1 c2_i32_342
  let c0_i32_0 : BitVec 32 := 0#32
  let c1_i32 : BitVec 32 := 1#32
  let arg14 : BitVec 32 := Scf.iv c0_i32_0 c1_i32 k0_t1
  let v261 : BitVec 32 := Scalar.addi v260 arg14
  let c0_i32_344 : BitVec 32 := 0#32
  let v263 : BitVec 1 := Scalar.cmpi .sgt v261 c0_i32_344
  let v264 : BitVec 32 := Scalar.extui v263
  let c0_i32_345 : BitVec 32 := 0#32
  let v265 : BitVec 1 := Scalar.cmpi .slt v261 c0_i32_345
  let v266 : BitVec 32 := Scalar.extui v265
  let v267 : BitVec 32 := Scalar.subi v264 v266
  let c8_i32_343 : BitVec 32 := 8#32
  let c0_i32_346 : BitVec 32 := 0#32
  let v268 : BitVec 1 := Scalar.cmpi .sgt c8_i32_343 c0_i32_346
  let v269 : BitVec 32 := Scalar.extui v268
  let c0_i32_347 : BitVec 32 := 0#32
  let v270 : BitVec 1 := Scalar.cmpi .slt c8_i32_343 c0_i32_347
  let v271 : BitVec 32 := Scalar.extui v270
  let v272 : BitVec 32 := Scalar.subi v269 v271
  let v273 : BitVec 1 := Scalar.cmpi .ne v267 v272
  let v274 : BitVec 32 := Scalar.remsi v261 c8_i32_343
  let c0_i32_348 : BitVec 32 := 0#32
  let v275 : BitVec 1 := Scalar.cmpi .ne v274 c0_i32_348
  let v276 : BitVec 1 := Scalar.andi v273 v275
  let v262 : BitVec 32 := Scalar.divsi v261 c8_i32_343
  let c1_i32_349 : BitVec 32 := 1#32
  let v277 : BitVec 32 := Scalar.subi v262 c1_i32_349
  let v278 : BitVec 32 := Scalar.select v276 v277 v262
  let c8_i32_350 : BitVec 32 := 8#32
  let v279 : BitVec 32 := Scalar.remsi v261 c8_i32_350
  let c16_i32 : BitVec 32 := 16#32
  let v344 : BitVec 32 := Scalar.muli v279 c16_i32
  let v345 : BitVec 32 := Scalar.addi v344 c0_i32_373
  let c0_i32_352 : BitVec 32 := 0#32
  let c1_i32_354 : BitVec 32 := 1#32
  let arg16 : BitVec 32 := Scf.iv c0_i32_352 c1_i32_354 k0_t2
  let c2_i32_359 : BitVec 32 := 2#32
  let v286 : BitVec 32 := Scalar.muli arg16 c2_i32_359
  let c8_i32_360 : BitVec 32 := 8#32
  let v287 : BitVec 32 := Scalar.muli v286 c8_i32_360
  let c0_i32_377 : BitVec 32 := 0#32
  ![v278.toNat, v345.toNat, v287.toNat, 0]
@[reducible] def k0_t4_loop : Scf.Loop 32 :=
  let c0_i32_540 : BitVec 32 := 0#32
  let c112_i32_541 : BitVec 32 := 112#32
  let v550 : BitVec 32 := Scalar.addi c0_i32_540 c112_i32_541
  let c1_i32_542 : BitVec 32 := 1#32
  ⟨c0_i32_540, v550, c1_i32_542⟩
def k0_off22 (k0_t4 : Fin k0_t4_loop.trips) : Fin 2 → Nat :=
  let c0_i32_540 : BitVec 32 := 0#32
  let c1_i32_542 : BitVec 32 := 1#32
  let arg18 : BitVec 32 := Scf.iv c0_i32_540 c1_i32_542 k0_t4
  let c0_i32_691 : BitVec 32 := 0#32
  let v713 : BitVec 1 := Scalar.cmpi .sgt arg18 c0_i32_691
  let v714 : BitVec 32 := Scalar.extui v713
  let c0_i32_692 : BitVec 32 := 0#32
  let v715 : BitVec 1 := Scalar.cmpi .slt arg18 c0_i32_692
  let v716 : BitVec 32 := Scalar.extui v715
  let v717 : BitVec 32 := Scalar.subi v714 v716
  let c14_i32_690 : BitVec 32 := 14#32
  let c0_i32_693 : BitVec 32 := 0#32
  let v718 : BitVec 1 := Scalar.cmpi .sgt c14_i32_690 c0_i32_693
  let v719 : BitVec 32 := Scalar.extui v718
  let c0_i32_694 : BitVec 32 := 0#32
  let v720 : BitVec 1 := Scalar.cmpi .slt c14_i32_690 c0_i32_694
  let v721 : BitVec 32 := Scalar.extui v720
  let v722 : BitVec 32 := Scalar.subi v719 v721
  let v723 : BitVec 1 := Scalar.cmpi .ne v717 v722
  let v724 : BitVec 32 := Scalar.remsi arg18 c14_i32_690
  let c0_i32_695 : BitVec 32 := 0#32
  let v725 : BitVec 1 := Scalar.cmpi .ne v724 c0_i32_695
  let v726 : BitVec 1 := Scalar.andi v723 v725
  let v712 : BitVec 32 := Scalar.divsi arg18 c14_i32_690
  let c1_i32_696 : BitVec 32 := 1#32
  let v727 : BitVec 32 := Scalar.subi v712 c1_i32_696
  let v728 : BitVec 32 := Scalar.select v726 v727 v712
  let v732 : Index := Scalar.indexCast v728
  let c14_i32_697 : BitVec 32 := 14#32
  let v729 : BitVec 32 := Scalar.muli v728 c14_i32_697
  let v730 : BitVec 32 := Scalar.subi arg18 v729
  let c16_i32_698 : BitVec 32 := 16#32
  let v731 : BitVec 32 := Scalar.muli v730 c16_i32_698
  let v733 : Index := Scalar.indexCast v731
  ![v732.toNat, v733.toNat]
def k0_off23 (k0_t4 : Fin k0_t4_loop.trips) : Fin 3 → Nat :=
  let c0_i32_702 : BitVec 32 := 0#32
  let v830 : Index := Scalar.indexCast c0_i32_702
  let c0_i32_540 : BitVec 32 := 0#32
  let c1_i32_542 : BitVec 32 := 1#32
  let arg18 : BitVec 32 := Scf.iv c0_i32_540 c1_i32_542 k0_t4
  let c0_i32_691 : BitVec 32 := 0#32
  let v713 : BitVec 1 := Scalar.cmpi .sgt arg18 c0_i32_691
  let v714 : BitVec 32 := Scalar.extui v713
  let c0_i32_692 : BitVec 32 := 0#32
  let v715 : BitVec 1 := Scalar.cmpi .slt arg18 c0_i32_692
  let v716 : BitVec 32 := Scalar.extui v715
  let v717 : BitVec 32 := Scalar.subi v714 v716
  let c14_i32_690 : BitVec 32 := 14#32
  let c0_i32_693 : BitVec 32 := 0#32
  let v718 : BitVec 1 := Scalar.cmpi .sgt c14_i32_690 c0_i32_693
  let v719 : BitVec 32 := Scalar.extui v718
  let c0_i32_694 : BitVec 32 := 0#32
  let v720 : BitVec 1 := Scalar.cmpi .slt c14_i32_690 c0_i32_694
  let v721 : BitVec 32 := Scalar.extui v720
  let v722 : BitVec 32 := Scalar.subi v719 v721
  let v723 : BitVec 1 := Scalar.cmpi .ne v717 v722
  let v724 : BitVec 32 := Scalar.remsi arg18 c14_i32_690
  let c0_i32_695 : BitVec 32 := 0#32
  let v725 : BitVec 1 := Scalar.cmpi .ne v724 c0_i32_695
  let v726 : BitVec 1 := Scalar.andi v723 v725
  let v712 : BitVec 32 := Scalar.divsi arg18 c14_i32_690
  let c1_i32_696 : BitVec 32 := 1#32
  let v727 : BitVec 32 := Scalar.subi v712 c1_i32_696
  let v728 : BitVec 32 := Scalar.select v726 v727 v712
  let v831 : Index := Scalar.indexCast v728
  let c14_i32_697 : BitVec 32 := 14#32
  let v729 : BitVec 32 := Scalar.muli v728 c14_i32_697
  let v730 : BitVec 32 := Scalar.subi arg18 v729
  let c16_i32_698 : BitVec 32 := 16#32
  let v731 : BitVec 32 := Scalar.muli v730 c16_i32_698
  let v832 : Index := Scalar.indexCast v731
  ![0, v831.toNat, v832.toNat]
def k0_off24 (k0_t4 : Fin k0_t4_loop.trips) : Fin 3 → Nat :=
  let c1_i32_703 : BitVec 32 := 1#32
  let v837 : Index := Scalar.indexCast c1_i32_703
  let c0_i32_540 : BitVec 32 := 0#32
  let c1_i32_542 : BitVec 32 := 1#32
  let arg18 : BitVec 32 := Scf.iv c0_i32_540 c1_i32_542 k0_t4
  let c0_i32_691 : BitVec 32 := 0#32
  let v713 : BitVec 1 := Scalar.cmpi .sgt arg18 c0_i32_691
  let v714 : BitVec 32 := Scalar.extui v713
  let c0_i32_692 : BitVec 32 := 0#32
  let v715 : BitVec 1 := Scalar.cmpi .slt arg18 c0_i32_692
  let v716 : BitVec 32 := Scalar.extui v715
  let v717 : BitVec 32 := Scalar.subi v714 v716
  let c14_i32_690 : BitVec 32 := 14#32
  let c0_i32_693 : BitVec 32 := 0#32
  let v718 : BitVec 1 := Scalar.cmpi .sgt c14_i32_690 c0_i32_693
  let v719 : BitVec 32 := Scalar.extui v718
  let c0_i32_694 : BitVec 32 := 0#32
  let v720 : BitVec 1 := Scalar.cmpi .slt c14_i32_690 c0_i32_694
  let v721 : BitVec 32 := Scalar.extui v720
  let v722 : BitVec 32 := Scalar.subi v719 v721
  let v723 : BitVec 1 := Scalar.cmpi .ne v717 v722
  let v724 : BitVec 32 := Scalar.remsi arg18 c14_i32_690
  let c0_i32_695 : BitVec 32 := 0#32
  let v725 : BitVec 1 := Scalar.cmpi .ne v724 c0_i32_695
  let v726 : BitVec 1 := Scalar.andi v723 v725
  let v712 : BitVec 32 := Scalar.divsi arg18 c14_i32_690
  let c1_i32_696 : BitVec 32 := 1#32
  let v727 : BitVec 32 := Scalar.subi v712 c1_i32_696
  let v728 : BitVec 32 := Scalar.select v726 v727 v712
  let v838 : Index := Scalar.indexCast v728
  let c14_i32_697 : BitVec 32 := 14#32
  let v729 : BitVec 32 := Scalar.muli v728 c14_i32_697
  let v730 : BitVec 32 := Scalar.subi arg18 v729
  let c16_i32_698 : BitVec 32 := 16#32
  let v731 : BitVec 32 := Scalar.muli v730 c16_i32_698
  let v839 : Index := Scalar.indexCast v731
  ![1, v838.toNat, v839.toNat]
def k0_off25 (k0_t4 : Fin k0_t4_loop.trips) : Fin 3 → Nat :=
  let c2_i32_704 : BitVec 32 := 2#32
  let v844 : Index := Scalar.indexCast c2_i32_704
  let c0_i32_540 : BitVec 32 := 0#32
  let c1_i32_542 : BitVec 32 := 1#32
  let arg18 : BitVec 32 := Scf.iv c0_i32_540 c1_i32_542 k0_t4
  let c0_i32_691 : BitVec 32 := 0#32
  let v713 : BitVec 1 := Scalar.cmpi .sgt arg18 c0_i32_691
  let v714 : BitVec 32 := Scalar.extui v713
  let c0_i32_692 : BitVec 32 := 0#32
  let v715 : BitVec 1 := Scalar.cmpi .slt arg18 c0_i32_692
  let v716 : BitVec 32 := Scalar.extui v715
  let v717 : BitVec 32 := Scalar.subi v714 v716
  let c14_i32_690 : BitVec 32 := 14#32
  let c0_i32_693 : BitVec 32 := 0#32
  let v718 : BitVec 1 := Scalar.cmpi .sgt c14_i32_690 c0_i32_693
  let v719 : BitVec 32 := Scalar.extui v718
  let c0_i32_694 : BitVec 32 := 0#32
  let v720 : BitVec 1 := Scalar.cmpi .slt c14_i32_690 c0_i32_694
  let v721 : BitVec 32 := Scalar.extui v720
  let v722 : BitVec 32 := Scalar.subi v719 v721
  let v723 : BitVec 1 := Scalar.cmpi .ne v717 v722
  let v724 : BitVec 32 := Scalar.remsi arg18 c14_i32_690
  let c0_i32_695 : BitVec 32 := 0#32
  let v725 : BitVec 1 := Scalar.cmpi .ne v724 c0_i32_695
  let v726 : BitVec 1 := Scalar.andi v723 v725
  let v712 : BitVec 32 := Scalar.divsi arg18 c14_i32_690
  let c1_i32_696 : BitVec 32 := 1#32
  let v727 : BitVec 32 := Scalar.subi v712 c1_i32_696
  let v728 : BitVec 32 := Scalar.select v726 v727 v712
  let v845 : Index := Scalar.indexCast v728
  let c14_i32_697 : BitVec 32 := 14#32
  let v729 : BitVec 32 := Scalar.muli v728 c14_i32_697
  let v730 : BitVec 32 := Scalar.subi arg18 v729
  let c16_i32_698 : BitVec 32 := 16#32
  let v731 : BitVec 32 := Scalar.muli v730 c16_i32_698
  let v846 : Index := Scalar.indexCast v731
  ![2, v845.toNat, v846.toNat]
def k0_off26 (k0_t4 : Fin k0_t4_loop.trips) : Fin 3 → Nat :=
  let c3_i32_705 : BitVec 32 := 3#32
  let v851 : Index := Scalar.indexCast c3_i32_705
  let c0_i32_540 : BitVec 32 := 0#32
  let c1_i32_542 : BitVec 32 := 1#32
  let arg18 : BitVec 32 := Scf.iv c0_i32_540 c1_i32_542 k0_t4
  let c0_i32_691 : BitVec 32 := 0#32
  let v713 : BitVec 1 := Scalar.cmpi .sgt arg18 c0_i32_691
  let v714 : BitVec 32 := Scalar.extui v713
  let c0_i32_692 : BitVec 32 := 0#32
  let v715 : BitVec 1 := Scalar.cmpi .slt arg18 c0_i32_692
  let v716 : BitVec 32 := Scalar.extui v715
  let v717 : BitVec 32 := Scalar.subi v714 v716
  let c14_i32_690 : BitVec 32 := 14#32
  let c0_i32_693 : BitVec 32 := 0#32
  let v718 : BitVec 1 := Scalar.cmpi .sgt c14_i32_690 c0_i32_693
  let v719 : BitVec 32 := Scalar.extui v718
  let c0_i32_694 : BitVec 32 := 0#32
  let v720 : BitVec 1 := Scalar.cmpi .slt c14_i32_690 c0_i32_694
  let v721 : BitVec 32 := Scalar.extui v720
  let v722 : BitVec 32 := Scalar.subi v719 v721
  let v723 : BitVec 1 := Scalar.cmpi .ne v717 v722
  let v724 : BitVec 32 := Scalar.remsi arg18 c14_i32_690
  let c0_i32_695 : BitVec 32 := 0#32
  let v725 : BitVec 1 := Scalar.cmpi .ne v724 c0_i32_695
  let v726 : BitVec 1 := Scalar.andi v723 v725
  let v712 : BitVec 32 := Scalar.divsi arg18 c14_i32_690
  let c1_i32_696 : BitVec 32 := 1#32
  let v727 : BitVec 32 := Scalar.subi v712 c1_i32_696
  let v728 : BitVec 32 := Scalar.select v726 v727 v712
  let v852 : Index := Scalar.indexCast v728
  let c14_i32_697 : BitVec 32 := 14#32
  let v729 : BitVec 32 := Scalar.muli v728 c14_i32_697
  let v730 : BitVec 32 := Scalar.subi arg18 v729
  let c16_i32_698 : BitVec 32 := 16#32
  let v731 : BitVec 32 := Scalar.muli v730 c16_i32_698
  let v853 : Index := Scalar.indexCast v731
  ![3, v852.toNat, v853.toNat]
def k0_off27 (k0_t4 : Fin k0_t4_loop.trips) : Fin 3 → Nat :=
  let c4_i32_706 : BitVec 32 := 4#32
  let v858 : Index := Scalar.indexCast c4_i32_706
  let c0_i32_540 : BitVec 32 := 0#32
  let c1_i32_542 : BitVec 32 := 1#32
  let arg18 : BitVec 32 := Scf.iv c0_i32_540 c1_i32_542 k0_t4
  let c0_i32_691 : BitVec 32 := 0#32
  let v713 : BitVec 1 := Scalar.cmpi .sgt arg18 c0_i32_691
  let v714 : BitVec 32 := Scalar.extui v713
  let c0_i32_692 : BitVec 32 := 0#32
  let v715 : BitVec 1 := Scalar.cmpi .slt arg18 c0_i32_692
  let v716 : BitVec 32 := Scalar.extui v715
  let v717 : BitVec 32 := Scalar.subi v714 v716
  let c14_i32_690 : BitVec 32 := 14#32
  let c0_i32_693 : BitVec 32 := 0#32
  let v718 : BitVec 1 := Scalar.cmpi .sgt c14_i32_690 c0_i32_693
  let v719 : BitVec 32 := Scalar.extui v718
  let c0_i32_694 : BitVec 32 := 0#32
  let v720 : BitVec 1 := Scalar.cmpi .slt c14_i32_690 c0_i32_694
  let v721 : BitVec 32 := Scalar.extui v720
  let v722 : BitVec 32 := Scalar.subi v719 v721
  let v723 : BitVec 1 := Scalar.cmpi .ne v717 v722
  let v724 : BitVec 32 := Scalar.remsi arg18 c14_i32_690
  let c0_i32_695 : BitVec 32 := 0#32
  let v725 : BitVec 1 := Scalar.cmpi .ne v724 c0_i32_695
  let v726 : BitVec 1 := Scalar.andi v723 v725
  let v712 : BitVec 32 := Scalar.divsi arg18 c14_i32_690
  let c1_i32_696 : BitVec 32 := 1#32
  let v727 : BitVec 32 := Scalar.subi v712 c1_i32_696
  let v728 : BitVec 32 := Scalar.select v726 v727 v712
  let v859 : Index := Scalar.indexCast v728
  let c14_i32_697 : BitVec 32 := 14#32
  let v729 : BitVec 32 := Scalar.muli v728 c14_i32_697
  let v730 : BitVec 32 := Scalar.subi arg18 v729
  let c16_i32_698 : BitVec 32 := 16#32
  let v731 : BitVec 32 := Scalar.muli v730 c16_i32_698
  let v860 : Index := Scalar.indexCast v731
  ![4, v859.toNat, v860.toNat]
def k0_off28 (k0_t4 : Fin k0_t4_loop.trips) : Fin 3 → Nat :=
  let c5_i32_707 : BitVec 32 := 5#32
  let v865 : Index := Scalar.indexCast c5_i32_707
  let c0_i32_540 : BitVec 32 := 0#32
  let c1_i32_542 : BitVec 32 := 1#32
  let arg18 : BitVec 32 := Scf.iv c0_i32_540 c1_i32_542 k0_t4
  let c0_i32_691 : BitVec 32 := 0#32
  let v713 : BitVec 1 := Scalar.cmpi .sgt arg18 c0_i32_691
  let v714 : BitVec 32 := Scalar.extui v713
  let c0_i32_692 : BitVec 32 := 0#32
  let v715 : BitVec 1 := Scalar.cmpi .slt arg18 c0_i32_692
  let v716 : BitVec 32 := Scalar.extui v715
  let v717 : BitVec 32 := Scalar.subi v714 v716
  let c14_i32_690 : BitVec 32 := 14#32
  let c0_i32_693 : BitVec 32 := 0#32
  let v718 : BitVec 1 := Scalar.cmpi .sgt c14_i32_690 c0_i32_693
  let v719 : BitVec 32 := Scalar.extui v718
  let c0_i32_694 : BitVec 32 := 0#32
  let v720 : BitVec 1 := Scalar.cmpi .slt c14_i32_690 c0_i32_694
  let v721 : BitVec 32 := Scalar.extui v720
  let v722 : BitVec 32 := Scalar.subi v719 v721
  let v723 : BitVec 1 := Scalar.cmpi .ne v717 v722
  let v724 : BitVec 32 := Scalar.remsi arg18 c14_i32_690
  let c0_i32_695 : BitVec 32 := 0#32
  let v725 : BitVec 1 := Scalar.cmpi .ne v724 c0_i32_695
  let v726 : BitVec 1 := Scalar.andi v723 v725
  let v712 : BitVec 32 := Scalar.divsi arg18 c14_i32_690
  let c1_i32_696 : BitVec 32 := 1#32
  let v727 : BitVec 32 := Scalar.subi v712 c1_i32_696
  let v728 : BitVec 32 := Scalar.select v726 v727 v712
  let v866 : Index := Scalar.indexCast v728
  let c14_i32_697 : BitVec 32 := 14#32
  let v729 : BitVec 32 := Scalar.muli v728 c14_i32_697
  let v730 : BitVec 32 := Scalar.subi arg18 v729
  let c16_i32_698 : BitVec 32 := 16#32
  let v731 : BitVec 32 := Scalar.muli v730 c16_i32_698
  let v867 : Index := Scalar.indexCast v731
  ![5, v866.toNat, v867.toNat]
def k0_off29 (k0_t4 : Fin k0_t4_loop.trips) : Fin 3 → Nat :=
  let c6_i32_708 : BitVec 32 := 6#32
  let v872 : Index := Scalar.indexCast c6_i32_708
  let c0_i32_540 : BitVec 32 := 0#32
  let c1_i32_542 : BitVec 32 := 1#32
  let arg18 : BitVec 32 := Scf.iv c0_i32_540 c1_i32_542 k0_t4
  let c0_i32_691 : BitVec 32 := 0#32
  let v713 : BitVec 1 := Scalar.cmpi .sgt arg18 c0_i32_691
  let v714 : BitVec 32 := Scalar.extui v713
  let c0_i32_692 : BitVec 32 := 0#32
  let v715 : BitVec 1 := Scalar.cmpi .slt arg18 c0_i32_692
  let v716 : BitVec 32 := Scalar.extui v715
  let v717 : BitVec 32 := Scalar.subi v714 v716
  let c14_i32_690 : BitVec 32 := 14#32
  let c0_i32_693 : BitVec 32 := 0#32
  let v718 : BitVec 1 := Scalar.cmpi .sgt c14_i32_690 c0_i32_693
  let v719 : BitVec 32 := Scalar.extui v718
  let c0_i32_694 : BitVec 32 := 0#32
  let v720 : BitVec 1 := Scalar.cmpi .slt c14_i32_690 c0_i32_694
  let v721 : BitVec 32 := Scalar.extui v720
  let v722 : BitVec 32 := Scalar.subi v719 v721
  let v723 : BitVec 1 := Scalar.cmpi .ne v717 v722
  let v724 : BitVec 32 := Scalar.remsi arg18 c14_i32_690
  let c0_i32_695 : BitVec 32 := 0#32
  let v725 : BitVec 1 := Scalar.cmpi .ne v724 c0_i32_695
  let v726 : BitVec 1 := Scalar.andi v723 v725
  let v712 : BitVec 32 := Scalar.divsi arg18 c14_i32_690
  let c1_i32_696 : BitVec 32 := 1#32
  let v727 : BitVec 32 := Scalar.subi v712 c1_i32_696
  let v728 : BitVec 32 := Scalar.select v726 v727 v712
  let v873 : Index := Scalar.indexCast v728
  let c14_i32_697 : BitVec 32 := 14#32
  let v729 : BitVec 32 := Scalar.muli v728 c14_i32_697
  let v730 : BitVec 32 := Scalar.subi arg18 v729
  let c16_i32_698 : BitVec 32 := 16#32
  let v731 : BitVec 32 := Scalar.muli v730 c16_i32_698
  let v874 : Index := Scalar.indexCast v731
  ![6, v873.toNat, v874.toNat]
def k0_off30 (k0_t4 : Fin k0_t4_loop.trips) : Fin 3 → Nat :=
  let c7_i32_709 : BitVec 32 := 7#32
  let v879 : Index := Scalar.indexCast c7_i32_709
  let c0_i32_540 : BitVec 32 := 0#32
  let c1_i32_542 : BitVec 32 := 1#32
  let arg18 : BitVec 32 := Scf.iv c0_i32_540 c1_i32_542 k0_t4
  let c0_i32_691 : BitVec 32 := 0#32
  let v713 : BitVec 1 := Scalar.cmpi .sgt arg18 c0_i32_691
  let v714 : BitVec 32 := Scalar.extui v713
  let c0_i32_692 : BitVec 32 := 0#32
  let v715 : BitVec 1 := Scalar.cmpi .slt arg18 c0_i32_692
  let v716 : BitVec 32 := Scalar.extui v715
  let v717 : BitVec 32 := Scalar.subi v714 v716
  let c14_i32_690 : BitVec 32 := 14#32
  let c0_i32_693 : BitVec 32 := 0#32
  let v718 : BitVec 1 := Scalar.cmpi .sgt c14_i32_690 c0_i32_693
  let v719 : BitVec 32 := Scalar.extui v718
  let c0_i32_694 : BitVec 32 := 0#32
  let v720 : BitVec 1 := Scalar.cmpi .slt c14_i32_690 c0_i32_694
  let v721 : BitVec 32 := Scalar.extui v720
  let v722 : BitVec 32 := Scalar.subi v719 v721
  let v723 : BitVec 1 := Scalar.cmpi .ne v717 v722
  let v724 : BitVec 32 := Scalar.remsi arg18 c14_i32_690
  let c0_i32_695 : BitVec 32 := 0#32
  let v725 : BitVec 1 := Scalar.cmpi .ne v724 c0_i32_695
  let v726 : BitVec 1 := Scalar.andi v723 v725
  let v712 : BitVec 32 := Scalar.divsi arg18 c14_i32_690
  let c1_i32_696 : BitVec 32 := 1#32
  let v727 : BitVec 32 := Scalar.subi v712 c1_i32_696
  let v728 : BitVec 32 := Scalar.select v726 v727 v712
  let v880 : Index := Scalar.indexCast v728
  let c14_i32_697 : BitVec 32 := 14#32
  let v729 : BitVec 32 := Scalar.muli v728 c14_i32_697
  let v730 : BitVec 32 := Scalar.subi arg18 v729
  let c16_i32_698 : BitVec 32 := 16#32
  let v731 : BitVec 32 := Scalar.muli v730 c16_i32_698
  let v881 : Index := Scalar.indexCast v731
  ![7, v880.toNat, v881.toNat]
def k0_off31 (k0_t4 : Fin k0_t4_loop.trips) : Fin 3 → Nat :=
  let c8_i32_710 : BitVec 32 := 8#32
  let v886 : Index := Scalar.indexCast c8_i32_710
  let c0_i32_540 : BitVec 32 := 0#32
  let c1_i32_542 : BitVec 32 := 1#32
  let arg18 : BitVec 32 := Scf.iv c0_i32_540 c1_i32_542 k0_t4
  let c0_i32_691 : BitVec 32 := 0#32
  let v713 : BitVec 1 := Scalar.cmpi .sgt arg18 c0_i32_691
  let v714 : BitVec 32 := Scalar.extui v713
  let c0_i32_692 : BitVec 32 := 0#32
  let v715 : BitVec 1 := Scalar.cmpi .slt arg18 c0_i32_692
  let v716 : BitVec 32 := Scalar.extui v715
  let v717 : BitVec 32 := Scalar.subi v714 v716
  let c14_i32_690 : BitVec 32 := 14#32
  let c0_i32_693 : BitVec 32 := 0#32
  let v718 : BitVec 1 := Scalar.cmpi .sgt c14_i32_690 c0_i32_693
  let v719 : BitVec 32 := Scalar.extui v718
  let c0_i32_694 : BitVec 32 := 0#32
  let v720 : BitVec 1 := Scalar.cmpi .slt c14_i32_690 c0_i32_694
  let v721 : BitVec 32 := Scalar.extui v720
  let v722 : BitVec 32 := Scalar.subi v719 v721
  let v723 : BitVec 1 := Scalar.cmpi .ne v717 v722
  let v724 : BitVec 32 := Scalar.remsi arg18 c14_i32_690
  let c0_i32_695 : BitVec 32 := 0#32
  let v725 : BitVec 1 := Scalar.cmpi .ne v724 c0_i32_695
  let v726 : BitVec 1 := Scalar.andi v723 v725
  let v712 : BitVec 32 := Scalar.divsi arg18 c14_i32_690
  let c1_i32_696 : BitVec 32 := 1#32
  let v727 : BitVec 32 := Scalar.subi v712 c1_i32_696
  let v728 : BitVec 32 := Scalar.select v726 v727 v712
  let v887 : Index := Scalar.indexCast v728
  let c14_i32_697 : BitVec 32 := 14#32
  let v729 : BitVec 32 := Scalar.muli v728 c14_i32_697
  let v730 : BitVec 32 := Scalar.subi arg18 v729
  let c16_i32_698 : BitVec 32 := 16#32
  let v731 : BitVec 32 := Scalar.muli v730 c16_i32_698
  let v888 : Index := Scalar.indexCast v731
  ![8, v887.toNat, v888.toNat]
def k0_off32 (k0_t4 : Fin k0_t4_loop.trips) : Fin 3 → Nat :=
  let c9_i32_711 : BitVec 32 := 9#32
  let v893 : Index := Scalar.indexCast c9_i32_711
  let c0_i32_540 : BitVec 32 := 0#32
  let c1_i32_542 : BitVec 32 := 1#32
  let arg18 : BitVec 32 := Scf.iv c0_i32_540 c1_i32_542 k0_t4
  let c0_i32_691 : BitVec 32 := 0#32
  let v713 : BitVec 1 := Scalar.cmpi .sgt arg18 c0_i32_691
  let v714 : BitVec 32 := Scalar.extui v713
  let c0_i32_692 : BitVec 32 := 0#32
  let v715 : BitVec 1 := Scalar.cmpi .slt arg18 c0_i32_692
  let v716 : BitVec 32 := Scalar.extui v715
  let v717 : BitVec 32 := Scalar.subi v714 v716
  let c14_i32_690 : BitVec 32 := 14#32
  let c0_i32_693 : BitVec 32 := 0#32
  let v718 : BitVec 1 := Scalar.cmpi .sgt c14_i32_690 c0_i32_693
  let v719 : BitVec 32 := Scalar.extui v718
  let c0_i32_694 : BitVec 32 := 0#32
  let v720 : BitVec 1 := Scalar.cmpi .slt c14_i32_690 c0_i32_694
  let v721 : BitVec 32 := Scalar.extui v720
  let v722 : BitVec 32 := Scalar.subi v719 v721
  let v723 : BitVec 1 := Scalar.cmpi .ne v717 v722
  let v724 : BitVec 32 := Scalar.remsi arg18 c14_i32_690
  let c0_i32_695 : BitVec 32 := 0#32
  let v725 : BitVec 1 := Scalar.cmpi .ne v724 c0_i32_695
  let v726 : BitVec 1 := Scalar.andi v723 v725
  let v712 : BitVec 32 := Scalar.divsi arg18 c14_i32_690
  let c1_i32_696 : BitVec 32 := 1#32
  let v727 : BitVec 32 := Scalar.subi v712 c1_i32_696
  let v728 : BitVec 32 := Scalar.select v726 v727 v712
  let v894 : Index := Scalar.indexCast v728
  let c14_i32_697 : BitVec 32 := 14#32
  let v729 : BitVec 32 := Scalar.muli v728 c14_i32_697
  let v730 : BitVec 32 := Scalar.subi arg18 v729
  let c16_i32_698 : BitVec 32 := 16#32
  let v731 : BitVec 32 := Scalar.muli v730 c16_i32_698
  let v895 : Index := Scalar.indexCast v731
  ![9, v894.toNat, v895.toNat]
def k0_off33 (k0_t4 : Fin k0_t4_loop.trips) : Fin 3 → Nat :=
  let c10_i32_712 : BitVec 32 := 10#32
  let v900 : Index := Scalar.indexCast c10_i32_712
  let c0_i32_540 : BitVec 32 := 0#32
  let c1_i32_542 : BitVec 32 := 1#32
  let arg18 : BitVec 32 := Scf.iv c0_i32_540 c1_i32_542 k0_t4
  let c0_i32_691 : BitVec 32 := 0#32
  let v713 : BitVec 1 := Scalar.cmpi .sgt arg18 c0_i32_691
  let v714 : BitVec 32 := Scalar.extui v713
  let c0_i32_692 : BitVec 32 := 0#32
  let v715 : BitVec 1 := Scalar.cmpi .slt arg18 c0_i32_692
  let v716 : BitVec 32 := Scalar.extui v715
  let v717 : BitVec 32 := Scalar.subi v714 v716
  let c14_i32_690 : BitVec 32 := 14#32
  let c0_i32_693 : BitVec 32 := 0#32
  let v718 : BitVec 1 := Scalar.cmpi .sgt c14_i32_690 c0_i32_693
  let v719 : BitVec 32 := Scalar.extui v718
  let c0_i32_694 : BitVec 32 := 0#32
  let v720 : BitVec 1 := Scalar.cmpi .slt c14_i32_690 c0_i32_694
  let v721 : BitVec 32 := Scalar.extui v720
  let v722 : BitVec 32 := Scalar.subi v719 v721
  let v723 : BitVec 1 := Scalar.cmpi .ne v717 v722
  let v724 : BitVec 32 := Scalar.remsi arg18 c14_i32_690
  let c0_i32_695 : BitVec 32 := 0#32
  let v725 : BitVec 1 := Scalar.cmpi .ne v724 c0_i32_695
  let v726 : BitVec 1 := Scalar.andi v723 v725
  let v712 : BitVec 32 := Scalar.divsi arg18 c14_i32_690
  let c1_i32_696 : BitVec 32 := 1#32
  let v727 : BitVec 32 := Scalar.subi v712 c1_i32_696
  let v728 : BitVec 32 := Scalar.select v726 v727 v712
  let v901 : Index := Scalar.indexCast v728
  let c14_i32_697 : BitVec 32 := 14#32
  let v729 : BitVec 32 := Scalar.muli v728 c14_i32_697
  let v730 : BitVec 32 := Scalar.subi arg18 v729
  let c16_i32_698 : BitVec 32 := 16#32
  let v731 : BitVec 32 := Scalar.muli v730 c16_i32_698
  let v902 : Index := Scalar.indexCast v731
  ![10, v901.toNat, v902.toNat]
def k0_off34 (k0_t4 : Fin k0_t4_loop.trips) : Fin 3 → Nat :=
  let c11_i32_713 : BitVec 32 := 11#32
  let v907 : Index := Scalar.indexCast c11_i32_713
  let c0_i32_540 : BitVec 32 := 0#32
  let c1_i32_542 : BitVec 32 := 1#32
  let arg18 : BitVec 32 := Scf.iv c0_i32_540 c1_i32_542 k0_t4
  let c0_i32_691 : BitVec 32 := 0#32
  let v713 : BitVec 1 := Scalar.cmpi .sgt arg18 c0_i32_691
  let v714 : BitVec 32 := Scalar.extui v713
  let c0_i32_692 : BitVec 32 := 0#32
  let v715 : BitVec 1 := Scalar.cmpi .slt arg18 c0_i32_692
  let v716 : BitVec 32 := Scalar.extui v715
  let v717 : BitVec 32 := Scalar.subi v714 v716
  let c14_i32_690 : BitVec 32 := 14#32
  let c0_i32_693 : BitVec 32 := 0#32
  let v718 : BitVec 1 := Scalar.cmpi .sgt c14_i32_690 c0_i32_693
  let v719 : BitVec 32 := Scalar.extui v718
  let c0_i32_694 : BitVec 32 := 0#32
  let v720 : BitVec 1 := Scalar.cmpi .slt c14_i32_690 c0_i32_694
  let v721 : BitVec 32 := Scalar.extui v720
  let v722 : BitVec 32 := Scalar.subi v719 v721
  let v723 : BitVec 1 := Scalar.cmpi .ne v717 v722
  let v724 : BitVec 32 := Scalar.remsi arg18 c14_i32_690
  let c0_i32_695 : BitVec 32 := 0#32
  let v725 : BitVec 1 := Scalar.cmpi .ne v724 c0_i32_695
  let v726 : BitVec 1 := Scalar.andi v723 v725
  let v712 : BitVec 32 := Scalar.divsi arg18 c14_i32_690
  let c1_i32_696 : BitVec 32 := 1#32
  let v727 : BitVec 32 := Scalar.subi v712 c1_i32_696
  let v728 : BitVec 32 := Scalar.select v726 v727 v712
  let v908 : Index := Scalar.indexCast v728
  let c14_i32_697 : BitVec 32 := 14#32
  let v729 : BitVec 32 := Scalar.muli v728 c14_i32_697
  let v730 : BitVec 32 := Scalar.subi arg18 v729
  let c16_i32_698 : BitVec 32 := 16#32
  let v731 : BitVec 32 := Scalar.muli v730 c16_i32_698
  let v909 : Index := Scalar.indexCast v731
  ![11, v908.toNat, v909.toNat]
def k0_off35 (k0_t4 : Fin k0_t4_loop.trips) : Fin 3 → Nat :=
  let c12_i32_714 : BitVec 32 := 12#32
  let v914 : Index := Scalar.indexCast c12_i32_714
  let c0_i32_540 : BitVec 32 := 0#32
  let c1_i32_542 : BitVec 32 := 1#32
  let arg18 : BitVec 32 := Scf.iv c0_i32_540 c1_i32_542 k0_t4
  let c0_i32_691 : BitVec 32 := 0#32
  let v713 : BitVec 1 := Scalar.cmpi .sgt arg18 c0_i32_691
  let v714 : BitVec 32 := Scalar.extui v713
  let c0_i32_692 : BitVec 32 := 0#32
  let v715 : BitVec 1 := Scalar.cmpi .slt arg18 c0_i32_692
  let v716 : BitVec 32 := Scalar.extui v715
  let v717 : BitVec 32 := Scalar.subi v714 v716
  let c14_i32_690 : BitVec 32 := 14#32
  let c0_i32_693 : BitVec 32 := 0#32
  let v718 : BitVec 1 := Scalar.cmpi .sgt c14_i32_690 c0_i32_693
  let v719 : BitVec 32 := Scalar.extui v718
  let c0_i32_694 : BitVec 32 := 0#32
  let v720 : BitVec 1 := Scalar.cmpi .slt c14_i32_690 c0_i32_694
  let v721 : BitVec 32 := Scalar.extui v720
  let v722 : BitVec 32 := Scalar.subi v719 v721
  let v723 : BitVec 1 := Scalar.cmpi .ne v717 v722
  let v724 : BitVec 32 := Scalar.remsi arg18 c14_i32_690
  let c0_i32_695 : BitVec 32 := 0#32
  let v725 : BitVec 1 := Scalar.cmpi .ne v724 c0_i32_695
  let v726 : BitVec 1 := Scalar.andi v723 v725
  let v712 : BitVec 32 := Scalar.divsi arg18 c14_i32_690
  let c1_i32_696 : BitVec 32 := 1#32
  let v727 : BitVec 32 := Scalar.subi v712 c1_i32_696
  let v728 : BitVec 32 := Scalar.select v726 v727 v712
  let v915 : Index := Scalar.indexCast v728
  let c14_i32_697 : BitVec 32 := 14#32
  let v729 : BitVec 32 := Scalar.muli v728 c14_i32_697
  let v730 : BitVec 32 := Scalar.subi arg18 v729
  let c16_i32_698 : BitVec 32 := 16#32
  let v731 : BitVec 32 := Scalar.muli v730 c16_i32_698
  let v916 : Index := Scalar.indexCast v731
  ![12, v915.toNat, v916.toNat]
def k0_off36 (k0_t4 : Fin k0_t4_loop.trips) : Fin 3 → Nat :=
  let c13_i32_715 : BitVec 32 := 13#32
  let v921 : Index := Scalar.indexCast c13_i32_715
  let c0_i32_540 : BitVec 32 := 0#32
  let c1_i32_542 : BitVec 32 := 1#32
  let arg18 : BitVec 32 := Scf.iv c0_i32_540 c1_i32_542 k0_t4
  let c0_i32_691 : BitVec 32 := 0#32
  let v713 : BitVec 1 := Scalar.cmpi .sgt arg18 c0_i32_691
  let v714 : BitVec 32 := Scalar.extui v713
  let c0_i32_692 : BitVec 32 := 0#32
  let v715 : BitVec 1 := Scalar.cmpi .slt arg18 c0_i32_692
  let v716 : BitVec 32 := Scalar.extui v715
  let v717 : BitVec 32 := Scalar.subi v714 v716
  let c14_i32_690 : BitVec 32 := 14#32
  let c0_i32_693 : BitVec 32 := 0#32
  let v718 : BitVec 1 := Scalar.cmpi .sgt c14_i32_690 c0_i32_693
  let v719 : BitVec 32 := Scalar.extui v718
  let c0_i32_694 : BitVec 32 := 0#32
  let v720 : BitVec 1 := Scalar.cmpi .slt c14_i32_690 c0_i32_694
  let v721 : BitVec 32 := Scalar.extui v720
  let v722 : BitVec 32 := Scalar.subi v719 v721
  let v723 : BitVec 1 := Scalar.cmpi .ne v717 v722
  let v724 : BitVec 32 := Scalar.remsi arg18 c14_i32_690
  let c0_i32_695 : BitVec 32 := 0#32
  let v725 : BitVec 1 := Scalar.cmpi .ne v724 c0_i32_695
  let v726 : BitVec 1 := Scalar.andi v723 v725
  let v712 : BitVec 32 := Scalar.divsi arg18 c14_i32_690
  let c1_i32_696 : BitVec 32 := 1#32
  let v727 : BitVec 32 := Scalar.subi v712 c1_i32_696
  let v728 : BitVec 32 := Scalar.select v726 v727 v712
  let v922 : Index := Scalar.indexCast v728
  let c14_i32_697 : BitVec 32 := 14#32
  let v729 : BitVec 32 := Scalar.muli v728 c14_i32_697
  let v730 : BitVec 32 := Scalar.subi arg18 v729
  let c16_i32_698 : BitVec 32 := 16#32
  let v731 : BitVec 32 := Scalar.muli v730 c16_i32_698
  let v923 : Index := Scalar.indexCast v731
  ![13, v922.toNat, v923.toNat]
def k0_off37 (k0_t4 : Fin k0_t4_loop.trips) : Fin 3 → Nat :=
  let c14_i32_716 : BitVec 32 := 14#32
  let v928 : Index := Scalar.indexCast c14_i32_716
  let c0_i32_540 : BitVec 32 := 0#32
  let c1_i32_542 : BitVec 32 := 1#32
  let arg18 : BitVec 32 := Scf.iv c0_i32_540 c1_i32_542 k0_t4
  let c0_i32_691 : BitVec 32 := 0#32
  let v713 : BitVec 1 := Scalar.cmpi .sgt arg18 c0_i32_691
  let v714 : BitVec 32 := Scalar.extui v713
  let c0_i32_692 : BitVec 32 := 0#32
  let v715 : BitVec 1 := Scalar.cmpi .slt arg18 c0_i32_692
  let v716 : BitVec 32 := Scalar.extui v715
  let v717 : BitVec 32 := Scalar.subi v714 v716
  let c14_i32_690 : BitVec 32 := 14#32
  let c0_i32_693 : BitVec 32 := 0#32
  let v718 : BitVec 1 := Scalar.cmpi .sgt c14_i32_690 c0_i32_693
  let v719 : BitVec 32 := Scalar.extui v718
  let c0_i32_694 : BitVec 32 := 0#32
  let v720 : BitVec 1 := Scalar.cmpi .slt c14_i32_690 c0_i32_694
  let v721 : BitVec 32 := Scalar.extui v720
  let v722 : BitVec 32 := Scalar.subi v719 v721
  let v723 : BitVec 1 := Scalar.cmpi .ne v717 v722
  let v724 : BitVec 32 := Scalar.remsi arg18 c14_i32_690
  let c0_i32_695 : BitVec 32 := 0#32
  let v725 : BitVec 1 := Scalar.cmpi .ne v724 c0_i32_695
  let v726 : BitVec 1 := Scalar.andi v723 v725
  let v712 : BitVec 32 := Scalar.divsi arg18 c14_i32_690
  let c1_i32_696 : BitVec 32 := 1#32
  let v727 : BitVec 32 := Scalar.subi v712 c1_i32_696
  let v728 : BitVec 32 := Scalar.select v726 v727 v712
  let v929 : Index := Scalar.indexCast v728
  let c14_i32_697 : BitVec 32 := 14#32
  let v729 : BitVec 32 := Scalar.muli v728 c14_i32_697
  let v730 : BitVec 32 := Scalar.subi arg18 v729
  let c16_i32_698 : BitVec 32 := 16#32
  let v731 : BitVec 32 := Scalar.muli v730 c16_i32_698
  let v930 : Index := Scalar.indexCast v731
  ![14, v929.toNat, v930.toNat]
def k0_off38 (k0_t4 : Fin k0_t4_loop.trips) : Fin 3 → Nat :=
  let c15_i32_717 : BitVec 32 := 15#32
  let v935 : Index := Scalar.indexCast c15_i32_717
  let c0_i32_540 : BitVec 32 := 0#32
  let c1_i32_542 : BitVec 32 := 1#32
  let arg18 : BitVec 32 := Scf.iv c0_i32_540 c1_i32_542 k0_t4
  let c0_i32_691 : BitVec 32 := 0#32
  let v713 : BitVec 1 := Scalar.cmpi .sgt arg18 c0_i32_691
  let v714 : BitVec 32 := Scalar.extui v713
  let c0_i32_692 : BitVec 32 := 0#32
  let v715 : BitVec 1 := Scalar.cmpi .slt arg18 c0_i32_692
  let v716 : BitVec 32 := Scalar.extui v715
  let v717 : BitVec 32 := Scalar.subi v714 v716
  let c14_i32_690 : BitVec 32 := 14#32
  let c0_i32_693 : BitVec 32 := 0#32
  let v718 : BitVec 1 := Scalar.cmpi .sgt c14_i32_690 c0_i32_693
  let v719 : BitVec 32 := Scalar.extui v718
  let c0_i32_694 : BitVec 32 := 0#32
  let v720 : BitVec 1 := Scalar.cmpi .slt c14_i32_690 c0_i32_694
  let v721 : BitVec 32 := Scalar.extui v720
  let v722 : BitVec 32 := Scalar.subi v719 v721
  let v723 : BitVec 1 := Scalar.cmpi .ne v717 v722
  let v724 : BitVec 32 := Scalar.remsi arg18 c14_i32_690
  let c0_i32_695 : BitVec 32 := 0#32
  let v725 : BitVec 1 := Scalar.cmpi .ne v724 c0_i32_695
  let v726 : BitVec 1 := Scalar.andi v723 v725
  let v712 : BitVec 32 := Scalar.divsi arg18 c14_i32_690
  let c1_i32_696 : BitVec 32 := 1#32
  let v727 : BitVec 32 := Scalar.subi v712 c1_i32_696
  let v728 : BitVec 32 := Scalar.select v726 v727 v712
  let v936 : Index := Scalar.indexCast v728
  let c14_i32_697 : BitVec 32 := 14#32
  let v729 : BitVec 32 := Scalar.muli v728 c14_i32_697
  let v730 : BitVec 32 := Scalar.subi arg18 v729
  let c16_i32_698 : BitVec 32 := 16#32
  let v731 : BitVec 32 := Scalar.muli v730 c16_i32_698
  let v937 : Index := Scalar.indexCast v731
  ![15, v936.toNat, v937.toNat]
def k0_off39 (i : grid0.Coords) (k0_t1 : Fin k0_t1_loop.trips) (k0_t2 : Fin k0_t2_loop.trips) (c0_i32_546 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_342 : BitVec 32 := 2#32
  let v260 : BitVec 32 := Scalar.muli v1 c2_i32_342
  let c0_i32_0 : BitVec 32 := 0#32
  let c1_i32 : BitVec 32 := 1#32
  let arg14 : BitVec 32 := Scf.iv c0_i32_0 c1_i32 k0_t1
  let v261 : BitVec 32 := Scalar.addi v260 arg14
  let c0_i32_344 : BitVec 32 := 0#32
  let v263 : BitVec 1 := Scalar.cmpi .sgt v261 c0_i32_344
  let v264 : BitVec 32 := Scalar.extui v263
  let c0_i32_345 : BitVec 32 := 0#32
  let v265 : BitVec 1 := Scalar.cmpi .slt v261 c0_i32_345
  let v266 : BitVec 32 := Scalar.extui v265
  let v267 : BitVec 32 := Scalar.subi v264 v266
  let c8_i32_343 : BitVec 32 := 8#32
  let c0_i32_346 : BitVec 32 := 0#32
  let v268 : BitVec 1 := Scalar.cmpi .sgt c8_i32_343 c0_i32_346
  let v269 : BitVec 32 := Scalar.extui v268
  let c0_i32_347 : BitVec 32 := 0#32
  let v270 : BitVec 1 := Scalar.cmpi .slt c8_i32_343 c0_i32_347
  let v271 : BitVec 32 := Scalar.extui v270
  let v272 : BitVec 32 := Scalar.subi v269 v271
  let v273 : BitVec 1 := Scalar.cmpi .ne v267 v272
  let v274 : BitVec 32 := Scalar.remsi v261 c8_i32_343
  let c0_i32_348 : BitVec 32 := 0#32
  let v275 : BitVec 1 := Scalar.cmpi .ne v274 c0_i32_348
  let v276 : BitVec 1 := Scalar.andi v273 v275
  let v262 : BitVec 32 := Scalar.divsi v261 c8_i32_343
  let c1_i32_349 : BitVec 32 := 1#32
  let v277 : BitVec 32 := Scalar.subi v262 c1_i32_349
  let v278 : BitVec 32 := Scalar.select v276 v277 v262
  let c8_i32_350 : BitVec 32 := 8#32
  let v279 : BitVec 32 := Scalar.remsi v261 c8_i32_350
  let c16_i32_545 : BitVec 32 := 16#32
  let v552 : BitVec 32 := Scalar.muli v279 c16_i32_545
  let v553 : BitVec 32 := Scalar.addi v552 c0_i32_546
  let c0_i32_352 : BitVec 32 := 0#32
  let c1_i32_354 : BitVec 32 := 1#32
  let arg16 : BitVec 32 := Scf.iv c0_i32_352 c1_i32_354 k0_t2
  let c2_i32_359 : BitVec 32 := 2#32
  let v286 : BitVec 32 := Scalar.muli arg16 c2_i32_359
  let c8_i32_360 : BitVec 32 := 8#32
  let v287 : BitVec 32 := Scalar.muli v286 c8_i32_360
  let c8_i32_544 : BitVec 32 := 8#32
  let v551 : BitVec 32 := Scalar.addi v287 c8_i32_544
  let c0_i32_550 : BitVec 32 := 0#32
  ![v278.toNat, v553.toNat, v551.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x8x224x224 : Shape := ⟨4, ![8, 8, 224, 224]⟩
abbrev S8x16 : Shape := ⟨2, ![8, 16]⟩
abbrev S8x8x1x224x224 : Shape := ⟨5, ![8, 8, 1, 224, 224]⟩
abbrev S1x8x16x1x1 : Shape := ⟨5, ![1, 8, 16, 1, 1]⟩
abbrev S8x8x16x224x224 : Shape := ⟨5, ![8, 8, 16, 224, 224]⟩
abbrev S_ : Shape := ⟨0, ![]⟩
abbrev S8x8x1x224x224x1 : Shape := ⟨6, ![8, 8, 1, 224, 224, 1]⟩
abbrev S1 : Shape := ⟨1, ![1]⟩
abbrev S1x1x1x1x1x1 : Shape := ⟨6, ![1, 1, 1, 1, 1, 1]⟩
abbrev S8x128x224x224 : Shape := ⟨4, ![8, 128, 224, 224]⟩

abbrev nBuf : Space → Nat
  | .hbm => 59
  | .vmem => 0
  | .smem => 0
  | _ => 0

abbrev bufTy : (tb : Table) → Fin (tcTables nBuf tb) → BufTy
  | .hbm, ⟨0, _⟩ => ⟨S8x8x224x224, .f32⟩
  | .hbm, ⟨1, _⟩ => ⟨S8x16, .f32⟩
  | .hbm, ⟨2, _⟩ => ⟨S8x16, .f32⟩
  | .hbm, ⟨3, _⟩ => ⟨S8x8x1x224x224, .f32⟩
  | .hbm, ⟨4, _⟩ => ⟨S1x8x16x1x1, .f32⟩
  | .hbm, ⟨5, _⟩ => ⟨S8x8x16x224x224, .f32⟩
  | .hbm, ⟨6, _⟩ => ⟨S8x8x16x224x224, .f32⟩
  | .hbm, ⟨7, _⟩ => ⟨S8x8x16x224x224, .f32⟩
  | .hbm, ⟨8, _⟩ => ⟨S8x8x16x224x224, .f32⟩
  | .hbm, ⟨9, _⟩ => ⟨S8x8x16x224x224, .i32⟩
  | .hbm, ⟨10, _⟩ => ⟨S_, .f32⟩
  | .hbm, ⟨11, _⟩ => ⟨S_, .i32⟩
  | .hbm, ⟨12, _⟩ => ⟨S8x8x224x224, .f32⟩
  | .hbm, ⟨13, _⟩ => ⟨S8x8x224x224, .i32⟩
  | .hbm, ⟨14, _⟩ => ⟨S8x8x1x224x224, .i32⟩
  | .hbm, ⟨15, _⟩ => ⟨S1x8x16x1x1, .f32⟩
  | .hbm, ⟨16, _⟩ => ⟨S_, .i32⟩
  | .hbm, ⟨17, _⟩ => ⟨S8x8x1x224x224, .i32⟩
  | .hbm, ⟨18, _⟩ => ⟨S8x8x1x224x224, .i1⟩
  | .hbm, ⟨19, _⟩ => ⟨S_, .i32⟩
  | .hbm, ⟨20, _⟩ => ⟨S8x8x1x224x224, .i32⟩
  | .hbm, ⟨21, _⟩ => ⟨S8x8x1x224x224, .i32⟩
  | .hbm, ⟨22, _⟩ => ⟨S8x8x1x224x224, .i32⟩
  | .hbm, ⟨23, _⟩ => ⟨S8x8x1x224x224x1, .i32⟩
  | .hbm, ⟨24, _⟩ => ⟨S8x16, .f32⟩
  | .hbm, ⟨25, _⟩ => ⟨S1, .i32⟩
  | .hbm, ⟨26, _⟩ => ⟨S_, .i32⟩
  | .hbm, ⟨27, _⟩ => ⟨S8x8x1x224x224x1, .i32⟩
  | .hbm, ⟨28, _⟩ => ⟨S8x8x1x224x224x1, .i1⟩
  | .hbm, ⟨29, _⟩ => ⟨S1x1x1x1x1x1, .i32⟩
  | .hbm, ⟨30, _⟩ => ⟨S8x8x1x224x224x1, .i32⟩
  | .hbm, ⟨31, _⟩ => ⟨S8x8x1x224x224x1, .i1⟩
  | .hbm, ⟨32, _⟩ => ⟨S8x8x1x224x224x1, .i1⟩
  | .hbm, ⟨33, _⟩ => ⟨S_, .i1⟩
  | .hbm, ⟨34, _⟩ => ⟨S8x8x1x224x224, .i1⟩
  | .hbm, ⟨35, _⟩ => ⟨S8x8x1x224x224, .f32⟩
  | .hbm, ⟨36, _⟩ => ⟨S_, .f32⟩
  | .hbm, ⟨37, _⟩ => ⟨S8x8x1x224x224, .f32⟩
  | .hbm, ⟨38, _⟩ => ⟨S8x8x1x224x224, .f32⟩
  | .hbm, ⟨39, _⟩ => ⟨S8x8x16x224x224, .f32⟩
  | .hbm, ⟨40, _⟩ => ⟨S8x8x16x224x224, .f32⟩
  | .hbm, ⟨41, _⟩ => ⟨S_, .f32⟩
  | .hbm, ⟨42, _⟩ => ⟨S8x8x16x224x224, .f32⟩
  | .hbm, ⟨43, _⟩ => ⟨S8x8x16x224x224, .f32⟩
  | .hbm, ⟨44, _⟩ => ⟨S_, .f32⟩
  | .hbm, ⟨45, _⟩ => ⟨S8x8x224x224, .f32⟩
  | .hbm, ⟨46, _⟩ => ⟨S_, .f32⟩
  | .hbm, ⟨47, _⟩ => ⟨S8x8x224x224, .f32⟩
  | .hbm, ⟨48, _⟩ => ⟨S8x8x224x224, .f32⟩
  | .hbm, ⟨49, _⟩ => ⟨S8x8x1x224x224, .f32⟩
  | .hbm, ⟨50, _⟩ => ⟨S8x8x16x224x224, .f32⟩
  | .hbm, ⟨51, _⟩ => ⟨S8x8x16x224x224, .f32⟩
  | .hbm, ⟨52, _⟩ => ⟨S8x8x16x224x224, .f32⟩
  | .hbm, ⟨53, _⟩ => ⟨S_, .f32⟩
  | .hbm, ⟨54, _⟩ => ⟨S8x8x224x224, .f32⟩
  | .hbm, ⟨55, _⟩ => ⟨S8x8x1x224x224, .f32⟩
  | .hbm, ⟨56, _⟩ => ⟨S8x8x16x224x224, .f32⟩
  | .hbm, ⟨57, _⟩ => ⟨S8x8x16x224x224, .f32⟩
  | .hbm, ⟨58, _⟩ => ⟨S8x128x224x224, .f32⟩
  | _, _ => ⟨S8x8x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_cst : Ref sig .tc := ⟨.hbm, 10, rfl⟩
abbrev main_call0_c : Ref sig .tc := ⟨.hbm, 11, rfl⟩
abbrev main_call0_v1_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call1_c : Ref sig .tc := ⟨.hbm, 16, rfl⟩
abbrev main_call1_v0 : Ref sig .tc := ⟨.hbm, 17, rfl⟩
abbrev main_call1_v1 : Ref sig .tc := ⟨.hbm, 18, rfl⟩
abbrev main_call1_c_0 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_call1_v5 : Ref sig .tc := ⟨.hbm, 23, rfl⟩
abbrev main_call1_v6 : Ref sig .tc := ⟨.hbm, 24, rfl⟩
abbrev main_call1_c_1 : Ref sig .tc := ⟨.hbm, 25, rfl⟩
abbrev main_call1_c_2 : Ref sig .tc := ⟨.hbm, 26, rfl⟩
abbrev main_call1_v7 : Ref sig .tc := ⟨.hbm, 27, rfl⟩
abbrev main_call1_v8 : Ref sig .tc := ⟨.hbm, 28, rfl⟩
abbrev main_call1_v9 : Ref sig .tc := ⟨.hbm, 29, rfl⟩
abbrev main_call1_v10 : Ref sig .tc := ⟨.hbm, 30, rfl⟩
abbrev main_call1_v11 : Ref sig .tc := ⟨.hbm, 31, rfl⟩
abbrev main_call1_v12 : Ref sig .tc := ⟨.hbm, 32, rfl⟩
abbrev main_call1_c_3 : Ref sig .tc := ⟨.hbm, 33, rfl⟩
abbrev main_call1_v13 : Ref sig .tc := ⟨.hbm, 34, rfl⟩
abbrev main_call1_v14 : Ref sig .tc := ⟨.hbm, 35, rfl⟩
abbrev main_call1_cst : Ref sig .tc := ⟨.hbm, 36, rfl⟩
abbrev main_call1_v15 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_cst : Ref sig .tc := ⟨.hbm, 41, rfl⟩
abbrev main_v12 : Ref sig .tc := ⟨.hbm, 42, rfl⟩
abbrev main_v13 : Ref sig .tc := ⟨.hbm, 43, rfl⟩
abbrev main_cst_0 : Ref sig .tc := ⟨.hbm, 44, rfl⟩
abbrev main_v14 : Ref sig .tc := ⟨.hbm, 45, rfl⟩
abbrev main_cst_1 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_cst_2 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩

abbrev nD : Nat := 1
abbrev τ : Topo := Topo.v7x

variable {F : FTy → Type} [FloatOps F]
-- ==== Proof.Offsets.lean ====
/-
  The offsets the kernel's body computes, in closed form: one fact per chain of integer operations, checked over every grid
  point and trip.
-/
module

public import proofs.«01_k».proof.Proof.Gen.KernelIdeal

@[expose] public section

noncomputable section

namespace Cert.Proof.Scm

open Cert.KernelIdeal Cert.KernelIdeal.Gen
open Idealize.ShloMosaic

/-! ## The offsets the body computes, in closed form -/

theorem trips1 : k0_t1_loop.trips = 2 := by decide +kernel
theorem trips2 : k0_t2_loop.trips = 14 := by decide +kernel
theorem trips3 : k0_t3_loop.trips = 112 := by decide +kernel
theorem trips4 : k0_t4_loop.trips = 112 := by decide +kernel

theorem off4_eq : ∀ k : Fin k0_t3_loop.trips, k0_off4 k = ![k.val / 14, k.val % 14 * 16] := by decide +kernel
theorem off22_eq : ∀ k : Fin k0_t4_loop.trips, k0_off22 k = ![k.val / 14, k.val % 14 * 16] := by decide +kernel
theorem off5_eq : ∀ k : Fin k0_t3_loop.trips, k0_off5 k = ![0, k.val / 14, k.val % 14 * 16] := by decide +kernel
theorem off6_eq : ∀ k : Fin k0_t3_loop.trips, k0_off6 k = ![1, k.val / 14, k.val % 14 * 16] := by decide +kernel
theorem off7_eq : ∀ k : Fin k0_t3_loop.trips, k0_off7 k = ![2, k.val / 14, k.val % 14 * 16] := by decide +kernel
theorem off8_eq : ∀ k : Fin k0_t3_loop.trips, k0_off8 k = ![3, k.val / 14, k.val % 14 * 16] := by decide +kernel
theorem off9_eq : ∀ k : Fin k0_t3_loop.trips, k0_off9 k = ![4, k.val / 14, k.val % 14 * 16] := by decide +kernel
theorem off10_eq : ∀ k : Fin k0_t3_loop.trips, k0_off10 k = ![5, k.val / 14, k.val % 14 * 16] := by decide +kernel
theorem off11_eq : ∀ k : Fin k0_t3_loop.trips, k0_off11 k = ![6, k.val / 14, k.val % 14 * 16] := by decide +kernel
theorem off12_eq : ∀ k : Fin k0_t3_loop.trips, k0_off12 k = ![7, k.val / 14, k.val % 14 * 16] := by decide +kernel
theorem off13_eq : ∀ k : Fin k0_t3_loop.trips, k0_off13 k = ![8, k.val / 14, k.val % 14 * 16] := by decide +kernel
theorem off14_eq : ∀ k : Fin k0_t3_loop.trips, k0_off14 k = ![9, k.val / 14, k.val % 14 * 16] := by decide +kernel
theorem off15_eq : ∀ k : Fin k0_t3_loop.trips, k0_off15 k = ![10, k.val / 14, k.val % 14 * 16] := by decide +kernel
theorem off16_eq : ∀ k : Fin k0_t3_loop.trips, k0_off16 k = ![11, k.val / 14, k.val % 14 * 16] := by decide +kernel
theorem off17_eq : ∀ k : Fin k0_t3_loop.trips, k0_off17 k = ![12, k.val / 14, k.val % 14 * 16] := by decide +kernel
theorem off18_eq : ∀ k : Fin k0_t3_loop.trips, k0_off18 k = ![13, k.val / 14, k.val % 14 * 16] := by decide +kernel
theorem off19_eq : ∀ k : Fin k0_t3_loop.trips, k0_off19 k = ![14, k.val / 14, k.val % 14 * 16] := by decide +kernel
theorem off20_eq : ∀ k : Fin k0_t3_loop.trips, k0_off20 k = ![15, k.val / 14, k.val % 14 * 16] := by decide +kernel
theorem off23_eq : ∀ k : Fin k0_t4_loop.trips, k0_off23 k = ![0, k.val / 14, k.val % 14 * 16] := by decide +kernel
theorem off24_eq : ∀ k : Fin k0_t4_loop.trips, k0_off24 k = ![1, k.val / 14, k.val % 14 * 16] := by decide +kernel
theorem off25_eq : ∀ k : Fin k0_t4_loop.trips, k0_off25 k = ![2, k.val / 14, k.val % 14 * 16] := by decide +kernel
theorem off26_eq : ∀ k : Fin k0_t4_loop.trips, k0_off26 k = ![3, k.val / 14, k.val % 14 * 16] := by decide +kernel
theorem off27_eq : ∀ k : Fin k0_t4_loop.trips, k0_off27 k = ![4, k.val / 14, k.val % 14 * 16] := by decide +kernel
theorem off28_eq : ∀ k : Fin k0_t4_loop.trips, k0_off28 k = ![5, k.val / 14, k.val % 14 * 16] := by decide +kernel
theorem off29_eq : ∀ k : Fin k0_t4_loop.trips, k0_off29 k = ![6, k.val / 14, k.val % 14 * 16] := by decide +kernel
theorem off30_eq : ∀ k : Fin k0_t4_loop.trips, k0_off30 k = ![7, k.val / 14, k.val % 14 * 16] := by decide +kernel
theorem off31_eq : ∀ k : Fin k0_t4_loop.trips, k0_off31 k = ![8, k.val / 14, k.val % 14 * 16] := by decide +kernel
theorem off32_eq : ∀ k : Fin k0_t4_loop.trips, k0_off32 k = ![9, k.val / 14, k.val % 14 * 16] := by decide +kernel
theorem off33_eq : ∀ k : Fin k0_t4_loop.trips, k0_off33 k = ![10, k.val / 14, k.val % 14 * 16] := by decide +kernel
theorem off34_eq : ∀ k : Fin k0_t4_loop.trips, k0_off34 k = ![11, k.val / 14, k.val % 14 * 16] := by decide +kernel
theorem off35_eq : ∀ k : Fin k0_t4_loop.trips, k0_off35 k = ![12, k.val / 14, k.val % 14 * 16] := by decide +kernel
theorem off36_eq : ∀ k : Fin k0_t4_loop.trips, k0_off36 k = ![13, k.val / 14, k.val % 14 * 16] := by decide +kernel
theorem off37_eq : ∀ k : Fin k0_t4_loop.trips, k0_off37 k = ![14, k.val / 14, k.val % 14 * 16] := by decide +kernel
theorem off38_eq : ∀ k : Fin k0_t4_loop.trips, k0_off38 k = ![15, k.val / 14, k.val % 14 * 16] := by decide +kernel

/-- The number of the (image, channel) slab the tile handles at trip `t1`. -/
def slab (i : grid0.Coords) (t1 : ℕ) : ℕ := 4 * (i 1).val + 2 * (i 0).val + t1

theorem off1_eq : ∀ (i : grid0.Coords) (t1 : Fin k0_t1_loop.trips), k0_off1 i t1 = ![slab i t1.val % 8 * 320] := by decide +kernel
theorem off2_eq : ∀ (i : grid0.Coords) (t1 : Fin k0_t1_loop.trips) (t2 : Fin k0_t2_loop.trips),
    k0_off2 i t1 t2 = ![slab i t1.val / 8, slab i t1.val % 8, t2.val * 16, 0] := by decide +kernel
theorem off3_eq : ∀ (i : grid0.Coords) (t1 : Fin k0_t1_loop.trips) (t2 : Fin k0_t2_loop.trips),
    k0_off3 i t1 t2 = ![slab i t1.val / 8, slab i t1.val % 8, t2.val * 16 + 8, 0] := by decide +kernel
theorem off21_eq : ∀ (i : grid0.Coords) (t1 : Fin k0_t1_loop.trips) (t2 : Fin k0_t2_loop.trips) (c : Fin 16),
    k0_off21 i t1 t2 (BitVec.ofNat 32 c.val) = ![slab i t1.val / 8, slab i t1.val % 8 * 16 + c.val, t2.val * 16, 0] := by decide +kernel
theorem off39_eq : ∀ (i : grid0.Coords) (t1 : Fin k0_t1_loop.trips) (t2 : Fin k0_t2_loop.trips) (c : Fin 16),
    k0_off39 i t1 t2 (BitVec.ofNat 32 c.val) = ![slab i t1.val / 8, slab i t1.val % 8 * 16 + c.val, t2.val * 16 + 8, 0] := by decide +kernel

end Cert.Proof.Scm

end
-- ==== Proof.Setup.lean ====
/-
  The set-up of the certificate: the program as the launch theorem sees it, the buffers the kernel's body names, the closed
  forms of the offsets it computes, and the value one lane of the kernel writes.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Batch
public import Idealize.ShloMosaic.Lib.Tactic
public import proofs.«01_k».proof.Proof.Offsets
public import proofs.«01_k».proof.Proof.Gen.KernelIdeal.Skeleton

@[expose] public section

noncomputable section

namespace Cert.Proof.Scm

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds and the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL
abbrev EC : UEmb Counters (MT nD τ sig (HIx 1) (Elt F) ℕ UU ℕ) := countersEmb (U := UU)

end Cert.Proof.Scm

end
-- ==== Proof.Inner.lean ====
/-
  One trip of the kernel's inner loops: sixteen pixels of one row, their sixteen responses stored to the row's place in each
  of the sixteen output planes.
-/
module

public import proofs.«01_k».proof.Proof.Setup

@[expose] public section

noncomputable section

namespace Cert.Proof.Scm

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "xV" => (Memref.whole Cert.KernelIdeal.main_arg0_scv : Memref Cert.KernelIdeal.sig Kind.scVector Space.hbm Cert.KernelIdeal.S8x8x224x224 EltTy.f32)
local notation "tV" => (Memref.whole Cert.KernelIdeal.main_v75_scv : Memref Cert.KernelIdeal.sig Kind.scVector Space.hbm Cert.KernelIdeal.S2560 EltTy.f32)
local notation "oV" => (Memref.whole Cert.KernelIdeal.main_v76_scv : Memref Cert.KernelIdeal.sig Kind.scVector Space.hbm Cert.KernelIdeal.S8x128x224x224 EltTy.f32)
local notation "pB" => (Memref.whole Cert.KernelIdeal.cc0_scratch0 : Memref Cert.KernelIdeal.sig Kind.scVector Space.vmem Cert.KernelIdeal.S320 EltTy.f32)
local notation "i0B" => (Memref.whole Cert.KernelIdeal.cc0_scratch1 : Memref Cert.KernelIdeal.sig Kind.scVector Space.vmem Cert.KernelIdeal.S8x224 EltTy.f32)
local notation "i1B" => (Memref.whole Cert.KernelIdeal.cc0_scratch2 : Memref Cert.KernelIdeal.sig Kind.scVector Space.vmem Cert.KernelIdeal.S8x224 EltTy.f32)
local notation "o0B" => (Memref.whole Cert.KernelIdeal.cc0_scratch3 : Memref Cert.KernelIdeal.sig Kind.scVector Space.vmem Cert.KernelIdeal.S16x8x224 EltTy.f32)
local notation "o1B" => (Memref.whole Cert.KernelIdeal.cc0_scratch4 : Memref Cert.KernelIdeal.sig Kind.scVector Space.vmem Cert.KernelIdeal.S16x8x224 EltTy.f32)

/-! ## The value of one lane -/

/-- The slope word of one pixel: the focus codebook at the nearest codeword's number, negated. -/
def nsl (T : Fin 20 → F .f32) (x : F .f32) : F .f32 :=
  FloatOps.addf (T 2) (FloatOps.mulf (FloatOps.sitofp .f32 (FloatOps.fptosi 32 (FloatOps.addf
    (FloatOps.minimumf (FloatOps.maximumf (FloatOps.mulf (FloatOps.subf x (T 0)) (T 1)) (Scalar.ofBits .f32 0x00000000#32))
      (Scalar.ofBits .f32 0x41700000#32)) (Scalar.ofBits .f32 0x3F000000#32)))) (T 3))

/-- The `k`-th exponential of one pixel. -/
def ek (T : Fin 20 → F .f32) (x : F .f32) (k : Fin 16) : F .f32 :=
  FloatOps.exp (FloatOps.mulf (FloatOps.absf (FloatOps.subf x (T ⟨k.val + 4, by omega⟩))) (nsl T x))

/-- The sixteen exponentials' sum, added in pairs. -/
def esum (T : Fin 20 → F .f32) (x : F .f32) : F .f32 :=
  FloatOps.addf
    (FloatOps.addf (FloatOps.addf (FloatOps.addf (ek T x 0) (ek T x 1)) (FloatOps.addf (ek T x 2) (ek T x 3)))
      (FloatOps.addf (FloatOps.addf (ek T x 4) (ek T x 5)) (FloatOps.addf (ek T x 6) (ek T x 7))))
    (FloatOps.addf (FloatOps.addf (FloatOps.addf (ek T x 8) (ek T x 9)) (FloatOps.addf (ek T x 10) (ek T x 11)))
      (FloatOps.addf (FloatOps.addf (ek T x 12) (ek T x 13)) (FloatOps.addf (ek T x 14) (ek T x 15))))

/-- What the kernel writes for pixel `x` at codeword `k`, from the twenty table words of the pixel's lane. -/
def lane (T : Fin 20 → F .f32) (x : F .f32) (k : Fin 16) : F .f32 :=
  FloatOps.mulf (ek T x k) (FloatOps.divf (Scalar.ofBits .f32 0x3F800000#32) (esum T x))

/-! ## Sixteen stores of one trip -/

/-- The lane number of a column. -/
def ln (c : ℕ) : S16.Idx := fun a => ⟨c % 16, by match a with | 0 => exact Nat.mod_lt c (by decide : 0 < 16)⟩

theorem casts3 : S1x1x16.numel = S16.numel := by decide

theorem casts2 : S16.numel = S1x16.numel := by decide

/-- What one output plane holds at a place, from the table's rows and the input block. -/
def GT (R : Fin 20 → FVec F S16 .f32) (fx : S8x224.Idx → F .f32) (y : S16x8x224.Idx) : F .f32 :=
  lane (fun m => R m (ln (y 2).val)) (fx (fun | 0 => y 1 | 1 => y 2)) (y 0)

theorem re_lane : ∀ x : S1x1x16.Idx, Shape.reshapeEquiv casts3 x = ln (x 2).val := by
  have h : ∀ x : S1x1x16.Idx, ((Shape.reshapeEquiv casts3 x) 0).val = (x 2).val % 16 := by
    decide +kernel
  intro x
  funext a
  have ha : a = 0 := Subsingleton.elim _ _
  subst ha
  exact Fin.ext (h x)

theorem re_row : ∀ l : S16.Idx, ((Shape.reshapeEquiv casts2 l) 1).val = (l 0).val ∧
    ((Shape.reshapeEquiv casts2 l) 0).val = 0 := by
  decide +kernel

/-- A store of a trip: its place is sixteen lanes of one plane's row, its payload the lanes' responses. -/
structure Good (R : Fin 20 → FVec F S16 .f32) (fx : S8x224.Idx → F .f32) (t : ℕ) (n : Fin 16)
    (p : View.Piece (Elt F) S16x8x224 EltTy.f32) : Prop where
  off : p.1.off = ![n.val, t / 14, t % 14 * 16]
  size : p.1.size = S1x1x16.size
  stride : ∀ a, p.1.stride a = 1
  val : ∀ x, p.2 x = GT R fx (p.1.emb x)

theorem Good.mk' (R : Fin 20 → FVec F S16 .f32) (fx : S8x224.Idx → F .f32) (t : ℕ) (n : Fin 16)
    (off : Fin 3 → ℕ) (h) (w : S1x1x16.Idx → F .f32) (off4 : Fin 2 → ℕ) (h4)
    (e : off = ![n.val, t / 14, t % 14 * 16]) (e4 : off4 = ![t / 14, t % 14 * 16])
    (hw : ∀ x : S1x1x16.Idx, w x = lane (fun m => R m (Shape.reshapeEquiv casts3 x))
      (fx ((Rect.unit (s := S8x224) off4 S1x16.size h4).emb (Shape.reshapeEquiv casts2
        (Shape.reshapeEquiv casts3 x)))) n) :
    Good R fx t n ⟨Rect.unit (s := S16x8x224) off S1x1x16.size h, w⟩ where
  off := e
  size := rfl
  stride := fun _ => rfl
  val := by
    intro x
    subst e e4
    have hx0 : (x 0).val = 0 := by have := (x 0).isLt; change _ < 1 at this; omega
    have hx1 : (x 1).val = 0 := by have := (x 1).isLt; change _ < 1 at this; omega
    have hx2 : (x 2).val < 16 := (x 2).isLt
    show w x = _
    rw [hw x, re_lane]
    set E := (Rect.unit (s := S16x8x224) ![n.val, t / 14, t % 14 * 16] S1x1x16.size h).emb x with hE
    have E0 : (E 0).val = n.val := by simp [hE, Rect.emb_apply, hx0]
    have E1 : (E 1).val = t / 14 := by simp [hE, Rect.emb_apply, hx1]
    have E2 : (E 2).val = t % 14 * 16 + (x 2).val := by simp [hE, Rect.emb_apply]
    unfold GT
    have h2 : ln (E 2).val = ln (x 2).val := by
      funext a; apply Fin.ext; simp only [ln, E2]; omega
    rw [h2]
    congr 1
    · congr 1
      funext a
      apply Fin.ext
      have hr := re_row (ln (x 2).val)
      match a with
      | 0 => show _ = (E 1).val
             rw [E1, Rect.emb_apply]
             show t / 14 + 1 * _ = _
             rw [hr.2]; rfl
      | 1 => show _ = (E 2).val
             rw [E2, Rect.emb_apply]
             show t % 14 * 16 + 1 * _ = _
             rw [hr.1]; simp only [ln]; omega
    · exact Fin.ext E0.symm

theorem Good.mem (R : Fin 20 → FVec F S16 .f32) (fx : S8x224.Idx → F .f32) (t : ℕ) (n : Fin 16)
    (p : View.Piece (Elt F) S16x8x224 EltTy.f32) (hp : Good R fx t n p) (y : S16x8x224.Idx) :
    y ∈ p.1.set ↔ (y 0).val = n.val ∧ (y 1).val = t / 14 ∧ (y 2).val / 16 = t % 14 := by
  rw [p.1.mem_set]
  have ho := hp.off
  have hs := hp.size
  have hst := hp.stride
  constructor
  · intro h
    have h0 := h 0; have h1 := h 1; have h2 := h 2
    rw [hst, ho, hs] at h0 h1 h2
    obtain ⟨j0, hj0, e0⟩ := h0
    obtain ⟨j1, hj1, e1⟩ := h1
    obtain ⟨j2, hj2, e2⟩ := h2
    change j0 < 1 at hj0; change j1 < 1 at hj1; change j2 < 16 at hj2
    change _ = n.val + _ at e0; change _ = t / 14 + _ at e1; change _ = t % 14 * 16 + _ at e2
    omega
  · rintro ⟨h0, h1, h2⟩ a
    rw [hst, ho, hs]
    match a with
    | 0 => exact ⟨0, by decide, by show _ = n.val + _; omega⟩
    | 1 => exact ⟨0, by decide, by show _ = t / 14 + _; omega⟩
    | 2 => exact ⟨(y 2).val % 16, Nat.mod_lt _ (by decide), by show _ = t % 14 * 16 + _; omega⟩

theorem forall₂_left {α β : Type*} {P : α → β → Prop} {l : List α} {L : List β} (h : List.Forall₂ P l L) :
    ∀ b ∈ L, ∃ a, P a b := by
  induction h with
  | nil => intro b hb; cases hb
  | cons h _ ih =>
    intro b hb
    rcases List.mem_cons.mp hb with rfl | hb
    · exact ⟨_, h⟩
    · exact ih b hb

theorem forall₂_right {α β : Type*} {P : α → β → Prop} {l : List α} {L : List β} (h : List.Forall₂ P l L) :
    ∀ a ∈ l, ∃ b ∈ L, P a b := by
  induction h with
  | nil => intro b hb; cases hb
  | cons h _ ih =>
    intro b hb
    rcases List.mem_cons.mp hb with rfl | hb
    · exact ⟨_, List.mem_cons_self, h⟩
    · obtain ⟨c, hc, hp⟩ := ih b hb
      exact ⟨c, List.mem_cons_of_mem _ hc, hp⟩

/-- The rows as a trip of the loop uses them: from the `n`-th on they go through a cast of a shape to itself. -/
def castFrom (n : ℕ) (R : Fin 20 → FVec F S16 .f32) : Fin 20 → FVec F S16 .f32 :=
  fun m => if n ≤ m.val then (fun l => R m (Shape.reshapeEquiv (rfl : S16.numel = S16.numel) l)) else R m

theorem castFrom_eq (n : ℕ) (R : Fin 20 → FVec F S16 .f32) : castFrom n R = R := by
  funext m
  unfold castFrom
  split
  · funext l
    rw [Shape.reshapeEquiv_self]
  · rfl

/-- The trip's block of lanes reads the responses, the rest of the planes as before. -/
def Stored (R : Fin 20 → FVec F S16 .f32) (fx : S8x224.Idx → F .f32) (t : ℕ) (g g' : S16x8x224.Idx → F .f32) : Prop :=
  ∀ y, g' y = if (y 1).val * 14 + (y 2).val / 16 = t then GT R fx y else g y

theorem stored_of_good (R : Fin 20 → FVec F S16 .f32) (fx : S8x224.Idx → F .f32) (t : ℕ) {κ : Kind} {sp : Space}
    (v : View sig κ sp S16x8x224 EltTy.f32) (g : v.ty.Contents (Elt F))
    (L : List (View.Piece (Elt F) S16x8x224 EltTy.f32)) {l : List (Fin 16)} (hl : ∀ n, n ∈ l) (h : List.Forall₂ (Good R fx t) l L) :
    Stored R fx t (v.read (Elt F) g) (v.read (Elt F) (v.writes (Elt F) g L)) := by
  intro y
  split
  · next hy =>
    refine View.read_writes_apply_of_pieces v g (GT R fx) L ?_ y ?_
    · intro p hp x
      obtain ⟨n, hn⟩ := forall₂_left h p hp
      exact hn.val x
    · obtain ⟨p, hp, hn⟩ := forall₂_right h (y 0) (hl _)
      refine ⟨p, hp, (hn.mem R fx t _ p y).mpr ⟨rfl, ?_⟩⟩
      have h2 : (y 2).val < 224 := (y 2).isLt
      omega
  · next hy =>
    refine View.read_writes_apply_of_forall_not_mem v g y L fun p hp hm => hy ?_
    obtain ⟨n, hn⟩ := forall₂_left h p hp
    have := (hn.mem R fx t _ p y).mp hm
    omega

section
variable (d : Dev nD) (L : grid0.Coords)

abbrev cV (L : grid0.Coords) : Fin τ.nSC := (L 0).castLE hcore0
abbrev jV (L : grid0.Coords) : Fin τ.nSub := (L 1).castLE hsub0

theorem trip3 (R : Fin 20 → FVec F S16 .f32) (t1 : Fin k0_t1_loop.trips) (v279 : BitVec 32) (t2 : Fin k0_t2_loop.trips)
    (fx : Buf (Elt F) ((i0B).view.loc (V d (cV L) (jV L)))) (g : Buf (Elt F) ((o0B).view.loc (V d (cV L) (jV L)))) (t3 : Fin k0_t3_loop.trips) :
    (iprop(((i0B).view.loc (V d (cV L) (jV L)) ↦{fullShare} fx) ∗ ((o0B).view.loc (V d (cV L) (jV L)) ↦{fullShare} g)) : sProp 𝕄)
      ⊢ wp frame (wpE (defs₀ (F := F)) 𝒱₀ (V d (cV L) (jV L)) none) Set.univ
          (k0_t3_body L xV (Memref.isWhole_whole _) tV (Memref.isWhole_whole _) oV (Memref.isWhole_whole _) pB (Memref.isWhole_whole _)
            i0B (Memref.isWhole_whole _) i1B (Memref.isWhole_whole _) o0B (Memref.isWhole_whole _) o1B (Memref.isWhole_whole _)
            cc0_scratch5 cc0_scratch6 cc0_scratch7 cc0_scratch8 cc0_scoped0 t1 v279 t2
            (R 0) (R 1) (R 2) (R 3) (R 4) (R 5) (R 6) (R 7) (R 8) (R 9) (R 10) (R 11) (R 12) (R 13) (R 14) (R 15) (R 16) (R 17) (R 18) (R 19) t3 ())
          fun _ => iprop(((i0B).view.loc (V d (cV L) (jV L)) ↦{fullShare} fx) ∗
            ∃ g' : Buf (Elt F) ((o0B).view.loc (V d (cV L) (jV L))), ⌜Stored R fx t3.val g g'⌝ ∗ (o0B).view.loc (V d (cV L) (jV L)) ↦{fullShare} g') := by
  iintro ⟨Hi, Ho⟩
  sl_unfold [k0_t3_body]
  sl_exec
  sl_step
  isplitl [Hi]; · iexact Hi
  iexists _
  isplitr [Ho]
  rotate_left
  · iexact Ho
  ipureintro
  refine Eq.mp (congrArg (fun Q => Stored Q fx t3.val g _) (castFrom_eq 7 R)) ?_
  have st : ∀ Lw, List.Forall₂ (Good (castFrom 7 R) fx t3.val) [15, 14, 13, 12, 11, 10, 9, 8, 7, 6, 5, 4, 3, 2, 1, 0] Lw →
      Stored (castFrom 7 R) fx t3.val g ((o0B).view.writes (Elt F) g Lw) :=
    fun Lw hL => stored_of_good (castFrom 7 R) fx t3.val (o0B).view g Lw (fun n => by revert n; decide) hL
  refine st _ ?_
  refine List.Forall₂.cons (Good.mk' (castFrom _ _) fx _ _ _ _ _ _ (k0_off4_inb t3) (off20_eq t3) (off4_eq t3) fun x => ?_) ?_; · rfl
  refine List.Forall₂.cons (Good.mk' (castFrom _ _) fx _ _ _ _ _ _ (k0_off4_inb t3) (off19_eq t3) (off4_eq t3) fun x => ?_) ?_; · rfl
  refine List.Forall₂.cons (Good.mk' (castFrom _ _) fx _ _ _ _ _ _ (k0_off4_inb t3) (off18_eq t3) (off4_eq t3) fun x => ?_) ?_; · rfl
  refine List.Forall₂.cons (Good.mk' (castFrom _ _) fx _ _ _ _ _ _ (k0_off4_inb t3) (off17_eq t3) (off4_eq t3) fun x => ?_) ?_; · rfl
  refine List.Forall₂.cons (Good.mk' (castFrom _ _) fx _ _ _ _ _ _ (k0_off4_inb t3) (off16_eq t3) (off4_eq t3) fun x => ?_) ?_; · rfl
  refine List.Forall₂.cons (Good.mk' (castFrom _ _) fx _ _ _ _ _ _ (k0_off4_inb t3) (off15_eq t3) (off4_eq t3) fun x => ?_) ?_; · rfl
  refine List.Forall₂.cons (Good.mk' (castFrom _ _) fx _ _ _ _ _ _ (k0_off4_inb t3) (off14_eq t3) (off4_eq t3) fun x => ?_) ?_; · rfl
  refine List.Forall₂.cons (Good.mk' (castFrom _ _) fx _ _ _ _ _ _ (k0_off4_inb t3) (off13_eq t3) (off4_eq t3) fun x => ?_) ?_; · rfl
  refine List.Forall₂.cons (Good.mk' (castFrom _ _) fx _ _ _ _ _ _ (k0_off4_inb t3) (off12_eq t3) (off4_eq t3) fun x => ?_) ?_; · rfl
  refine List.Forall₂.cons (Good.mk' (castFrom _ _) fx _ _ _ _ _ _ (k0_off4_inb t3) (off11_eq t3) (off4_eq t3) fun x => ?_) ?_; · rfl
  refine List.Forall₂.cons (Good.mk' (castFrom _ _) fx _ _ _ _ _ _ (k0_off4_inb t3) (off10_eq t3) (off4_eq t3) fun x => ?_) ?_; · rfl
  refine List.Forall₂.cons (Good.mk' (castFrom _ _) fx _ _ _ _ _ _ (k0_off4_inb t3) (off9_eq t3) (off4_eq t3) fun x => ?_) ?_; · rfl
  refine List.Forall₂.cons (Good.mk' (castFrom _ _) fx _ _ _ _ _ _ (k0_off4_inb t3) (off8_eq t3) (off4_eq t3) fun x => ?_) ?_; · rfl
  refine List.Forall₂.cons (Good.mk' (castFrom _ _) fx _ _ _ _ _ _ (k0_off4_inb t3) (off7_eq t3) (off4_eq t3) fun x => ?_) ?_; · rfl
  refine List.Forall₂.cons (Good.mk' (castFrom _ _) fx _ _ _ _ _ _ (k0_off4_inb t3) (off6_eq t3) (off4_eq t3) fun x => ?_) ?_; · rfl
  refine List.Forall₂.cons (Good.mk' (castFrom _ _) fx _ _ _ _ _ _ (k0_off4_inb t3) (off5_eq t3) (off4_eq t3) fun x => ?_) ?_; · rfl
  exact .nil

theorem trip4 (R : Fin 20 → FVec F S16 .f32) (t1 : Fin k0_t1_loop.trips) (v279 v287 : BitVec 32) (t2 : Fin k0_t2_loop.trips)
    (fx : Buf (Elt F) ((i1B).view.loc (V d (cV L) (jV L)))) (g : Buf (Elt F) ((o1B).view.loc (V d (cV L) (jV L)))) (t4 : Fin k0_t4_loop.trips) :
    (iprop(((i1B).view.loc (V d (cV L) (jV L)) ↦{fullShare} fx) ∗ ((o1B).view.loc (V d (cV L) (jV L)) ↦{fullShare} g)) : sProp 𝕄)
      ⊢ wp frame (wpE (defs₀ (F := F)) 𝒱₀ (V d (cV L) (jV L)) none) Set.univ
          (k0_t4_body L xV (Memref.isWhole_whole _) tV (Memref.isWhole_whole _) oV (Memref.isWhole_whole _) pB (Memref.isWhole_whole _)
            i0B (Memref.isWhole_whole _) i1B (Memref.isWhole_whole _) o0B (Memref.isWhole_whole _) o1B (Memref.isWhole_whole _)
            cc0_scratch5 cc0_scratch6 cc0_scratch7 cc0_scratch8 cc0_scoped0 t1 v279 t2 v287
            (R 0) (R 1) (R 2) (R 3) (R 4) (R 5) (R 6) (R 7) (R 8) (R 9) (R 10) (R 11) (R 12) (R 13) (R 14) (R 15) (R 16) (R 17) (R 18) (R 19) t4 ())
          fun _ => iprop(((i1B).view.loc (V d (cV L) (jV L)) ↦{fullShare} fx) ∗
            ∃ g' : Buf (Elt F) ((o1B).view.loc (V d (cV L) (jV L))), ⌜Stored R fx t4.val g g'⌝ ∗ (o1B).view.loc (V d (cV L) (jV L)) ↦{fullShare} g') := by
  iintro ⟨Hi, Ho⟩
  sl_unfold [k0_t4_body]
  sl_exec
  sl_step
  isplitl [Hi]; · iexact Hi
  iexists _
  isplitr [Ho]
  rotate_left
  · iexact Ho
  ipureintro
  refine Eq.mp (congrArg (fun Q => Stored Q fx t4.val g _) (castFrom_eq 15 R)) ?_
  have st : ∀ Lw, List.Forall₂ (Good (castFrom 15 R) fx t4.val) [15, 14, 13, 12, 11, 10, 9, 8, 7, 6, 5, 4, 3, 2, 1, 0] Lw →
      Stored (castFrom 15 R) fx t4.val g ((o1B).view.writes (Elt F) g Lw) :=
    fun Lw hL => stored_of_good (castFrom 15 R) fx t4.val (o1B).view g Lw (fun n => by revert n; decide) hL
  refine st _ ?_
  refine List.Forall₂.cons (Good.mk' (castFrom _ _) fx _ _ _ _ _ _ (k0_off22_inb t4) (off38_eq t4) (off22_eq t4) fun x => ?_) ?_; · rfl
  refine List.Forall₂.cons (Good.mk' (castFrom _ _) fx _ _ _ _ _ _ (k0_off22_inb t4) (off37_eq t4) (off22_eq t4) fun x => ?_) ?_; · rfl
  refine List.Forall₂.cons (Good.mk' (castFrom _ _) fx _ _ _ _ _ _ (k0_off22_inb t4) (off36_eq t4) (off22_eq t4) fun x => ?_) ?_; · rfl
  refine List.Forall₂.cons (Good.mk' (castFrom _ _) fx _ _ _ _ _ _ (k0_off22_inb t4) (off35_eq t4) (off22_eq t4) fun x => ?_) ?_; · rfl
  refine List.Forall₂.cons (Good.mk' (castFrom _ _) fx _ _ _ _ _ _ (k0_off22_inb t4) (off34_eq t4) (off22_eq t4) fun x => ?_) ?_; · rfl
  refine List.Forall₂.cons (Good.mk' (castFrom _ _) fx _ _ _ _ _ _ (k0_off22_inb t4) (off33_eq t4) (off22_eq t4) fun x => ?_) ?_; · rfl
  refine List.Forall₂.cons (Good.mk' (castFrom _ _) fx _ _ _ _ _ _ (k0_off22_inb t4) (off32_eq t4) (off22_eq t4) fun x => ?_) ?_; · rfl
  refine List.Forall₂.cons (Good.mk' (castFrom _ _) fx _ _ _ _ _ _ (k0_off22_inb t4) (off31_eq t4) (off22_eq t4) fun x => ?_) ?_; · rfl
  refine List.Forall₂.cons (Good.mk' (castFrom _ _) fx _ _ _ _ _ _ (k0_off22_inb t4) (off30_eq t4) (off22_eq t4) fun x => ?_) ?_; · rfl
  refine List.Forall₂.cons (Good.mk' (castFrom _ _) fx _ _ _ _ _ _ (k0_off22_inb t4) (off29_eq t4) (off22_eq t4) fun x => ?_) ?_; · rfl
  refine List.Forall₂.cons (Good.mk' (castFrom _ _) fx _ _ _ _ _ _ (k0_off22_inb t4) (off28_eq t4) (off22_eq t4) fun x => ?_) ?_; · rfl
  refine List.Forall₂.cons (Good.mk' (castFrom _ _) fx _ _ _ _ _ _ (k0_off22_inb t4) (off27_eq t4) (off22_eq t4) fun x => ?_) ?_; · rfl
  refine List.Forall₂.cons (Good.mk' (castFrom _ _) fx _ _ _ _ _ _ (k0_off22_inb t4) (off26_eq t4) (off22_eq t4) fun x => ?_) ?_; · rfl
  refine List.Forall₂.cons (Good.mk' (castFrom _ _) fx _ _ _ _ _ _ (k0_off22_inb t4) (off25_eq t4) (off22_eq t4) fun x => ?_) ?_; · rfl
  refine List.Forall₂.cons (Good.mk' (castFrom _ _) fx _ _ _ _ _ _ (k0_off22_inb t4) (off24_eq t4) (off22_eq t4) fun x => ?_) ?_; · rfl
  refine List.Forall₂.cons (Good.mk' (castFrom _ _) fx _ _ _ _ _ _ (k0_off22_inb t4) (off23_eq t4) (off22_eq t4) fun x => ?_) ?_; · rfl
  exact .nil
end

end Cert.Proof.Scm

end
-- ==== Proof.Windows.lean ====
/-
  The windows a tile moves, what they hold, and the copies in flight.
-/
module

public import proofs.«01_k».proof.Proof.Inner

@[expose] public section

noncomputable section

namespace Cert.Proof.Scm

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "xV" => (Memref.whole Cert.KernelIdeal.main_arg0_scv : Memref Cert.KernelIdeal.sig Kind.scVector Space.hbm Cert.KernelIdeal.S8x8x224x224 EltTy.f32)
local notation "tV" => (Memref.whole Cert.KernelIdeal.main_v75_scv : Memref Cert.KernelIdeal.sig Kind.scVector Space.hbm Cert.KernelIdeal.S2560 EltTy.f32)
local notation "oV" => (Memref.whole Cert.KernelIdeal.main_v76_scv : Memref Cert.KernelIdeal.sig Kind.scVector Space.hbm Cert.KernelIdeal.S8x128x224x224 EltTy.f32)
local notation "pB" => (Memref.whole Cert.KernelIdeal.cc0_scratch0 : Memref Cert.KernelIdeal.sig Kind.scVector Space.vmem Cert.KernelIdeal.S320 EltTy.f32)
local notation "i0B" => (Memref.whole Cert.KernelIdeal.cc0_scratch1 : Memref Cert.KernelIdeal.sig Kind.scVector Space.vmem Cert.KernelIdeal.S8x224 EltTy.f32)
local notation "i1B" => (Memref.whole Cert.KernelIdeal.cc0_scratch2 : Memref Cert.KernelIdeal.sig Kind.scVector Space.vmem Cert.KernelIdeal.S8x224 EltTy.f32)
local notation "o0B" => (Memref.whole Cert.KernelIdeal.cc0_scratch3 : Memref Cert.KernelIdeal.sig Kind.scVector Space.vmem Cert.KernelIdeal.S16x8x224 EltTy.f32)
local notation "o1B" => (Memref.whole Cert.KernelIdeal.cc0_scratch4 : Memref Cert.KernelIdeal.sig Kind.scVector Space.vmem Cert.KernelIdeal.S16x8x224 EltTy.f32)

theorem inbS (k : Fin 16) : ∀ a, (![k.val, 0, 0] : Fin 3 → ℕ) a + S1x8x224.size a ≤ S16x8x224.size a := by
  revert k; decide

/-- The channel's part of the table. -/
def tW (L : grid0.Coords) (t1 : Fin k0_t1_loop.trips) : Memref sig .scVector .hbm S320 .f32 :=
  (tV).slice (Rect.unit (s := S2560) (k0_off1 L t1) S320.size (k0_off1_inb L t1)) (fun _ => rfl)

def PB (L : grid0.Coords) (T : S2560.Idx → F .f32) (t1 : Fin k0_t1_loop.trips) : S320.Idx → F .f32 :=
  (tW L t1).view.read (Elt F) T

/-- The twenty rows of a channel's part. -/
def rowsOf (P : S320.Idx → F .f32) (m : Fin 20) : FVec F S16 .f32 :=
  fun l => P (fun | 0 => ⟨m.val * 16 + (l 0).val, by have h : (l 0).val < 16 := (l 0).isLt; have := m.isLt; show _ < 320; omega⟩)

/-- A copy's window for its amount. -/
def oZ : Memref sig .scVector .hbm S8x224 .f32 :=
  ((oV).slice (Rect.unit (s := S8x128x224x224) ![0, 0, 0, 0] S1x1x8x224.size inb_S8x128x224x224_S1x1x8x224_0_0_0_0) (fun _ => rfl)).squeeze
    S8x224 squeezes_S1x1x8x224_S8x224

/-- One copy's credit. -/
abbrev NN : ℕ := (oZ).view.amount (SemLoc.dma (sig := sig) cc0_scratch5.sem)

theorem store_pt (ℓ : Loc nD τ sig) (I : Finset (Idx ℓ)) (q : PosShare TreeShare) (f : Buf (Elt F) ℓ) :
    Storable (upEmb : UEmb _ 𝕄) (ℓ ↦[I]{q} f : sProp 𝕄) := inferInstance
theorem store_two {P Q : sProp 𝕄} (_ : Storable (upEmb : UEmb _ 𝕄) P) (_ : Storable (upEmb : UEmb _ 𝕄) Q) :
    Storable (upEmb : UEmb _ 𝕄) iprop(P ∗ Q) := inferInstance

/-- A buffer is the pieces of a partition of its elements. -/
theorem split_gen {A : Type} [Fintype A] [DecidableEq A] (ℓ : Loc nD τ sig) (q : PosShare TreeShare) (f : Buf (Elt F) ℓ) (W : A → Finset (Idx ℓ))
    (hc : ∀ y, ∃ k, y ∈ W k) (hd : ∀ k k', ∀ y, y ∈ W k → y ∈ W k' → k = k') :
    (ℓ ↦{q} f : sProp 𝕄) = bigSep Finset.univ fun k => (ℓ ↦[W k]{q} f : sProp 𝕄) := by
  rw [← pointsTo_biUnion Finset.univ W (fun k _ k' _ hk => Finset.disjoint_left.mpr fun y h h' => hk (hd k k' y h h'))]
  congr 1
  ext y
  obtain ⟨k, hk⟩ := hc y
  exact ⟨fun _ => Finset.mem_biUnion.mpr ⟨k, Finset.mem_univ _, hk⟩, fun _ => Finset.mem_univ _⟩

theorem sep16 (Φ : Fin 16 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

/-! ### Half 0 of a step -/

/-- Plane `k` of the half's output buffer. -/
def oS0 (k : Fin 16) : Memref sig .scVector .vmem S8x224 .f32 :=
  ((o0B).slice (Rect.unit (s := S16x8x224) ![k.val, 0, 0] S1x8x224.size (inbS k)) (fun _ => rfl)).squeeze S8x224 squeezes_S1x8x224_S8x224

/-- Where plane `k` goes in the result. -/
def oW0 (L : grid0.Coords) (t1 : Fin k0_t1_loop.trips) (t2 : Fin k0_t2_loop.trips) (k : Fin 16) : Memref sig .scVector .hbm S8x224 .f32 :=
  ((oV).slice (Rect.unit (s := S8x128x224x224) (k0_off21 L t1 t2 (BitVec.ofNat 32 k.val)) S1x1x8x224.size (k0_off21_inb L t1 t2 k)) (fun _ => rfl)).squeeze
    S8x224 squeezes_S1x1x8x224_S8x224

/-- The half's block of the image. -/
def xW0 (L : grid0.Coords) (t1 : Fin k0_t1_loop.trips) (t2 : Fin k0_t2_loop.trips) : Memref sig .scVector .hbm S8x224 .f32 :=
  ((xV).slice (Rect.unit (s := S8x8x224x224) (k0_off2 L t1 t2) S1x1x8x224.size (k0_off2_inb L t1 t2)) (fun _ => rfl)).squeeze
    S8x224 squeezes_S1x1x8x224_S8x224

/-- What the half's output buffer holds once its block is done. -/
def OB0 (L : grid0.Coords) (X : S8x8x224x224.Idx → F .f32) (T : S2560.Idx → F .f32) (t1 : Fin k0_t1_loop.trips) (t2 : Fin k0_t2_loop.trips) :
    S16x8x224.Idx → F .f32 :=
  GT (rowsOf (PB L T t1)) ((xW0 L t1 t2).view.read (Elt F) X)

/-- Plane `k` landed in the result, from the buffer's contents `f`, over `g`. -/
def land0 (L : grid0.Coords) (t1 : Fin k0_t1_loop.trips) (t2 : Fin k0_t2_loop.trips) (k : Fin 16) (f : S16x8x224.Idx → F .f32)
    (g : S8x128x224x224.Idx → F .f32) : S8x128x224x224.Idx → F .f32 :=
  (oW0 L t1 t2 k).view.writes (Elt F) g [⟨Rect.whole S8x224, ReadAs.same.apply ((oS0 k).view.read (Elt F) f)⟩]

/-- Plane `k`'s place in the result, held at `g`. -/
abbrev oPt0 (d : Dev nD) (L : grid0.Coords) (g : S8x128x224x224.Idx → F .f32) (t1 : Fin k0_t1_loop.trips) (t2 : Fin k0_t2_loop.trips) (k : Fin 16) : sProp 𝕄 :=
  (oW0 L t1 t2 k).view.loc (V d (cV L) (jV L)) ↦[(oW0 L t1 t2 k).view.set]{fullShare} g

/-- Plane `k` of the buffer, held at `f`. -/
abbrev sPt0 (d : Dev nD) (L : grid0.Coords) (f : S16x8x224.Idx → F .f32) (k : Fin 16) : sProp 𝕄 :=
  (oS0 k).view.loc (V d (cV L) (jV L)) ↦[(oS0 k).view.set]{fullShare} f

/-- What the copy of plane `k` gives back when it has landed. -/
def D0 (d : Dev nD) (L : grid0.Coords) (X : S8x8x224x224.Idx → F .f32) (T : S2560.Idx → F .f32) (g : S8x128x224x224.Idx → F .f32)
    (t1 : Fin k0_t1_loop.trips) (t2 : Fin k0_t2_loop.trips) (k : Fin 16) : sProp 𝕄 :=
  iprop(((oW0 L t1 t2 k).view.loc (V d (cV L) (jV L)) ↦[(oW0 L t1 t2 k).view.set]{fullShare}
      (oW0 L t1 t2 k).view.writes (Elt F) g [⟨Rect.whole S8x224, ReadAs.same.apply ((oS0 k).view.read (Elt F) (OB0 L X T t1 t2))⟩])
    ∗ ((oS0 k).view.loc (V d (cV L) (jV L)) ↦[(oS0 k).view.set]{fullShare} OB0 L X T t1 t2))

instance D0_storable (d : Dev nD) (L : grid0.Coords) (X : S8x8x224x224.Idx → F .f32) (T : S2560.Idx → F .f32) (g : S8x128x224x224.Idx → F .f32)
    (t1 : Fin k0_t1_loop.trips) (t2 : Fin k0_t2_loop.trips) (k : Fin 16) :
    Storable (upEmb : UEmb _ 𝕄) (D0 (F := F) d L X T g t1 t2 k) := by
  exact store_two (store_pt _ _ _ _) (store_pt _ _ _ _)

/-- The half's sixteen copies in flight. -/
def B0 (d : Dev nD) (L : grid0.Coords) (X : S8x8x224x224.Idx → F .f32) (T : S2560.Idx → F .f32) (g : S8x128x224x224.Idx → F .f32)
    (t1 : Fin k0_t1_loop.trips) (t2 : Fin k0_t2_loop.trips) : sProp 𝕄 :=
  Transfers.Batch EC (V d (cV L) (jV L)) (.dma cc0_scratch5.sem) (default : HIx 1) NN (D0 d L X T g t1 t2) 16 0

theorem set_oS0 (k : Fin 16) : (oS0 k).view.set = Finset.univ.filter (fun y : S16x8x224.Idx => (y 0).val = k.val) := by
  show (((o0B).view.slice (Rect.unit (s := S16x8x224) ![k.val, 0, 0] S1x8x224.size (inbS k))).reshape S8x224 _).set = _
  rw [View.set_reshape]
  refine (View.set_slice_whole _ _).trans ?_
  ext y
  rw [Rect.mem_set_unit]
  simp only [Finset.mem_filter, Finset.mem_univ, _root_.true_and]
  have h1 : (y 1).val < 8 := (y 1).isLt
  have h2 : (y 2).val < 224 := (y 2).isLt
  constructor
  · intro h
    have h0 := h 0
    change k.val ≤ (y 0).val ∧ (y 0).val < k.val + 1 at h0
    omega
  · intro h a
    match a with
    | 0 => show k.val ≤ (y 0).val ∧ (y 0).val < k.val + 1; omega
    | 1 => show 0 ≤ (y 1).val ∧ (y 1).val < 0 + 8; omega
    | 2 => show 0 ≤ (y 2).val ∧ (y 2).val < 0 + 224; omega

/-- The whole buffer is its sixteen planes. -/
theorem split_ob0 (d : Dev nD) (L : grid0.Coords) (f : S16x8x224.Idx → F .f32) :
    (((o0B).view.loc (V d (cV L) (jV L)) ↦{fullShare} f : sProp 𝕄)) = bigSep Finset.univ (sPt0 d L f) := by
  refine split_gen ((o0B).view.loc (V d (cV L) (jV L))) fullShare f (fun k : Fin 16 => (oS0 k).view.set) (fun y => ?_) (fun k k' y hy hy' => ?_)
  · refine ⟨(⟨(y 0).val, (y 0).isLt⟩ : Fin 16), ?_⟩
    rw [set_oS0]
    exact Finset.mem_filter.mpr ⟨Finset.mem_univ _, rfl⟩
  · rw [set_oS0] at hy hy'
    exact Fin.ext ((Finset.mem_filter.mp hy).2.symm.trans (Finset.mem_filter.mp hy').2)

/-! ### Half 1 of a step -/

/-- Plane `k` of the half's output buffer. -/
def oS1 (k : Fin 16) : Memref sig .scVector .vmem S8x224 .f32 :=
  ((o1B).slice (Rect.unit (s := S16x8x224) ![k.val, 0, 0] S1x8x224.size (inbS k)) (fun _ => rfl)).squeeze S8x224 squeezes_S1x8x224_S8x224

/-- Where plane `k` goes in the result. -/
def oW1 (L : grid0.Coords) (t1 : Fin k0_t1_loop.trips) (t2 : Fin k0_t2_loop.trips) (k : Fin 16) : Memref sig .scVector .hbm S8x224 .f32 :=
  ((oV).slice (Rect.unit (s := S8x128x224x224) (k0_off39 L t1 t2 (BitVec.ofNat 32 k.val)) S1x1x8x224.size (k0_off39_inb L t1 t2 k)) (fun _ => rfl)).squeeze
    S8x224 squeezes_S1x1x8x224_S8x224

/-- The half's block of the image. -/
def xW1 (L : grid0.Coords) (t1 : Fin k0_t1_loop.trips) (t2 : Fin k0_t2_loop.trips) : Memref sig .scVector .hbm S8x224 .f32 :=
  ((xV).slice (Rect.unit (s := S8x8x224x224) (k0_off3 L t1 t2) S1x1x8x224.size (k0_off3_inb L t1 t2)) (fun _ => rfl)).squeeze
    S8x224 squeezes_S1x1x8x224_S8x224

/-- What the half's output buffer holds once its block is done. -/
def OB1 (L : grid0.Coords) (X : S8x8x224x224.Idx → F .f32) (T : S2560.Idx → F .f32) (t1 : Fin k0_t1_loop.trips) (t2 : Fin k0_t2_loop.trips) :
    S16x8x224.Idx → F .f32 :=
  GT (rowsOf (PB L T t1)) ((xW1 L t1 t2).view.read (Elt F) X)

/-- Plane `k` landed in the result, from the buffer's contents `f`, over `g`. -/
def land1 (L : grid0.Coords) (t1 : Fin k0_t1_loop.trips) (t2 : Fin k0_t2_loop.trips) (k : Fin 16) (f : S16x8x224.Idx → F .f32)
    (g : S8x128x224x224.Idx → F .f32) : S8x128x224x224.Idx → F .f32 :=
  (oW1 L t1 t2 k).view.writes (Elt F) g [⟨Rect.whole S8x224, ReadAs.same.apply ((oS1 k).view.read (Elt F) f)⟩]

/-- Plane `k`'s place in the result, held at `g`. -/
abbrev oPt1 (d : Dev nD) (L : grid0.Coords) (g : S8x128x224x224.Idx → F .f32) (t1 : Fin k0_t1_loop.trips) (t2 : Fin k0_t2_loop.trips) (k : Fin 16) : sProp 𝕄 :=
  (oW1 L t1 t2 k).view.loc (V d (cV L) (jV L)) ↦[(oW1 L t1 t2 k).view.set]{fullShare} g

/-- Plane `k` of the buffer, held at `f`. -/
abbrev sPt1 (d : Dev nD) (L : grid0.Coords) (f : S16x8x224.Idx → F .f32) (k : Fin 16) : sProp 𝕄 :=
  (oS1 k).view.loc (V d (cV L) (jV L)) ↦[(oS1 k).view.set]{fullShare} f

/-- What the copy of plane `k` gives back when it has landed. -/
def D1 (d : Dev nD) (L : grid0.Coords) (X : S8x8x224x224.Idx → F .f32) (T : S2560.Idx → F .f32) (g : S8x128x224x224.Idx → F .f32)
    (t1 : Fin k0_t1_loop.trips) (t2 : Fin k0_t2_loop.trips) (k : Fin 16) : sProp 𝕄 :=
  iprop(((oW1 L t1 t2 k).view.loc (V d (cV L) (jV L)) ↦[(oW1 L t1 t2 k).view.set]{fullShare}
      (oW1 L t1 t2 k).view.writes (Elt F) g [⟨Rect.whole S8x224, ReadAs.same.apply ((oS1 k).view.read (Elt F) (OB1 L X T t1 t2))⟩])
    ∗ ((oS1 k).view.loc (V d (cV L) (jV L)) ↦[(oS1 k).view.set]{fullShare} OB1 L X T t1 t2))

instance D1_storable (d : Dev nD) (L : grid0.Coords) (X : S8x8x224x224.Idx → F .f32) (T : S2560.Idx → F .f32) (g : S8x128x224x224.Idx → F .f32)
    (t1 : Fin k0_t1_loop.trips) (t2 : Fin k0_t2_loop.trips) (k : Fin 16) :
    Storable (upEmb : UEmb _ 𝕄) (D1 (F := F) d L X T g t1 t2 k) := by
  exact store_two (store_pt _ _ _ _) (store_pt _ _ _ _)

/-- The half's sixteen copies in flight. -/
def B1 (d : Dev nD) (L : grid0.Coords) (X : S8x8x224x224.Idx → F .f32) (T : S2560.Idx → F .f32) (g : S8x128x224x224.Idx → F .f32)
    (t1 : Fin k0_t1_loop.trips) (t2 : Fin k0_t2_loop.trips) : sProp 𝕄 :=
  Transfers.Batch EC (V d (cV L) (jV L)) (.dma cc0_scratch6.sem) (default : HIx 1) NN (D1 d L X T g t1 t2) 16 0

theorem set_oS1 (k : Fin 16) : (oS1 k).view.set = Finset.univ.filter (fun y : S16x8x224.Idx => (y 0).val = k.val) := by
  show (((o1B).view.slice (Rect.unit (s := S16x8x224) ![k.val, 0, 0] S1x8x224.size (inbS k))).reshape S8x224 _).set = _
  rw [View.set_reshape]
  refine (View.set_slice_whole _ _).trans ?_
  ext y
  rw [Rect.mem_set_unit]
  simp only [Finset.mem_filter, Finset.mem_univ, _root_.true_and]
  have h1 : (y 1).val < 8 := (y 1).isLt
  have h2 : (y 2).val < 224 := (y 2).isLt
  constructor
  · intro h
    have h0 := h 0
    change k.val ≤ (y 0).val ∧ (y 0).val < k.val + 1 at h0
    omega
  · intro h a
    match a with
    | 0 => show k.val ≤ (y 0).val ∧ (y 0).val < k.val + 1; omega
    | 1 => show 0 ≤ (y 1).val ∧ (y 1).val < 0 + 8; omega
    | 2 => show 0 ≤ (y 2).val ∧ (y 2).val < 0 + 224; omega

/-- The whole buffer is its sixteen planes. -/
theorem split_ob1 (d : Dev nD) (L : grid0.Coords) (f : S16x8x224.Idx → F .f32) :
    (((o1B).view.loc (V d (cV L) (jV L)) ↦{fullShare} f : sProp 𝕄)) = bigSep Finset.univ (sPt1 d L f) := by
  refine split_gen ((o1B).view.loc (V d (cV L) (jV L))) fullShare f (fun k : Fin 16 => (oS1 k).view.set) (fun y => ?_) (fun k k' y hy hy' => ?_)
  · refine ⟨(⟨(y 0).val, (y 0).isLt⟩ : Fin 16), ?_⟩
    rw [set_oS1]
    exact Finset.mem_filter.mpr ⟨Finset.mem_univ _, rfl⟩
  · rw [set_oS1] at hy hy'
    exact Fin.ext ((Finset.mem_filter.mp hy).2.symm.trans (Finset.mem_filter.mp hy').2)

end Cert.Proof.Scm

end
-- ==== Proof.Rows.lean ====
/-
  The inner loops: the invariant, a trip of it, and the rows a trip reads.
-/
module

public import proofs.«01_k».proof.Proof.Windows

@[expose] public section

noncomputable section

namespace Cert.Proof.Scm

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "xV" => (Memref.whole Cert.KernelIdeal.main_arg0_scv : Memref Cert.KernelIdeal.sig Kind.scVector Space.hbm Cert.KernelIdeal.S8x8x224x224 EltTy.f32)
local notation "tV" => (Memref.whole Cert.KernelIdeal.main_v75_scv : Memref Cert.KernelIdeal.sig Kind.scVector Space.hbm Cert.KernelIdeal.S2560 EltTy.f32)
local notation "oV" => (Memref.whole Cert.KernelIdeal.main_v76_scv : Memref Cert.KernelIdeal.sig Kind.scVector Space.hbm Cert.KernelIdeal.S8x128x224x224 EltTy.f32)
local notation "pB" => (Memref.whole Cert.KernelIdeal.cc0_scratch0 : Memref Cert.KernelIdeal.sig Kind.scVector Space.vmem Cert.KernelIdeal.S320 EltTy.f32)
local notation "i0B" => (Memref.whole Cert.KernelIdeal.cc0_scratch1 : Memref Cert.KernelIdeal.sig Kind.scVector Space.vmem Cert.KernelIdeal.S8x224 EltTy.f32)
local notation "i1B" => (Memref.whole Cert.KernelIdeal.cc0_scratch2 : Memref Cert.KernelIdeal.sig Kind.scVector Space.vmem Cert.KernelIdeal.S8x224 EltTy.f32)
local notation "o0B" => (Memref.whole Cert.KernelIdeal.cc0_scratch3 : Memref Cert.KernelIdeal.sig Kind.scVector Space.vmem Cert.KernelIdeal.S16x8x224 EltTy.f32)
local notation "o1B" => (Memref.whole Cert.KernelIdeal.cc0_scratch4 : Memref Cert.KernelIdeal.sig Kind.scVector Space.vmem Cert.KernelIdeal.S16x8x224 EltTy.f32)

theorem row_at (P : S320.Idx → F .f32) (m : Fin 20) (off : ℕ) (h : off = m.val * 16) (inb : ∀ a, (![off] : Fin 1 → ℕ) a + S16.size a ≤ S320.size a) :
    (pB).view.readAt (Elt F) (Rect.unit (s := S320) ![off] S16.size inb).toLoadRect P = rowsOf P m := by
  subst h
  funext l
  show P _ = P _
  congr 1
  funext a
  match a with
  | 0 => exact Fin.ext (by show m.val * 16 + 1 * (l 0).val = m.val * 16 + (l 0).val; omega)

theorem row_cast (P : S320.Idx → F .f32) (m : Fin 20) (off : ℕ) (h : off = m.val * 16) (inb : ∀ a, (![off] : Fin 1 → ℕ) a + S16.size a ≤ S320.size a) :
    shapeCast S16 ((pB).view.readAt (Elt F) (Rect.unit (s := S320) ![off] S16.size inb).toLoadRect P) shapeCasts_S16_S16 = rowsOf P m := by
  rw [row_at P m off h inb]
  funext l
  show rowsOf P m (Shape.reshapeEquiv shapeCasts_S16_S16 l) = _
  simp only [Shape.reshapeEquiv_self]

def Below (R : Fin 20 → FVec F S16 .f32) (fx : S8x224.Idx → F .f32) (n : ℕ) (g : S16x8x224.Idx → F .f32) : Prop :=
  ∀ y, (y 1).val * 14 + (y 2).val / 16 < n → g y = GT R fx y

theorem below_succ {R : Fin 20 → FVec F S16 .f32} {fx : S8x224.Idx → F .f32} {n : ℕ} {g g' : S16x8x224.Idx → F .f32}
    (hg : Below R fx n g) (hs : Stored R fx n g g') : Below R fx (n + 1) g' := by
  intro y hy
  rw [hs y]
  split
  · rfl
  · exact hg y (by omega)

theorem below_all {R : Fin 20 → FVec F S16 .f32} {fx : S8x224.Idx → F .f32} {g : S16x8x224.Idx → F .f32}
    (hg : Below R fx 112 g) : g = GT R fx := by
  funext y
  have h1 : (y 1).val < 8 := (y 1).isLt
  have h2 : (y 2).val < 224 := (y 2).isLt
  exact hg y (by omega)

section
variable (d : Dev nD) (L : grid0.Coords)

/-- The inner loop's invariant: after `n` trips the first `n` groups of sixteen pixels are done in all planes. -/
def inv3 (R : Fin 20 → FVec F S16 .f32) (fx : Buf (Elt F) ((i0B).view.loc (V d (cV L) (jV L)))) (n : ℕ) (_ : PUnit) : sProp 𝕄 :=
  iprop(((i0B).view.loc (V d (cV L) (jV L)) ↦{fullShare} fx) ∗
    ∃ g' : Buf (Elt F) ((o0B).view.loc (V d (cV L) (jV L))), ⌜Below R fx n g'⌝ ∗ (o0B).view.loc (V d (cV L) (jV L)) ↦{fullShare} g')

theorem step3 (P : S320.Idx → F .f32) {r0 r1 r2 r3 r4 r5 r6 r7 r8 r9 r10 r11 r12 r13 r14 r15 r16 r17 r18 r19 : FVec F S16 .f32} (h0 : r0 = rowsOf P 0) (h1 : r1 = rowsOf P 1) (h2 : r2 = rowsOf P 2) (h3 : r3 = rowsOf P 3) (h4 : r4 = rowsOf P 4) (h5 : r5 = rowsOf P 5) (h6 : r6 = rowsOf P 6) (h7 : r7 = rowsOf P 7) (h8 : r8 = rowsOf P 8) (h9 : r9 = rowsOf P 9) (h10 : r10 = rowsOf P 10) (h11 : r11 = rowsOf P 11) (h12 : r12 = rowsOf P 12) (h13 : r13 = rowsOf P 13) (h14 : r14 = rowsOf P 14) (h15 : r15 = rowsOf P 15) (h16 : r16 = rowsOf P 16) (h17 : r17 = rowsOf P 17) (h18 : r18 = rowsOf P 18) (h19 : r19 = rowsOf P 19)
    (t1 : Fin k0_t1_loop.trips) (v279 : BitVec 32) (t2 : Fin k0_t2_loop.trips)
    (fx : Buf (Elt F) ((i0B).view.loc (V d (cV L) (jV L)))) (k : Fin k0_t3_loop.trips) (u : PUnit) :
    inv3 d L (rowsOf P) fx k.val u
      ⊢ wp frame (wpE (defs₀ (F := F)) 𝒱₀ (V d (cV L) (jV L)) none) Set.univ
          (k0_t3_body L xV (Memref.isWhole_whole _) tV (Memref.isWhole_whole _) oV (Memref.isWhole_whole _) pB (Memref.isWhole_whole _)
            i0B (Memref.isWhole_whole _) i1B (Memref.isWhole_whole _) o0B (Memref.isWhole_whole _) o1B (Memref.isWhole_whole _)
            cc0_scratch5 cc0_scratch6 cc0_scratch7 cc0_scratch8 cc0_scoped0 t1 v279 t2 r0 r1 r2 r3 r4 r5 r6 r7 r8 r9 r10 r11 r12 r13 r14 r15 r16 r17 r18 r19 k u)
          fun u' => inv3 d L (rowsOf P) fx (k.val + 1) u' := by
  subst h0 h1 h2 h3 h4 h5 h6 h7 h8 h9 h10 h11 h12 h13 h14 h15 h16 h17 h18 h19
  unfold inv3
  iintro ⟨Hi, %g', %hg, Ho⟩
  ihave Hw := (trip3 d L (rowsOf P) t1 v279 t2 fx g' k) $$ [Hi Ho]
  · isplitl [Hi] <;> iassumption
  iapply (wp_wand_r Idealize.ShloMosaic.frame (wpE (defs₀ (F := F)) 𝒱₀ (V d (cV L) (jV L)) none) Set.univ) $$ [Hw]
  isplitl [Hw]; · iexact Hw
  iintro %_ ⟨Hi, %g2, %hs, Ho⟩
  isplitl [Hi]; · iexact Hi
  iexists g2
  isplitr; · ipureintro; exact below_succ hg hs
  iexact Ho

/-- The inner loop's invariant: after `n` trips the first `n` groups of sixteen pixels are done in all planes. -/
def inv4 (R : Fin 20 → FVec F S16 .f32) (fx : Buf (Elt F) ((i1B).view.loc (V d (cV L) (jV L)))) (n : ℕ) (_ : PUnit) : sProp 𝕄 :=
  iprop(((i1B).view.loc (V d (cV L) (jV L)) ↦{fullShare} fx) ∗
    ∃ g' : Buf (Elt F) ((o1B).view.loc (V d (cV L) (jV L))), ⌜Below R fx n g'⌝ ∗ (o1B).view.loc (V d (cV L) (jV L)) ↦{fullShare} g')

theorem step4 (P : S320.Idx → F .f32) {r0 r1 r2 r3 r4 r5 r6 r7 r8 r9 r10 r11 r12 r13 r14 r15 r16 r17 r18 r19 : FVec F S16 .f32} (h0 : r0 = rowsOf P 0) (h1 : r1 = rowsOf P 1) (h2 : r2 = rowsOf P 2) (h3 : r3 = rowsOf P 3) (h4 : r4 = rowsOf P 4) (h5 : r5 = rowsOf P 5) (h6 : r6 = rowsOf P 6) (h7 : r7 = rowsOf P 7) (h8 : r8 = rowsOf P 8) (h9 : r9 = rowsOf P 9) (h10 : r10 = rowsOf P 10) (h11 : r11 = rowsOf P 11) (h12 : r12 = rowsOf P 12) (h13 : r13 = rowsOf P 13) (h14 : r14 = rowsOf P 14) (h15 : r15 = rowsOf P 15) (h16 : r16 = rowsOf P 16) (h17 : r17 = rowsOf P 17) (h18 : r18 = rowsOf P 18) (h19 : r19 = rowsOf P 19)
    (t1 : Fin k0_t1_loop.trips) (v279 v287 : BitVec 32) (t2 : Fin k0_t2_loop.trips)
    (fx : Buf (Elt F) ((i1B).view.loc (V d (cV L) (jV L)))) (k : Fin k0_t4_loop.trips) (u : PUnit) :
    inv4 d L (rowsOf P) fx k.val u
      ⊢ wp frame (wpE (defs₀ (F := F)) 𝒱₀ (V d (cV L) (jV L)) none) Set.univ
          (k0_t4_body L xV (Memref.isWhole_whole _) tV (Memref.isWhole_whole _) oV (Memref.isWhole_whole _) pB (Memref.isWhole_whole _)
            i0B (Memref.isWhole_whole _) i1B (Memref.isWhole_whole _) o0B (Memref.isWhole_whole _) o1B (Memref.isWhole_whole _)
            cc0_scratch5 cc0_scratch6 cc0_scratch7 cc0_scratch8 cc0_scoped0 t1 v279 t2 v287 r0 r1 r2 r3 r4 r5 r6 r7 r8 r9 r10 r11 r12 r13 r14 r15 r16 r17 r18 r19 k u)
          fun u' => inv4 d L (rowsOf P) fx (k.val + 1) u' := by
  subst h0 h1 h2 h3 h4 h5 h6 h7 h8 h9 h10 h11 h12 h13 h14 h15 h16 h17 h18 h19
  unfold inv4
  iintro ⟨Hi, %g', %hg, Ho⟩
  ihave Hw := (trip4 d L (rowsOf P) t1 v279 v287 t2 fx g' k) $$ [Hi Ho]
  · isplitl [Hi] <;> iassumption
  iapply (wp_wand_r Idealize.ShloMosaic.frame (wpE (defs₀ (F := F)) 𝒱₀ (V d (cV L) (jV L)) none) Set.univ) $$ [Hw]
  isplitl [Hw]; · iexact Hw
  iintro %_ ⟨Hi, %g2, %hs, Ho⟩
  isplitl [Hi]; · iexact Hi
  iexists g2
  isplitr; · ipureintro; exact below_succ hg hs
  iexact Ho

end

end Cert.Proof.Scm

end
-- ==== Proof.Global.lean ====
/-
  The response of the whole image, and what each window of the result holds of it.
-/
module

public import proofs.«01_k».proof.Proof.Windows
public import Idealize.ShloMosaic.Lib.ValueLayout

@[expose] public section

noncomputable section

namespace Cert.Proof.Scm

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "xV" => (Memref.whole Cert.KernelIdeal.main_arg0_scv : Memref Cert.KernelIdeal.sig Kind.scVector Space.hbm Cert.KernelIdeal.S8x8x224x224 EltTy.f32)
local notation "tV" => (Memref.whole Cert.KernelIdeal.main_v75_scv : Memref Cert.KernelIdeal.sig Kind.scVector Space.hbm Cert.KernelIdeal.S2560 EltTy.f32)
local notation "oV" => (Memref.whole Cert.KernelIdeal.main_v76_scv : Memref Cert.KernelIdeal.sig Kind.scVector Space.hbm Cert.KernelIdeal.S8x128x224x224 EltTy.f32)
local notation "pB" => (Memref.whole Cert.KernelIdeal.cc0_scratch0 : Memref Cert.KernelIdeal.sig Kind.scVector Space.vmem Cert.KernelIdeal.S320 EltTy.f32)
local notation "i0B" => (Memref.whole Cert.KernelIdeal.cc0_scratch1 : Memref Cert.KernelIdeal.sig Kind.scVector Space.vmem Cert.KernelIdeal.S8x224 EltTy.f32)
local notation "i1B" => (Memref.whole Cert.KernelIdeal.cc0_scratch2 : Memref Cert.KernelIdeal.sig Kind.scVector Space.vmem Cert.KernelIdeal.S8x224 EltTy.f32)
local notation "o0B" => (Memref.whole Cert.KernelIdeal.cc0_scratch3 : Memref Cert.KernelIdeal.sig Kind.scVector Space.vmem Cert.KernelIdeal.S16x8x224 EltTy.f32)
local notation "o1B" => (Memref.whole Cert.KernelIdeal.cc0_scratch4 : Memref Cert.KernelIdeal.sig Kind.scVector Space.vmem Cert.KernelIdeal.S16x8x224 EltTy.f32)

open Idealize.ShloMosaic.ValueIdx
/-- The result: plane `16 c + k` at a pixel is the `k`-th response of channel `c`'s pixel, by the lane of the table its column reads. -/
def GG (X : S8x8x224x224.Idx → F .f32) (T : S2560.Idx → F .f32) (y : S8x128x224x224.Idx) : F .f32 :=
  lane (fun m => T (fun | 0 => ⟨(y 1).val / 16 * 320 + m.val * 16 + (y 3).val % 16, by
      have h : (y 1).val < 128 := (y 1).isLt
      have := m.isLt
      show _ < 2560
      omega⟩))
    (X (fun | 0 => y 0 | 1 => ⟨(y 1).val / 16, by have h : (y 1).val < 128 := (y 1).isLt; show _ < 8; omega⟩ | 2 => y 2 | 3 => y 3))
    ⟨(y 1).val % 16, Nat.mod_lt _ (by decide)⟩

theorem lane_congr {T T' : Fin 20 → F .f32} {x x' : F .f32} {k k' : Fin 16} (hT : ∀ m, T m = T' m) (hx : x = x') (hk : k = k') :
    lane T x k = lane T' x' k' := by
  rw [show T = T' from funext hT, hx, hk]

theorem slab_lt (L : grid0.Coords) (t1 : Fin k0_t1_loop.trips) : slab L t1.val < 64 := by
  have h0 : (L 0).val < 2 := (L 0).isLt
  have h1 : (L 1).val < 16 := (L 1).isLt
  have h2 : t1.val < 2 := t1.isLt
  unfold slab
  omega

theorem PB_apply (L : grid0.Coords) (T : S2560.Idx → F .f32) (t1 : Fin k0_t1_loop.trips) (i : S320.Idx) (z : S2560.Idx)
    (hz : (z 0).val = slab L t1.val % 8 * 320 + (i 0).val) : PB L T t1 i = T z := by
  show T ((Rect.unit (s := S2560) (k0_off1 L t1) S320.size (k0_off1_inb L t1)).idx i) = T z
  congr 1
  funext a
  match a with
  | 0 =>
    refine Fin.ext ?_
    show k0_off1 L t1 0 + 1 * (i 0).val = _
    rw [off1_eq, hz]
    show slab L t1.val % 8 * 320 + 1 * (i 0).val = _
    omega

theorem off21_eqv (i : grid0.Coords) (t1 : Fin k0_t1_loop.trips) (t2 : Fin k0_t2_loop.trips) (c : Fin 16) :
    k0_off21 i t1 t2 (BitVec.ofNat 32 c.val) = ![slab i t1.val / 8, slab i t1.val % 8 * 16 + c.val, t2.val * 16, 0] := off21_eq i t1 t2 c
theorem off39_eqv (i : grid0.Coords) (t1 : Fin k0_t1_loop.trips) (t2 : Fin k0_t2_loop.trips) (c : Fin 16) :
    k0_off39 i t1 t2 (BitVec.ofNat 32 c.val) = ![slab i t1.val / 8, slab i t1.val % 8 * 16 + c.val, t2.val * 16 + 8, 0] := off39_eq i t1 t2 c
theorem off2_eqv (i : grid0.Coords) (t1 : Fin k0_t1_loop.trips) (t2 : Fin k0_t2_loop.trips) :
    k0_off2 i t1 t2 = ![slab i t1.val / 8, slab i t1.val % 8, t2.val * 16, 0] := off2_eq i t1 t2
theorem off3_eqv (i : grid0.Coords) (t1 : Fin k0_t1_loop.trips) (t2 : Fin k0_t2_loop.trips) :
    k0_off3 i t1 t2 = ![slab i t1.val / 8, slab i t1.val % 8, t2.val * 16 + 8, 0] := off3_eq i t1 t2

/-! ### Half 0 -/

theorem oW0_emb (L : grid0.Coords) (t1 : Fin k0_t1_loop.trips) (t2 : Fin k0_t2_loop.trips) (k : Fin 16) (x : Fin 8) (y : Fin 224) :
    let z : S8x128x224x224.Idx := (oW0 L t1 t2 k).view.emb (ix2 x y)
    (z 0).val = slab L t1.val / 8 ∧ (z 1).val = slab L t1.val % 8 * 16 + k.val ∧ (z 2).val = t2.val * 16 + x.val ∧ (z 3).val = y.val := by
  intro z
  have e : z = (Rect.unit (s := S8x128x224x224) (k0_off21 L t1 t2 (BitVec.ofNat 32 k.val)) S1x1x8x224.size (k0_off21_inb L t1 t2 k)).idx
      (Shape.reshapeEquiv squeezes_S1x1x8x224_S8x224.numel_eq (ix2 x y)) := rfl
  rw [e, reshapeEquiv_ix2_11ab]
  have o := off21_eqv L t1 t2 k
  refine ⟨?_, ?_, ?_, ?_⟩
  · show k0_off21 L t1 t2 (BitVec.ofNat 32 k.val) 0 + 1 * 0 = _
    rw [o]; rfl
  · show k0_off21 L t1 t2 (BitVec.ofNat 32 k.val) 1 + 1 * 0 = _
    rw [o]; rfl
  · show k0_off21 L t1 t2 (BitVec.ofNat 32 k.val) 2 + 1 * x.val = _
    rw [o, Nat.one_mul]; rfl
  · show k0_off21 L t1 t2 (BitVec.ofNat 32 k.val) 3 + 1 * y.val = _
    rw [o, Nat.one_mul]; exact Nat.zero_add _

theorem xW0_read (L : grid0.Coords) (X : S8x8x224x224.Idx → F .f32) (t1 : Fin k0_t1_loop.trips) (t2 : Fin k0_t2_loop.trips) (x : Fin 8) (y : Fin 224)
    (z : S8x8x224x224.Idx) (h0 : (z 0).val = slab L t1.val / 8) (h1 : (z 1).val = slab L t1.val % 8) (h2 : (z 2).val = t2.val * 16 + x.val)
    (h3 : (z 3).val = y.val) : (xW0 L t1 t2).view.read (Elt F) X (ix2 x y) = X z := by
  show X ((Rect.unit (s := S8x8x224x224) (k0_off2 L t1 t2) S1x1x8x224.size (k0_off2_inb L t1 t2)).idx
      (Shape.reshapeEquiv squeezes_S1x1x8x224_S8x224.numel_eq (ix2 x y))) = X z
  rw [reshapeEquiv_ix2_11ab]
  have o := off2_eqv L t1 t2
  congr 1
  funext a
  match a with
  | 0 => exact Fin.ext (by show k0_off2 L t1 t2 0 + 1 * 0 = _; rw [o, h0]; rfl)
  | 1 => exact Fin.ext (by show k0_off2 L t1 t2 1 + 1 * 0 = _; rw [o, h1]; rfl)
  | 2 => exact Fin.ext (by show k0_off2 L t1 t2 2 + 1 * x.val = _; rw [o, h2, Nat.one_mul]; rfl)
  | 3 => exact Fin.ext (by show k0_off2 L t1 t2 3 + 1 * y.val = _; rw [o, h3, Nat.one_mul]; exact Nat.zero_add _)

theorem oS0_read (f : S16x8x224.Idx → F .f32) (k : Fin 16) (x : Fin 8) (y : Fin 224) :
    (oS0 k).view.read (Elt F) f (ix2 x y) = f (ix3 k x y) := by
  show f ((Rect.unit (s := S16x8x224) ![k.val, 0, 0] S1x8x224.size (inbS k)).idx (Shape.reshapeEquiv squeezes_S1x8x224_S8x224.numel_eq (ix2 x y))) = _
  rw [reshapeEquiv_ix2_1ab]
  congr 1
  funext a
  match a with
  | 0 => exact Fin.ext (by show k.val + 1 * 0 = _; rfl)
  | 1 => exact Fin.ext (by show 0 + 1 * x.val = x.val; omega)
  | 2 => exact Fin.ext (by show 0 + 1 * y.val = y.val; omega)

theorem val0 (L : grid0.Coords) (X : S8x8x224x224.Idx → F .f32) (T : S2560.Idx → F .f32) (t1 : Fin k0_t1_loop.trips) (t2 : Fin k0_t2_loop.trips)
    (k : Fin 16) : (oW0 L t1 t2 k).view.read (Elt F) (GG X T) = (oS0 k).view.read (Elt F) (OB0 L X T t1 t2) := by
  funext j
  obtain ⟨x, y, rfl⟩ : ∃ (x : Fin 8) (y : Fin 224), j = ix2 x y := ⟨j 0, j 1, by funext a; match a with | 0 => rfl | 1 => rfl⟩
  rw [oS0_read]
  obtain ⟨h0, h1, h2, h3⟩ := oW0_emb L t1 t2 k x y
  have hs := slab_lt L t1
  have hk := k.isLt
  suffices key : ∀ z : S8x128x224x224.Idx, (z 0).val = slab L t1.val / 8 → (z 1).val = slab L t1.val % 8 * 16 + k.val →
      (z 2).val = t2.val * 16 + x.val → (z 3).val = y.val →
      GG X T z = GT (rowsOf (PB L T t1)) ((xW0 L t1 t2).view.read (Elt F) X) (ix3 k x y) from key _ h0 h1 h2 h3
  clear h0 h1 h2 h3
  intro z h0 h1 h2 h3
  unfold GG GT
  refine lane_congr (fun m => ?_) ?_ (Fin.ext ?_)
  · refine (PB_apply L T t1 _ _ ?_).symm
    show (z 1).val / 16 * 320 + m.val * 16 + (z 3).val % 16 = slab L t1.val % 8 * 320 + (m.val * 16 + (y.val % 16))
    rw [h1, h3]
    omega
  · have e : (fun | 0 => (ix3 k x y) 1 | 1 => (ix3 k x y) 2 : S8x224.Idx) = ix2 x y := by
      funext a; match a with | 0 => rfl | 1 => rfl
    refine .trans ?_ (congrArg ((xW0 L t1 t2).view.read (Elt F) X) e.symm)
    refine (xW0_read L X t1 t2 x y _ h0 ?_ h2 h3).symm
    show (z 1).val / 16 = _
    rw [h1]
    omega
  · show (z 1).val % 16 = k.val
    rw [h1]
    omega

/-- A plane landed over any contents is that window of the result. -/
theorem fin0 (d : Dev nD) (L : grid0.Coords) (X : S8x8x224x224.Idx → F .f32) (T : S2560.Idx → F .f32) (t1 : Fin k0_t1_loop.trips)
    (t2 : Fin k0_t2_loop.trips) (k : Fin 16) (f0 : (oW0 L t1 t2 k).view.ty.Contents (Elt F)) :
    ((oW0 L t1 t2 k).view.loc (V d (cV L) (jV L)) ↦[(oW0 L t1 t2 k).view.set]{fullShare}
      (oW0 L t1 t2 k).view.writes (Elt F) f0 [⟨Rect.whole S8x224, ReadAs.same.apply ((oS0 k).view.read (Elt F) (OB0 L X T t1 t2))⟩] : sProp 𝕄)
      ⊢ oPt0 d L (GG X T) t1 t2 k := by
  refine Entails.of_eq (pointsTo_congr fun z hz => ?_)
  obtain ⟨j, -, rfl⟩ := Finset.mem_map.mp hz
  refine (congrFun (View.read_writes_whole (Val := Elt F) (oW0 L t1 t2 k).view f0 _) j).trans ?_
  exact (congrFun (val0 L X T t1 t2 k) j).symm

/-! ### Half 1 -/

theorem oW1_emb (L : grid0.Coords) (t1 : Fin k0_t1_loop.trips) (t2 : Fin k0_t2_loop.trips) (k : Fin 16) (x : Fin 8) (y : Fin 224) :
    let z : S8x128x224x224.Idx := (oW1 L t1 t2 k).view.emb (ix2 x y)
    (z 0).val = slab L t1.val / 8 ∧ (z 1).val = slab L t1.val % 8 * 16 + k.val ∧ (z 2).val = t2.val * 16 + 8 + x.val ∧ (z 3).val = y.val := by
  intro z
  have e : z = (Rect.unit (s := S8x128x224x224) (k0_off39 L t1 t2 (BitVec.ofNat 32 k.val)) S1x1x8x224.size (k0_off39_inb L t1 t2 k)).idx
      (Shape.reshapeEquiv squeezes_S1x1x8x224_S8x224.numel_eq (ix2 x y)) := rfl
  rw [e, reshapeEquiv_ix2_11ab]
  have o := off39_eqv L t1 t2 k
  refine ⟨?_, ?_, ?_, ?_⟩
  · show k0_off39 L t1 t2 (BitVec.ofNat 32 k.val) 0 + 1 * 0 = _
    rw [o]; rfl
  · show k0_off39 L t1 t2 (BitVec.ofNat 32 k.val) 1 + 1 * 0 = _
    rw [o]; rfl
  · show k0_off39 L t1 t2 (BitVec.ofNat 32 k.val) 2 + 1 * x.val = _
    rw [o, Nat.one_mul]; rfl
  · show k0_off39 L t1 t2 (BitVec.ofNat 32 k.val) 3 + 1 * y.val = _
    rw [o, Nat.one_mul]; exact Nat.zero_add _

theorem xW1_read (L : grid0.Coords) (X : S8x8x224x224.Idx → F .f32) (t1 : Fin k0_t1_loop.trips) (t2 : Fin k0_t2_loop.trips) (x : Fin 8) (y : Fin 224)
    (z : S8x8x224x224.Idx) (h0 : (z 0).val = slab L t1.val / 8) (h1 : (z 1).val = slab L t1.val % 8) (h2 : (z 2).val = t2.val * 16 + 8 + x.val)
    (h3 : (z 3).val = y.val) : (xW1 L t1 t2).view.read (Elt F) X (ix2 x y) = X z := by
  show X ((Rect.unit (s := S8x8x224x224) (k0_off3 L t1 t2) S1x1x8x224.size (k0_off3_inb L t1 t2)).idx
      (Shape.reshapeEquiv squeezes_S1x1x8x224_S8x224.numel_eq (ix2 x y))) = X z
  rw [reshapeEquiv_ix2_11ab]
  have o := off3_eqv L t1 t2
  congr 1
  funext a
  match a with
  | 0 => exact Fin.ext (by show k0_off3 L t1 t2 0 + 1 * 0 = _; rw [o, h0]; rfl)
  | 1 => exact Fin.ext (by show k0_off3 L t1 t2 1 + 1 * 0 = _; rw [o, h1]; rfl)
  | 2 => exact Fin.ext (by show k0_off3 L t1 t2 2 + 1 * x.val = _; rw [o, h2, Nat.one_mul]; rfl)
  | 3 => exact Fin.ext (by show k0_off3 L t1 t2 3 + 1 * y.val = _; rw [o, h3, Nat.one_mul]; exact Nat.zero_add _)

theorem oS1_read (f : S16x8x224.Idx → F .f32) (k : Fin 16) (x : Fin 8) (y : Fin 224) :
    (oS1 k).view.read (Elt F) f (ix2 x y) = f (ix3 k x y) := by
  show f ((Rect.unit (s := S16x8x224) ![k.val, 0, 0] S1x8x224.size (inbS k)).idx (Shape.reshapeEquiv squeezes_S1x8x224_S8x224.numel_eq (ix2 x y))) = _
  rw [reshapeEquiv_ix2_1ab]
  congr 1
  funext a
  match a with
  | 0 => exact Fin.ext (by show k.val + 1 * 0 = _; rfl)
  | 1 => exact Fin.ext (by show 0 + 1 * x.val = x.val; omega)
  | 2 => exact Fin.ext (by show 0 + 1 * y.val = y.val; omega)

theorem val1 (L : grid0.Coords) (X : S8x8x224x224.Idx → F .f32) (T : S2560.Idx → F .f32) (t1 : Fin k0_t1_loop.trips) (t2 : Fin k0_t2_loop.trips)
    (k : Fin 16) : (oW1 L t1 t2 k).view.read (Elt F) (GG X T) = (oS1 k).view.read (Elt F) (OB1 L X T t1 t2) := by
  funext j
  obtain ⟨x, y, rfl⟩ : ∃ (x : Fin 8) (y : Fin 224), j = ix2 x y := ⟨j 0, j 1, by funext a; match a with | 0 => rfl | 1 => rfl⟩
  rw [oS1_read]
  obtain ⟨h0, h1, h2, h3⟩ := oW1_emb L t1 t2 k x y
  have hs := slab_lt L t1
  have hk := k.isLt
  suffices key : ∀ z : S8x128x224x224.Idx, (z 0).val = slab L t1.val / 8 → (z 1).val = slab L t1.val % 8 * 16 + k.val →
      (z 2).val = t2.val * 16 + 8 + x.val → (z 3).val = y.val →
      GG X T z = GT (rowsOf (PB L T t1)) ((xW1 L t1 t2).view.read (Elt F) X) (ix3 k x y) from key _ h0 h1 h2 h3
  clear h0 h1 h2 h3
  intro z h0 h1 h2 h3
  unfold GG GT
  refine lane_congr (fun m => ?_) ?_ (Fin.ext ?_)
  · refine (PB_apply L T t1 _ _ ?_).symm
    show (z 1).val / 16 * 320 + m.val * 16 + (z 3).val % 16 = slab L t1.val % 8 * 320 + (m.val * 16 + (y.val % 16))
    rw [h1, h3]
    omega
  · have e : (fun | 0 => (ix3 k x y) 1 | 1 => (ix3 k x y) 2 : S8x224.Idx) = ix2 x y := by
      funext a; match a with | 0 => rfl | 1 => rfl
    refine .trans ?_ (congrArg ((xW1 L t1 t2).view.read (Elt F) X) e.symm)
    refine (xW1_read L X t1 t2 x y _ h0 ?_ h2 h3).symm
    show (z 1).val / 16 = _
    rw [h1]
    omega
  · show (z 1).val % 16 = k.val
    rw [h1]
    omega

/-- A plane landed over any contents is that window of the result. -/
theorem fin1 (d : Dev nD) (L : grid0.Coords) (X : S8x8x224x224.Idx → F .f32) (T : S2560.Idx → F .f32) (t1 : Fin k0_t1_loop.trips)
    (t2 : Fin k0_t2_loop.trips) (k : Fin 16) (f0 : (oW1 L t1 t2 k).view.ty.Contents (Elt F)) :
    ((oW1 L t1 t2 k).view.loc (V d (cV L) (jV L)) ↦[(oW1 L t1 t2 k).view.set]{fullShare}
      (oW1 L t1 t2 k).view.writes (Elt F) f0 [⟨Rect.whole S8x224, ReadAs.same.apply ((oS1 k).view.read (Elt F) (OB1 L X T t1 t2))⟩] : sProp 𝕄)
      ⊢ oPt1 d L (GG X T) t1 t2 k := by
  refine Entails.of_eq (pointsTo_congr fun z hz => ?_)
  obtain ⟨j, -, rfl⟩ := Finset.mem_map.mp hz
  refine (congrFun (View.read_writes_whole (Val := Elt F) (oW1 L t1 t2 k).view f0 _) j).trans ?_
  exact (congrFun (val1 L X T t1 t2 k) j).symm

end Cert.Proof.Scm

end
-- ==== Proof.Step.lean ====
/-
  One trip of the loop over the image's rows.
-/
module

public import proofs.«01_k».proof.Proof.Rows
public import proofs.«01_k».proof.Proof.Global

@[expose] public section

noncomputable section

namespace Cert.Proof.Scm

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "xV" => (Memref.whole Cert.KernelIdeal.main_arg0_scv : Memref Cert.KernelIdeal.sig Kind.scVector Space.hbm Cert.KernelIdeal.S8x8x224x224 EltTy.f32)
local notation "tV" => (Memref.whole Cert.KernelIdeal.main_v75_scv : Memref Cert.KernelIdeal.sig Kind.scVector Space.hbm Cert.KernelIdeal.S2560 EltTy.f32)
local notation "oV" => (Memref.whole Cert.KernelIdeal.main_v76_scv : Memref Cert.KernelIdeal.sig Kind.scVector Space.hbm Cert.KernelIdeal.S8x128x224x224 EltTy.f32)
local notation "pB" => (Memref.whole Cert.KernelIdeal.cc0_scratch0 : Memref Cert.KernelIdeal.sig Kind.scVector Space.vmem Cert.KernelIdeal.S320 EltTy.f32)
local notation "i0B" => (Memref.whole Cert.KernelIdeal.cc0_scratch1 : Memref Cert.KernelIdeal.sig Kind.scVector Space.vmem Cert.KernelIdeal.S8x224 EltTy.f32)
local notation "i1B" => (Memref.whole Cert.KernelIdeal.cc0_scratch2 : Memref Cert.KernelIdeal.sig Kind.scVector Space.vmem Cert.KernelIdeal.S8x224 EltTy.f32)
local notation "o0B" => (Memref.whole Cert.KernelIdeal.cc0_scratch3 : Memref Cert.KernelIdeal.sig Kind.scVector Space.vmem Cert.KernelIdeal.S16x8x224 EltTy.f32)
local notation "o1B" => (Memref.whole Cert.KernelIdeal.cc0_scratch4 : Memref Cert.KernelIdeal.sig Kind.scVector Space.vmem Cert.KernelIdeal.S16x8x224 EltTy.f32)

/-- The word that says a step is not the tile's first. -/
abbrev cnd (t1 : Fin k0_t1_loop.trips) (t2 : Fin k0_t2_loop.trips) : BitVec 1 :=
  Scalar.cmpi .ne (Scalar.extui (Scalar.cmpi .sgt (Scalar.addi (Scalar.muli (Scf.iv 0#32 1#32 t1) 14#32) (Scf.iv 0#32 1#32 t2)) 0#32) : BitVec 32) 0#32

/-- The waits recorded since `W` are at the transfers' own index. -/
def OKW (W W' : Waits sig (HIx 1)) : Prop := ∀ p ∈ W', p ∈ W ∨ p.2 = none

theorem OKW.refl (W : Waits sig (HIx 1)) : OKW W W := fun _ h => Or.inl h
theorem OKW.ins {W W' : Waits sig (HIx 1)} (h : OKW W W') (s : SemLoc sig) : OKW W (insert (s, default) W') := by
  intro p hp
  rcases Finset.mem_insert.mp hp with e | e
  · exact Or.inr (e ▸ rfl)
  · exact h p e

section
variable (d : Dev nD) (L : grid0.Coords) (X : S8x8x224x224.Idx → F .f32) (T : S2560.Idx → F .f32) (g : S8x128x224x224.Idx → F .f32)
  (q q' : PosShare TreeShare) (O : CellTallies nD τ sig (HIx 1)) (W : Waits sig (HIx 1))

/-- What a tile holds between steps of channel `t1`, apart from the output buffers and the result. -/
def Core (P : S320.Idx → F .f32) : sProp 𝕄 :=
  iprop(((xV).view.loc (V d (cV L) (jV L)) ↦{q} X) ∗ ((xV).view.loc (V d (cV L) (jV L)) ↦{q'} X)
    ∗ ((pB).view.loc (V d (cV L) (jV L)) ↦{fullShare} P)
    ∗ (∃ f, (i0B).view.loc (V d (cV L) (jV L)) ↦{fullShare} f) ∗ (∃ f, (i1B).view.loc (V d (cV L) (jV L)) ↦{fullShare} f)
    ∗ semVal ((V d (cV L) (jV L)), SemLoc.dma cc0_scratch7.sem) 0 ∗ semVal ((V d (cV L) (jV L)), SemLoc.dma cc0_scratch8.sem) 0
    ∗ ∃ W', ⌜OKW W W'⌝ ∗ owes (V d (cV L) (jV L)) O W')

/-- Half 0's sixteen planes landed. -/
def Land0 (t1 : Fin k0_t1_loop.trips) (t2 : Fin k0_t2_loop.trips) : sProp 𝕄 :=
  bigSep Finset.univ fun k => oPt0 d L (GG X T) t1 t2 k
/-- Half 1's sixteen planes landed. -/
def Land1 (t1 : Fin k0_t1_loop.trips) (t2 : Fin k0_t2_loop.trips) : sProp 𝕄 :=
  bigSep Finset.univ fun k => oPt1 d L (GG X T) t1 t2 k

set_option maxHeartbeats 4000000 in
theorem step_next (t1 : Fin k0_t1_loop.trips) (t2 : Fin k0_t2_loop.trips) (p1 : Fin k0_t1_loop.trips) (p2 : Fin k0_t2_loop.trips) (hc : cnd t1 t2 = 1#1) (v279 a : BitVec 32) :
    (iprop(Transfers.MayWaits (V d (cV L) (jV L)) (default : HIx 1) O ∗ Core d L X q q' O W (PB L T t1)
        ∗ B0 d L X T g p1 p2 ∗ B1 d L X T g p1 p2
        ∗ bigSep Finset.univ (oPt0 d L g t1 t2) ∗ bigSep Finset.univ (oPt1 d L g t1 t2)) : sProp 𝕄)
      ⊢ wp frame (wpE (defs₀ (F := F)) 𝒱₀ (V d (cV L) (jV L)) none) Set.univ
          (k0_t2_body L xV (Memref.isWhole_whole _) tV (Memref.isWhole_whole _) oV (Memref.isWhole_whole _) pB (Memref.isWhole_whole _)
            i0B (Memref.isWhole_whole _) i1B (Memref.isWhole_whole _) o0B (Memref.isWhole_whole _) o1B (Memref.isWhole_whole _)
            cc0_scratch5 cc0_scratch6 cc0_scratch7 cc0_scratch8 cc0_scoped0 t1 (Scf.iv 0#32 1#32 t1) v279 t2 a)
          fun _ => iprop(Core d L X q q' O W (PB L T t1) ∗ B0 d L X T g t1 t2 ∗ B1 d L X T g t1 t2
          ∗ Land0 d L X T p1 p2 ∗ Land1 d L X T p1 p2) := by
  unfold Core B0 B1
  iintro ⟨#Hmw, ⟨Hx, Hx', Hp, ⟨%f0, Hi0⟩, ⟨%f1, Hi1⟩, Hs7, Hs8, %W0, %hW0, HO⟩, HB, HC, HT0, HT1⟩
  sl_unfold [k0_t2_body]
  sl_exec
  ihave Ho0 : iprop((o0B).view.loc (V d (cV L) (jV L)) ↦{fullShare} OB0 L X T p1 p2) $$ [HB_src0 HB_src1 HB_src2 HB_src3 HB_src4 HB_src5 HB_src6 HB_src7 HB_src8 HB_src9 HB_src10 HB_src11 HB_src12 HB_src13 HB_src14 HB_src15]
  · rw [split_ob0, sep16]
    isplitl [HB_src0]; · iexact HB_src0
    isplitl [HB_src1]; · iexact HB_src1
    isplitl [HB_src2]; · iexact HB_src2
    isplitl [HB_src3]; · iexact HB_src3
    isplitl [HB_src4]; · iexact HB_src4
    isplitl [HB_src5]; · iexact HB_src5
    isplitl [HB_src6]; · iexact HB_src6
    isplitl [HB_src7]; · iexact HB_src7
    isplitl [HB_src8]; · iexact HB_src8
    isplitl [HB_src9]; · iexact HB_src9
    isplitl [HB_src10]; · iexact HB_src10
    isplitl [HB_src11]; · iexact HB_src11
    isplitl [HB_src12]; · iexact HB_src12
    isplitl [HB_src13]; · iexact HB_src13
    isplitl [HB_src14]; · iexact HB_src14
    iexact HB_src15
  ihave HL0 : Land0 d L X T p1 p2 $$ [HB_dst0 HB_dst1 HB_dst2 HB_dst3 HB_dst4 HB_dst5 HB_dst6 HB_dst7 HB_dst8 HB_dst9 HB_dst10 HB_dst11 HB_dst12 HB_dst13 HB_dst14 HB_dst15]
  · unfold Land0; rw [sep16]
    isplitl [HB_dst0]; · iapply (fin0 d L X T p1 p2 _ _) $$ HB_dst0
    isplitl [HB_dst1]; · iapply (fin0 d L X T p1 p2 _ _) $$ HB_dst1
    isplitl [HB_dst2]; · iapply (fin0 d L X T p1 p2 _ _) $$ HB_dst2
    isplitl [HB_dst3]; · iapply (fin0 d L X T p1 p2 _ _) $$ HB_dst3
    isplitl [HB_dst4]; · iapply (fin0 d L X T p1 p2 _ _) $$ HB_dst4
    isplitl [HB_dst5]; · iapply (fin0 d L X T p1 p2 _ _) $$ HB_dst5
    isplitl [HB_dst6]; · iapply (fin0 d L X T p1 p2 _ _) $$ HB_dst6
    isplitl [HB_dst7]; · iapply (fin0 d L X T p1 p2 _ _) $$ HB_dst7
    isplitl [HB_dst8]; · iapply (fin0 d L X T p1 p2 _ _) $$ HB_dst8
    isplitl [HB_dst9]; · iapply (fin0 d L X T p1 p2 _ _) $$ HB_dst9
    isplitl [HB_dst10]; · iapply (fin0 d L X T p1 p2 _ _) $$ HB_dst10
    isplitl [HB_dst11]; · iapply (fin0 d L X T p1 p2 _ _) $$ HB_dst11
    isplitl [HB_dst12]; · iapply (fin0 d L X T p1 p2 _ _) $$ HB_dst12
    isplitl [HB_dst13]; · iapply (fin0 d L X T p1 p2 _ _) $$ HB_dst13
    isplitl [HB_dst14]; · iapply (fin0 d L X T p1 p2 _ _) $$ HB_dst14
    iapply (fin0 d L X T p1 p2 _ _) $$ HB_dst15
  ihave Hi0 : iprop((i0B).view.loc (V d (cV L) (jV L)) ↦{fullShare} (xW0 L t1 t2).view.read (Elt F) X) $$ [Hi0]
  · iapply (Entails.of_eq (congrArg (fun f => ((i0B).view.loc (V d (cV L) (jV L)) ↦{fullShare} f : sProp 𝕄)) (View.write_whole_univ _ _ _))) $$ Hi0
  sl_for (inv3 d L (rowsOf (PB L T t1)) ((xW0 L t1 t2).view.read (Elt F) X)) $$ [Hi0 Ho0]
  case region =>
    intro k u
    exact step3 d L (PB L T t1) (row_cast _ 0 _ rfl _) (row_cast _ 1 _ rfl _) (row_cast _ 2 _ rfl _) (row_cast _ 3 _ rfl _) (row_cast _ 4 _ rfl _) (row_cast _ 5 _ rfl _) (row_cast _ 6 _ rfl _) (row_at _ 7 _ rfl _) (row_at _ 8 _ rfl _) (row_at _ 9 _ rfl _) (row_at _ 10 _ rfl _) (row_at _ 11 _ rfl _) (row_at _ 12 _ rfl _) (row_at _ 13 _ rfl _) (row_at _ 14 _ rfl _) (row_at _ 15 _ rfl _) (row_at _ 16 _ rfl _) (row_at _ 17 _ rfl _) (row_at _ 18 _ rfl _) (row_at _ 19 _ rfl _) t1 v279 t2 _ k u
  · unfold inv3
    isplitl [Hi0]; · iexact Hi0
    iexists _
    isplitr
    rotate_left
    · iexact Ho0
    · ipureintro
      exact fun y hy => absurd hy (Nat.not_lt_zero _)
  unfold inv3
  iintro %_ ⟨Hi0, %g0, %hg0, Ho0⟩
  obtain rfl : g0 = OB0 L X T t1 t2 := below_all hg0
  ihave HB : iprop(semVal ((V d (cV L) (jV L)), SemLoc.dma cc0_scratch5.sem) 0) $$ [HB]; · iexact HB
  imod (Transfers.batch_alloc' (Lvl := ℕ) EC (V d (cV L) (jV L)) (default : HIx 1) NN (D0 d L X T g t1 t2) (sm := .dma cc0_scratch5.sem) (E := Set.univ)) $$ HB with HB
  ihave Ho0 := (Entails.of_eq ((split_ob0 d L (OB0 L X T t1 t2)).trans (sep16 _))) $$ Ho0
  icases Ho0 with ⟨S0_0, S0_1, S0_2, S0_3, S0_4, S0_5, S0_6, S0_7, S0_8, S0_9, S0_10, S0_11, S0_12, S0_13, S0_14, S0_15⟩
  ihave HT0 := (Entails.of_eq (sep16 (oPt0 d L g t1 t2))) $$ HT0
  icases HT0 with ⟨T0_0, T0_1, T0_2, T0_3, T0_4, T0_5, T0_6, T0_7, T0_8, T0_9, T0_10, T0_11, T0_12, T0_13, T0_14, T0_15⟩
  sl_exec
  ihave Ho1 : iprop((o1B).view.loc (V d (cV L) (jV L)) ↦{fullShare} OB1 L X T p1 p2) $$ [HC_src0 HC_src1 HC_src2 HC_src3 HC_src4 HC_src5 HC_src6 HC_src7 HC_src8 HC_src9 HC_src10 HC_src11 HC_src12 HC_src13 HC_src14 HC_src15]
  · rw [split_ob1, sep16]
    isplitl [HC_src0]; · iexact HC_src0
    isplitl [HC_src1]; · iexact HC_src1
    isplitl [HC_src2]; · iexact HC_src2
    isplitl [HC_src3]; · iexact HC_src3
    isplitl [HC_src4]; · iexact HC_src4
    isplitl [HC_src5]; · iexact HC_src5
    isplitl [HC_src6]; · iexact HC_src6
    isplitl [HC_src7]; · iexact HC_src7
    isplitl [HC_src8]; · iexact HC_src8
    isplitl [HC_src9]; · iexact HC_src9
    isplitl [HC_src10]; · iexact HC_src10
    isplitl [HC_src11]; · iexact HC_src11
    isplitl [HC_src12]; · iexact HC_src12
    isplitl [HC_src13]; · iexact HC_src13
    isplitl [HC_src14]; · iexact HC_src14
    iexact HC_src15
  ihave HL1 : Land1 d L X T p1 p2 $$ [HC_dst0 HC_dst1 HC_dst2 HC_dst3 HC_dst4 HC_dst5 HC_dst6 HC_dst7 HC_dst8 HC_dst9 HC_dst10 HC_dst11 HC_dst12 HC_dst13 HC_dst14 HC_dst15]
  · unfold Land1; rw [sep16]
    isplitl [HC_dst0]; · iapply (fin1 d L X T p1 p2 _ _) $$ HC_dst0
    isplitl [HC_dst1]; · iapply (fin1 d L X T p1 p2 _ _) $$ HC_dst1
    isplitl [HC_dst2]; · iapply (fin1 d L X T p1 p2 _ _) $$ HC_dst2
    isplitl [HC_dst3]; · iapply (fin1 d L X T p1 p2 _ _) $$ HC_dst3
    isplitl [HC_dst4]; · iapply (fin1 d L X T p1 p2 _ _) $$ HC_dst4
    isplitl [HC_dst5]; · iapply (fin1 d L X T p1 p2 _ _) $$ HC_dst5
    isplitl [HC_dst6]; · iapply (fin1 d L X T p1 p2 _ _) $$ HC_dst6
    isplitl [HC_dst7]; · iapply (fin1 d L X T p1 p2 _ _) $$ HC_dst7
    isplitl [HC_dst8]; · iapply (fin1 d L X T p1 p2 _ _) $$ HC_dst8
    isplitl [HC_dst9]; · iapply (fin1 d L X T p1 p2 _ _) $$ HC_dst9
    isplitl [HC_dst10]; · iapply (fin1 d L X T p1 p2 _ _) $$ HC_dst10
    isplitl [HC_dst11]; · iapply (fin1 d L X T p1 p2 _ _) $$ HC_dst11
    isplitl [HC_dst12]; · iapply (fin1 d L X T p1 p2 _ _) $$ HC_dst12
    isplitl [HC_dst13]; · iapply (fin1 d L X T p1 p2 _ _) $$ HC_dst13
    isplitl [HC_dst14]; · iapply (fin1 d L X T p1 p2 _ _) $$ HC_dst14
    iapply (fin1 d L X T p1 p2 _ _) $$ HC_dst15
  ihave Hi1 : iprop((i1B).view.loc (V d (cV L) (jV L)) ↦{fullShare} (xW1 L t1 t2).view.read (Elt F) X) $$ [Hi1]
  · iapply (Entails.of_eq (congrArg (fun f => ((i1B).view.loc (V d (cV L) (jV L)) ↦{fullShare} f : sProp 𝕄)) (View.write_whole_univ _ _ _))) $$ Hi1
  sl_for (inv4 d L (rowsOf (PB L T t1)) ((xW1 L t1 t2).view.read (Elt F) X)) $$ [Hi1 Ho1]
  case region =>
    intro k u
    exact step4 d L (PB L T t1) (row_cast _ 0 _ rfl _) (row_cast _ 1 _ rfl _) (row_cast _ 2 _ rfl _) (row_cast _ 3 _ rfl _) (row_cast _ 4 _ rfl _) (row_cast _ 5 _ rfl _) (row_cast _ 6 _ rfl _) (row_cast _ 7 _ rfl _) (row_cast _ 8 _ rfl _) (row_cast _ 9 _ rfl _) (row_cast _ 10 _ rfl _) (row_cast _ 11 _ rfl _) (row_cast _ 12 _ rfl _) (row_cast _ 13 _ rfl _) (row_cast _ 14 _ rfl _) (row_at _ 15 _ rfl _) (row_at _ 16 _ rfl _) (row_at _ 17 _ rfl _) (row_at _ 18 _ rfl _) (row_at _ 19 _ rfl _) t1 _ _ t2 _ k u
  · unfold inv4
    isplitl [Hi1]; · iexact Hi1
    iexists _
    isplitr
    rotate_left
    · iexact Ho1
    · ipureintro
      exact fun y hy => absurd hy (Nat.not_lt_zero _)
  unfold inv4
  iintro %_ ⟨Hi1, %g1, %hg1, Ho1⟩
  obtain rfl : g1 = OB1 L X T t1 t2 := below_all hg1
  ihave HC : iprop(semVal ((V d (cV L) (jV L)), SemLoc.dma cc0_scratch6.sem) 0) $$ [HC]; · iexact HC
  imod (Transfers.batch_alloc' (Lvl := ℕ) EC (V d (cV L) (jV L)) (default : HIx 1) NN (D1 d L X T g t1 t2) (sm := .dma cc0_scratch6.sem) (E := Set.univ)) $$ HC with HC
  ihave Ho1 := (Entails.of_eq ((split_ob1 d L (OB1 L X T t1 t2)).trans (sep16 _))) $$ Ho1
  icases Ho1 with ⟨S1_0, S1_1, S1_2, S1_3, S1_4, S1_5, S1_6, S1_7, S1_8, S1_9, S1_10, S1_11, S1_12, S1_13, S1_14, S1_15⟩
  ihave HT1 := (Entails.of_eq (sep16 (oPt1 d L g t1 t2))) $$ HT1
  icases HT1 with ⟨T1_0, T1_1, T1_2, T1_3, T1_4, T1_5, T1_6, T1_7, T1_8, T1_9, T1_10, T1_11, T1_12, T1_13, T1_14, T1_15⟩
  sl_exec
  sl_step
  isplitl [Hx Hx' Hp Hi0 Hi1 Hs7 Hs8 HO]
  · isplitl [Hx]; · iexact Hx
    isplitl [Hx']; · iexact Hx'
    isplitl [Hp]; · iexact Hp
    isplitl [Hi0]; · iexists _; iexact Hi0
    isplitl [Hi1]; · iexists _; iexact Hi1
    isplitl [Hs7]; · iexact Hs7
    isplitl [Hs8]; · iexact Hs8
    iexists _
    isplitr
    rotate_left
    · iexact HO
    · ipureintro
      repeat (first | exact hW0 | refine OKW.ins ?_ _)
  isplitl [HB]; · iexact HB
  isplitl [HC]; · iexact HC
  isplitl [HL0]; · iexact HL0
  iexact HL1

set_option maxHeartbeats 4000000 in
theorem step_first (t1 : Fin k0_t1_loop.trips) (t2 : Fin k0_t2_loop.trips) (hc : ¬ cnd t1 t2 = 1#1) (v279 a : BitVec 32) :
    (iprop(Transfers.MayWaits (V d (cV L) (jV L)) (default : HIx 1) O ∗ Core d L X q q' O W (PB L T t1)
        ∗ (∃ f, (o0B).view.loc (V d (cV L) (jV L)) ↦{fullShare} f) ∗ semVal ((V d (cV L) (jV L)), SemLoc.dma cc0_scratch5.sem) 0
        ∗ (∃ f, (o1B).view.loc (V d (cV L) (jV L)) ↦{fullShare} f) ∗ semVal ((V d (cV L) (jV L)), SemLoc.dma cc0_scratch6.sem) 0
        ∗ bigSep Finset.univ (oPt0 d L g t1 t2) ∗ bigSep Finset.univ (oPt1 d L g t1 t2)) : sProp 𝕄)
      ⊢ wp frame (wpE (defs₀ (F := F)) 𝒱₀ (V d (cV L) (jV L)) none) Set.univ
          (k0_t2_body L xV (Memref.isWhole_whole _) tV (Memref.isWhole_whole _) oV (Memref.isWhole_whole _) pB (Memref.isWhole_whole _)
            i0B (Memref.isWhole_whole _) i1B (Memref.isWhole_whole _) o0B (Memref.isWhole_whole _) o1B (Memref.isWhole_whole _)
            cc0_scratch5 cc0_scratch6 cc0_scratch7 cc0_scratch8 cc0_scoped0 t1 (Scf.iv 0#32 1#32 t1) v279 t2 a)
          fun _ => iprop(Core d L X q q' O W (PB L T t1) ∗ B0 d L X T g t1 t2 ∗ B1 d L X T g t1 t2) := by
  unfold Core B0 B1
  iintro ⟨#Hmw, ⟨Hx, Hx', Hp, ⟨%f0, Hi0⟩, ⟨%f1, Hi1⟩, Hs7, Hs8, %W0, %hW0, HO⟩, ⟨%o0, Ho0⟩, HB, ⟨%o1, Ho1⟩, HC, HT0, HT1⟩
  sl_unfold [k0_t2_body]
  sl_exec
  ihave Hi0 : iprop((i0B).view.loc (V d (cV L) (jV L)) ↦{fullShare} (xW0 L t1 t2).view.read (Elt F) X) $$ [Hi0]
  · iapply (Entails.of_eq (congrArg (fun f => ((i0B).view.loc (V d (cV L) (jV L)) ↦{fullShare} f : sProp 𝕄)) (View.write_whole_univ _ _ _))) $$ Hi0
  sl_for (inv3 d L (rowsOf (PB L T t1)) ((xW0 L t1 t2).view.read (Elt F) X)) $$ [Hi0 Ho0]
  case region =>
    intro k u
    exact step3 d L (PB L T t1) (row_cast _ 0 _ rfl _) (row_cast _ 1 _ rfl _) (row_cast _ 2 _ rfl _) (row_cast _ 3 _ rfl _) (row_cast _ 4 _ rfl _) (row_cast _ 5 _ rfl _) (row_cast _ 6 _ rfl _) (row_at _ 7 _ rfl _) (row_at _ 8 _ rfl _) (row_at _ 9 _ rfl _) (row_at _ 10 _ rfl _) (row_at _ 11 _ rfl _) (row_at _ 12 _ rfl _) (row_at _ 13 _ rfl _) (row_at _ 14 _ rfl _) (row_at _ 15 _ rfl _) (row_at _ 16 _ rfl _) (row_at _ 17 _ rfl _) (row_at _ 18 _ rfl _) (row_at _ 19 _ rfl _) t1 v279 t2 _ k u
  · unfold inv3
    isplitl [Hi0]; · iexact Hi0
    iexists _
    isplitr
    rotate_left
    · iexact Ho0
    · ipureintro
      exact fun y hy => absurd hy (Nat.not_lt_zero _)
  unfold inv3
  iintro %_ ⟨Hi0, %g0, %hg0, Ho0⟩
  obtain rfl : g0 = OB0 L X T t1 t2 := below_all hg0
  ihave HB : iprop(semVal ((V d (cV L) (jV L)), SemLoc.dma cc0_scratch5.sem) 0) $$ [HB]; · iexact HB
  imod (Transfers.batch_alloc' (Lvl := ℕ) EC (V d (cV L) (jV L)) (default : HIx 1) NN (D0 d L X T g t1 t2) (sm := .dma cc0_scratch5.sem) (E := Set.univ)) $$ HB with HB
  ihave Ho0 := (Entails.of_eq ((split_ob0 d L (OB0 L X T t1 t2)).trans (sep16 _))) $$ Ho0
  icases Ho0 with ⟨S0_0, S0_1, S0_2, S0_3, S0_4, S0_5, S0_6, S0_7, S0_8, S0_9, S0_10, S0_11, S0_12, S0_13, S0_14, S0_15⟩
  ihave HT0 := (Entails.of_eq (sep16 (oPt0 d L g t1 t2))) $$ HT0
  icases HT0 with ⟨T0_0, T0_1, T0_2, T0_3, T0_4, T0_5, T0_6, T0_7, T0_8, T0_9, T0_10, T0_11, T0_12, T0_13, T0_14, T0_15⟩
  sl_exec
  ihave Hi1 : iprop((i1B).view.loc (V d (cV L) (jV L)) ↦{fullShare} (xW1 L t1 t2).view.read (Elt F) X) $$ [Hi1]
  · iapply (Entails.of_eq (congrArg (fun f => ((i1B).view.loc (V d (cV L) (jV L)) ↦{fullShare} f : sProp 𝕄)) (View.write_whole_univ _ _ _))) $$ Hi1
  sl_for (inv4 d L (rowsOf (PB L T t1)) ((xW1 L t1 t2).view.read (Elt F) X)) $$ [Hi1 Ho1]
  case region =>
    intro k u
    exact step4 d L (PB L T t1) (row_cast _ 0 _ rfl _) (row_cast _ 1 _ rfl _) (row_cast _ 2 _ rfl _) (row_cast _ 3 _ rfl _) (row_cast _ 4 _ rfl _) (row_cast _ 5 _ rfl _) (row_cast _ 6 _ rfl _) (row_cast _ 7 _ rfl _) (row_cast _ 8 _ rfl _) (row_cast _ 9 _ rfl _) (row_cast _ 10 _ rfl _) (row_cast _ 11 _ rfl _) (row_cast _ 12 _ rfl _) (row_cast _ 13 _ rfl _) (row_cast _ 14 _ rfl _) (row_at _ 15 _ rfl _) (row_at _ 16 _ rfl _) (row_at _ 17 _ rfl _) (row_at _ 18 _ rfl _) (row_at _ 19 _ rfl _) t1 _ _ t2 _ k u
  · unfold inv4
    isplitl [Hi1]; · iexact Hi1
    iexists _
    isplitr
    rotate_left
    · iexact Ho1
    · ipureintro
      exact fun y hy => absurd hy (Nat.not_lt_zero _)
  unfold inv4
  iintro %_ ⟨Hi1, %g1, %hg1, Ho1⟩
  obtain rfl : g1 = OB1 L X T t1 t2 := below_all hg1
  ihave HC : iprop(semVal ((V d (cV L) (jV L)), SemLoc.dma cc0_scratch6.sem) 0) $$ [HC]; · iexact HC
  imod (Transfers.batch_alloc' (Lvl := ℕ) EC (V d (cV L) (jV L)) (default : HIx 1) NN (D1 d L X T g t1 t2) (sm := .dma cc0_scratch6.sem) (E := Set.univ)) $$ HC with HC
  ihave Ho1 := (Entails.of_eq ((split_ob1 d L (OB1 L X T t1 t2)).trans (sep16 _))) $$ Ho1
  icases Ho1 with ⟨S1_0, S1_1, S1_2, S1_3, S1_4, S1_5, S1_6, S1_7, S1_8, S1_9, S1_10, S1_11, S1_12, S1_13, S1_14, S1_15⟩
  ihave HT1 := (Entails.of_eq (sep16 (oPt1 d L g t1 t2))) $$ HT1
  icases HT1 with ⟨T1_0, T1_1, T1_2, T1_3, T1_4, T1_5, T1_6, T1_7, T1_8, T1_9, T1_10, T1_11, T1_12, T1_13, T1_14, T1_15⟩
  sl_exec
  sl_step
  isplitl [Hx Hx' Hp Hi0 Hi1 Hs7 Hs8 HO]
  · isplitl [Hx]; · iexact Hx
    isplitl [Hx']; · iexact Hx'
    isplitl [Hp]; · iexact Hp
    isplitl [Hi0]; · iexists _; iexact Hi0
    isplitl [Hi1]; · iexists _; iexact Hi1
    isplitl [Hs7]; · iexact Hs7
    isplitl [Hs8]; · iexact Hs8
    iexists _
    isplitr
    rotate_left
    · iexact HO
    · ipureintro
      repeat (first | exact hW0 | refine OKW.ins ?_ _)
  isplitl [HB]; · iexact HB
  iexact HC

end

end Cert.Proof.Scm

end
-- ==== Proof.Loops.lean ====
/-
  The steps of a tile in order, and what is done, in flight and still to do between them.
-/
module

public import proofs.«01_k».proof.Proof.Step

@[expose] public section

noncomputable section

namespace Cert.Proof.Scm

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "xV" => (Memref.whole Cert.KernelIdeal.main_arg0_scv : Memref Cert.KernelIdeal.sig Kind.scVector Space.hbm Cert.KernelIdeal.S8x8x224x224 EltTy.f32)
local notation "tV" => (Memref.whole Cert.KernelIdeal.main_v75_scv : Memref Cert.KernelIdeal.sig Kind.scVector Space.hbm Cert.KernelIdeal.S2560 EltTy.f32)
local notation "oV" => (Memref.whole Cert.KernelIdeal.main_v76_scv : Memref Cert.KernelIdeal.sig Kind.scVector Space.hbm Cert.KernelIdeal.S8x128x224x224 EltTy.f32)
local notation "pB" => (Memref.whole Cert.KernelIdeal.cc0_scratch0 : Memref Cert.KernelIdeal.sig Kind.scVector Space.vmem Cert.KernelIdeal.S320 EltTy.f32)
local notation "i0B" => (Memref.whole Cert.KernelIdeal.cc0_scratch1 : Memref Cert.KernelIdeal.sig Kind.scVector Space.vmem Cert.KernelIdeal.S8x224 EltTy.f32)
local notation "i1B" => (Memref.whole Cert.KernelIdeal.cc0_scratch2 : Memref Cert.KernelIdeal.sig Kind.scVector Space.vmem Cert.KernelIdeal.S8x224 EltTy.f32)
local notation "o0B" => (Memref.whole Cert.KernelIdeal.cc0_scratch3 : Memref Cert.KernelIdeal.sig Kind.scVector Space.vmem Cert.KernelIdeal.S16x8x224 EltTy.f32)
local notation "o1B" => (Memref.whole Cert.KernelIdeal.cc0_scratch4 : Memref Cert.KernelIdeal.sig Kind.scVector Space.vmem Cert.KernelIdeal.S16x8x224 EltTy.f32)

theorem cnd_iff : ∀ (t1 : Fin k0_t1_loop.trips) (t2 : Fin k0_t2_loop.trips), cnd t1 t2 = 1#1 ↔ 0 < 14 * t1.val + t2.val := by decide +kernel

/-- A step: the tile's channel and the pair of row blocks in it. -/
abbrev Pt : Type := Fin k0_t1_loop.trips × Fin k0_t2_loop.trips
/-- A step's number. -/
abbrev num (p : Pt) : ℕ := 14 * p.1.val + p.2.val

theorem t1_lt (t1 : Fin k0_t1_loop.trips) : t1.val < 2 := t1.isLt
theorem t2_lt (t2 : Fin k0_t2_loop.trips) : t2.val < 14 := t2.isLt

theorem num_inj {p p' : Pt} (h : num p = num p') : p = p' := by
  have := t2_lt p.2
  have := t2_lt p'.2
  refine Prod.ext (Fin.ext ?_) (Fin.ext ?_) <;> (unfold num at h; omega)

theorem num_pred (p : Pt) (h : 0 < num p) : ∃ p' : Pt, num p' + 1 = num p := by
  have h1 := t1_lt p.1
  have h2 := t2_lt p.2
  unfold num at h ⊢
  by_cases e : p.2.val = 0
  · exact ⟨(⟨p.1.val - 1, by show _ < 2; omega⟩, ⟨13, by show _ < 14; omega⟩), by simp only []; omega⟩
  · exact ⟨(p.1, ⟨p.2.val - 1, by show _ < 14; omega⟩), by simp only []; omega⟩

section
variable (d : Dev nD) (L : grid0.Coords) (X : S8x8x224x224.Idx → F .f32) (T : S2560.Idx → F .f32) (g : S8x128x224x224.Idx → F .f32)
  (q q' : PosShare TreeShare) (O : CellTallies nD τ sig (HIx 1)) (W : Waits sig (HIx 1))

/-- A step's two blocks of the result, still to be written. -/
def Todo (p : Pt) : sProp 𝕄 := iprop(bigSep Finset.univ (oPt0 d L g p.1 p.2) ∗ bigSep Finset.univ (oPt1 d L g p.1 p.2))
/-- A step's two blocks of the result, written. -/
def Done (p : Pt) : sProp 𝕄 := iprop(Land0 d L X T p.1 p.2 ∗ Land1 d L X T p.1 p.2)

/-- The blocks of step `p` when step `n` begins: written, in flight, or still to be written. -/
def St (n : ℕ) (p : Pt) : sProp 𝕄 := if num p + 1 < n then Done d L X T p else if num p + 1 = n then iprop(emp) else Todo d L g p

/-- The output buffers when step `n` begins: idle before the first, the one before in flight after it. -/
def Sl (n : ℕ) : sProp 𝕄 :=
  if n = 0 then iprop((∃ f, (o0B).view.loc (V d (cV L) (jV L)) ↦{fullShare} f) ∗ semVal ((V d (cV L) (jV L)), SemLoc.dma cc0_scratch5.sem) 0
      ∗ (∃ f, (o1B).view.loc (V d (cV L) (jV L)) ↦{fullShare} f) ∗ semVal ((V d (cV L) (jV L)), SemLoc.dma cc0_scratch6.sem) 0)
  else iprop(∃ p : Pt, ⌜num p + 1 = n⌝ ∗ B0 d L X T g p.1 p.2 ∗ B1 d L X T g p.1 p.2)

/-- Both. -/
def JJ (n : ℕ) : sProp 𝕄 := iprop(bigSep Finset.univ (St d L X T g n) ∗ Sl d L X T g n)

theorem St_todo (p : Pt) : St d L X T g (num p) p = Todo d L g p := by
  unfold St; rw [if_neg (by omega), if_neg (by omega)]
theorem St_fly (p : Pt) : St d L X T g (num p + 1) p = iprop(emp) := by
  unfold St; rw [if_neg (by omega), if_pos rfl]
theorem St_done (p : Pt) : St d L X T g (num p + 1 + 1) p = Done d L X T p := by
  unfold St; rw [if_pos (by omega)]
theorem St_other {n : ℕ} {p : Pt} (h : num p ≠ n) (h' : num p + 1 ≠ n) : St d L X T g (n + 1) p = St d L X T g n p := by
  unfold St
  by_cases e : num p + 1 < n
  · rw [if_pos e, if_pos (by omega)]
  · rw [if_neg e, if_neg h', if_neg (by omega), if_neg (by omega)]

theorem step_all (t1 : Fin k0_t1_loop.trips) (t2 : Fin k0_t2_loop.trips) (v279 a : BitVec 32) :
    (iprop(Transfers.MayWaits (V d (cV L) (jV L)) (default : HIx 1) O ∗ Core d L X q q' O W (PB L T t1) ∗ JJ d L X T g (14 * t1.val + t2.val)) : sProp 𝕄)
      ⊢ wp frame (wpE (defs₀ (F := F)) 𝒱₀ (V d (cV L) (jV L)) none) Set.univ
          (k0_t2_body L xV (Memref.isWhole_whole _) tV (Memref.isWhole_whole _) oV (Memref.isWhole_whole _) pB (Memref.isWhole_whole _)
            i0B (Memref.isWhole_whole _) i1B (Memref.isWhole_whole _) o0B (Memref.isWhole_whole _) o1B (Memref.isWhole_whole _)
            cc0_scratch5 cc0_scratch6 cc0_scratch7 cc0_scratch8 cc0_scoped0 t1 (Scf.iv 0#32 1#32 t1) v279 t2 a)
          fun _ => iprop(Core d L X q q' O W (PB L T t1) ∗ JJ d L X T g (14 * t1.val + t2.val + 1)) := by
  by_cases h0 : 0 < 14 * t1.val + t2.val
  · obtain ⟨p', hp'⟩ := num_pred (t1, t2) h0
    have hne : (p' : Pt) ≠ (t1, t2) := fun e => by rw [e] at hp'; omega
    have hmem : p' ∈ (Finset.univ.erase (t1, t2) : Finset Pt) := Finset.mem_erase.mpr ⟨hne, Finset.mem_univ _⟩
    have e1 : bigSep Finset.univ (St d L X T g (14 * t1.val + t2.val))
        = iprop(Todo d L g (t1, t2) ∗ emp ∗ bigSep ((Finset.univ.erase (t1, t2)).erase p') (St d L X T g (14 * t1.val + t2.val))) := by
      rw [SparseCore.bigSep_erase' (Finset.mem_univ (t1, t2)), SparseCore.bigSep_erase' hmem, St_todo d L X T g (t1, t2)]
      congr 2
      exact (congrArg (fun n => St d L X T g n p') hp'.symm).trans (St_fly d L X T g p')
    have e2 : bigSep Finset.univ (St d L X T g (14 * t1.val + t2.val + 1))
        = iprop(emp ∗ Done d L X T p' ∗ bigSep ((Finset.univ.erase (t1, t2)).erase p') (St d L X T g (14 * t1.val + t2.val))) := by
      rw [SparseCore.bigSep_erase' (Finset.mem_univ (t1, t2)), SparseCore.bigSep_erase' hmem, St_fly d L X T g (t1, t2)]
      congr 2
      · exact (congrArg (fun n => St d L X T g (n + 1) p') hp'.symm).trans (St_done d L X T g p')
      · refine bigSep_congr fun r hr => St_other d L X T g (fun e => ?_) (fun e => ?_)
        · exact (Finset.mem_erase.mp (Finset.mem_erase.mp hr).2).1 (num_inj e)
        · exact (Finset.mem_erase.mp hr).1 (num_inj (Nat.succ_injective (e.trans hp'.symm)))
    unfold JJ
    rw [e1, e2]
    unfold Sl Todo Done
    rw [if_neg (Nat.pos_iff_ne_zero.mp h0), if_neg (Nat.succ_ne_zero _)]
    iintro ⟨Hmw, Hc, ⟨⟨HT0, HT1⟩, -, Hr⟩, %p, %hp, HB, HC⟩
    obtain rfl : p = p' := num_inj (Nat.succ_injective (hp.trans hp'.symm))
    ihave Hw := (step_next d L X T g q q' O W t1 t2 p.1 p.2 ((cnd_iff t1 t2).mpr h0) v279 a) $$ [Hmw Hc HB HC HT0 HT1]
    · isplitl [Hmw]; · iexact Hmw
      isplitl [Hc]; · iexact Hc
      isplitl [HB]; · iexact HB
      isplitl [HC]; · iexact HC
      isplitl [HT0]; · iexact HT0
      iexact HT1
    iapply (wp_wand_r Idealize.ShloMosaic.frame (wpE (defs₀ (F := F)) 𝒱₀ (V d (cV L) (jV L)) none) Set.univ) $$ [Hw Hr]
    isplitl [Hw]; · iexact Hw
    iintro %_ ⟨Hc, HB, HC, HL0, HL1⟩
    isplitl [Hc]; · iexact Hc
    isplitl [Hr HL0 HL1]
    · isplitr; · iempintro
      isplitl [HL0 HL1]
      · isplitl [HL0]; · iexact HL0
        iexact HL1
      iexact Hr
    iexists (t1, t2)
    isplitr; · ipureintro; rfl
    isplitl [HB]; · iexact HB
    iexact HC
  · have hz : num (t1, t2) = 0 := by unfold num; simp only []; omega
    have hz' : 14 * t1.val + t2.val = 0 := by omega
    have e1 : bigSep Finset.univ (St d L X T g (14 * t1.val + t2.val))
        = iprop(Todo d L g (t1, t2) ∗ bigSep (Finset.univ.erase (t1, t2)) (St d L X T g (14 * t1.val + t2.val))) := by
      rw [SparseCore.bigSep_erase' (Finset.mem_univ (t1, t2)), St_todo d L X T g (t1, t2)]
    have e2 : bigSep Finset.univ (St d L X T g (14 * t1.val + t2.val + 1))
        = iprop(emp ∗ bigSep (Finset.univ.erase (t1, t2)) (St d L X T g (14 * t1.val + t2.val))) := by
      rw [SparseCore.bigSep_erase' (Finset.mem_univ (t1, t2)), St_fly d L X T g (t1, t2)]
      congr 1
      refine bigSep_congr fun r hr => St_other d L X T g (fun e => ?_) (fun e => ?_)
      · exact (Finset.mem_erase.mp hr).1 (num_inj e)
      · omega
    unfold JJ
    rw [e1, e2]
    unfold Sl Todo
    rw [if_pos hz', if_neg (Nat.succ_ne_zero _)]
    iintro ⟨Hmw, Hc, ⟨⟨HT0, HT1⟩, Hr⟩, Ha, Hb, He, Hf⟩
    ihave Hw := (step_first d L X T g q q' O W t1 t2 (fun e => h0 ((cnd_iff t1 t2).mp e)) v279 a) $$ [Hmw Hc Ha Hb He Hf HT0 HT1]
    · isplitl [Hmw]; · iexact Hmw
      isplitl [Hc]; · iexact Hc
      isplitl [Ha]; · iexact Ha
      isplitl [Hb]; · iexact Hb
      isplitl [He]; · iexact He
      isplitl [Hf]; · iexact Hf
      isplitl [HT0]; · iexact HT0
      iexact HT1
    iapply (wp_wand_r Idealize.ShloMosaic.frame (wpE (defs₀ (F := F)) 𝒱₀ (V d (cV L) (jV L)) none) Set.univ) $$ [Hw Hr]
    isplitl [Hw]; · iexact Hw
    iintro %_ ⟨Hc, HB, HC⟩
    isplitl [Hc]; · iexact Hc
    isplitl [Hr]
    · isplitr; · iempintro
      iexact Hr
    iexists (t1, t2)
    isplitr; · ipureintro; rfl
    isplitl [HB]; · iexact HB
    iexact HC

/-- What a tile holds between steps of channel `t1`, with the leave to wait. -/
def inv2 (t1 : Fin k0_t1_loop.trips) (n : ℕ) (_ : BitVec 32) : sProp 𝕄 :=
  iprop(Transfers.MayWaits (V d (cV L) (jV L)) (default : HIx 1) O ∗ Core d L X q q' O W (PB L T t1) ∗ JJ d L X T g (14 * t1.val + n))

theorem step2 (t1 : Fin k0_t1_loop.trips) (t2 : Fin k0_t2_loop.trips) (v279 a : BitVec 32) :
    inv2 d L X T g q q' O W t1 t2.val a
      ⊢ wp frame (wpE (defs₀ (F := F)) 𝒱₀ (V d (cV L) (jV L)) none) Set.univ
          (k0_t2_body L xV (Memref.isWhole_whole _) tV (Memref.isWhole_whole _) oV (Memref.isWhole_whole _) pB (Memref.isWhole_whole _)
            i0B (Memref.isWhole_whole _) i1B (Memref.isWhole_whole _) o0B (Memref.isWhole_whole _) o1B (Memref.isWhole_whole _)
            cc0_scratch5 cc0_scratch6 cc0_scratch7 cc0_scratch8 cc0_scoped0 t1 (Scf.iv 0#32 1#32 t1) v279 t2 a)
          fun a' => inv2 d L X T g q q' O W t1 (t2.val + 1) a' := by
  unfold inv2
  iintro ⟨#Hmw, Hc, HJ⟩
  ihave Hw := (step_all d L X T g q q' O W t1 t2 v279 a) $$ [Hc HJ]
  · isplitr; · iexact Hmw
    isplitl [Hc]; · iexact Hc
    iexact HJ
  iapply (wp_wand_r Idealize.ShloMosaic.frame (wpE (defs₀ (F := F)) 𝒱₀ (V d (cV L) (jV L)) none) Set.univ) $$ [Hw]
  isplitl [Hw]; · iexact Hw
  iintro %_ ⟨Hc, HJ⟩
  isplitr; · iexact Hmw
  isplitl [Hc]; · iexact Hc
  iexact HJ

/-- What a tile holds between its channels. -/
def inv1 (qt : PosShare TreeShare) (n : ℕ) (_ : BitVec 32) : sProp 𝕄 :=
  iprop(Transfers.MayWaits (V d (cV L) (jV L)) (default : HIx 1) O ∗ (∃ P, Core d L X q q' O W P) ∗ ((tV).view.loc (V d (cV L) (jV L)) ↦{qt} T)
    ∗ semVal ((V d (cV L) (jV L)), SemLoc.dma cc0_scoped0.sem) 0 ∗ JJ d L X T g (14 * n))

set_option maxHeartbeats 4000000 in
theorem step1 (qt : PosShare TreeShare) (v1 : BitVec 32) (t1 : Fin k0_t1_loop.trips) (a : BitVec 32) :
    inv1 d L X T g q q' O W qt t1.val a
      ⊢ wp frame (wpE (defs₀ (F := F)) 𝒱₀ (V d (cV L) (jV L)) none) Set.univ
          (k0_t1_body L xV (Memref.isWhole_whole _) tV (Memref.isWhole_whole _) oV (Memref.isWhole_whole _) pB (Memref.isWhole_whole _)
            i0B (Memref.isWhole_whole _) i1B (Memref.isWhole_whole _) o0B (Memref.isWhole_whole _) o1B (Memref.isWhole_whole _)
            cc0_scratch5 cc0_scratch6 cc0_scratch7 cc0_scratch8 cc0_scoped0 v1 t1 a)
          fun a' => inv1 d L X T g q q' O W qt (t1.val + 1) a' := by
  unfold inv1 Core
  iintro ⟨#Hmw, ⟨%P, Hx, Hx', Hp, Hi0, Hi1, Hs7, Hs8, %W0, %hW0, HO⟩, Ht, Hs, HJ⟩
  sl_unfold [k0_t1_body]
  sl_exec
  ihave Hp : iprop((pB).view.loc (V d (cV L) (jV L)) ↦{fullShare} PB L T t1) $$ [Hp]
  · iapply (Entails.of_eq (congrArg (fun f => ((pB).view.loc (V d (cV L) (jV L)) ↦{fullShare} f : sProp 𝕄)) (View.write_whole_univ _ _ _))) $$ Hp
  sl_for (inv2 d L X T g q q' O W t1) $$ [Hx Hx' Hp Hi0 Hi1 Hs7 Hs8 HO HJ]
  case region =>
    intro k u
    exact step2 d L X T g q q' O W t1 k _ u
  · unfold inv2 Core
    isplitr; · iexact Hmw
    isplitl [Hx Hx' Hp Hi0 Hi1 Hs7 Hs8 HO]
    · isplitl [Hx]; · iexact Hx
      isplitl [Hx']; · iexact Hx'
      isplitl [Hp]; · iexact Hp
      isplitl [Hi0]; · iexact Hi0
      isplitl [Hi1]; · iexact Hi1
      isplitl [Hs7]; · iexact Hs7
      isplitl [Hs8]; · iexact Hs8
      iexists _
      isplitr
      rotate_left
      · iexact HO
      · ipureintro
        repeat (first | exact hW0 | refine OKW.ins ?_ _)
    iexact HJ
  unfold inv2
  iintro %_ ⟨-, Hc, HJ⟩
  sl_exec
  sl_step
  isplitr; · iexact Hmw
  isplitl [Hc]; · iexists _; unfold Core; iexact Hc
  isplitl [Ht]; · iexact Ht
  isplitl [Hs]; · iexact Hs
  iexact HJ

end

end Cert.Proof.Scm

end
-- ==== Proof.Tile.lean ====
/-
  A whole task: both channels, and the last copies waited for.
-/
module

public import proofs.«01_k».proof.Proof.Loops

@[expose] public section

noncomputable section

namespace Cert.Proof.Scm

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "xV" => (Memref.whole Cert.KernelIdeal.main_arg0_scv : Memref Cert.KernelIdeal.sig Kind.scVector Space.hbm Cert.KernelIdeal.S8x8x224x224 EltTy.f32)
local notation "tV" => (Memref.whole Cert.KernelIdeal.main_v75_scv : Memref Cert.KernelIdeal.sig Kind.scVector Space.hbm Cert.KernelIdeal.S2560 EltTy.f32)
local notation "oV" => (Memref.whole Cert.KernelIdeal.main_v76_scv : Memref Cert.KernelIdeal.sig Kind.scVector Space.hbm Cert.KernelIdeal.S8x128x224x224 EltTy.f32)
local notation "pB" => (Memref.whole Cert.KernelIdeal.cc0_scratch0 : Memref Cert.KernelIdeal.sig Kind.scVector Space.vmem Cert.KernelIdeal.S320 EltTy.f32)
local notation "i0B" => (Memref.whole Cert.KernelIdeal.cc0_scratch1 : Memref Cert.KernelIdeal.sig Kind.scVector Space.vmem Cert.KernelIdeal.S8x224 EltTy.f32)
local notation "i1B" => (Memref.whole Cert.KernelIdeal.cc0_scratch2 : Memref Cert.KernelIdeal.sig Kind.scVector Space.vmem Cert.KernelIdeal.S8x224 EltTy.f32)
local notation "o0B" => (Memref.whole Cert.KernelIdeal.cc0_scratch3 : Memref Cert.KernelIdeal.sig Kind.scVector Space.vmem Cert.KernelIdeal.S16x8x224 EltTy.f32)
local notation "o1B" => (Memref.whole Cert.KernelIdeal.cc0_scratch4 : Memref Cert.KernelIdeal.sig Kind.scVector Space.vmem Cert.KernelIdeal.S16x8x224 EltTy.f32)

section
variable (d : Dev nD) (L : grid0.Coords) (X : S8x8x224x224.Idx → F .f32) (T : S2560.Idx → F .f32) (g : S8x128x224x224.Idx → F .f32)
  (q q' qt : PosShare TreeShare) (O : CellTallies nD τ sig (HIx 1)) (W : Waits sig (HIx 1))

theorem fing0 (t1 : Fin k0_t1_loop.trips) (t2 : Fin k0_t2_loop.trips) (k : Fin 16) :
    ((oW0 L t1 t2 k).view.loc (V d (cV L) (jV L)) ↦[(oW0 L t1 t2 k).view.set]{fullShare}
      (oW0 L t1 t2 k).view.writes (Elt F) g [⟨Rect.whole S8x224, ReadAs.same.apply ((oS0 k).view.read (Elt F) (OB0 L X T t1 t2))⟩] : sProp 𝕄)
      ⊢ oPt0 d L (GG X T) t1 t2 k := fin0 d L X T t1 t2 k g
theorem fing1 (t1 : Fin k0_t1_loop.trips) (t2 : Fin k0_t2_loop.trips) (k : Fin 16) :
    ((oW1 L t1 t2 k).view.loc (V d (cV L) (jV L)) ↦[(oW1 L t1 t2 k).view.set]{fullShare}
      (oW1 L t1 t2 k).view.writes (Elt F) g [⟨Rect.whole S8x224, ReadAs.same.apply ((oS1 k).view.read (Elt F) (OB1 L X T t1 t2))⟩] : sProp 𝕄)
      ⊢ oPt1 d L (GG X T) t1 t2 k := fin1 d L X T t1 t2 k g

theorem all_done (p : Pt) (h : num p + 1 = 28) :
    (iprop(bigSep Finset.univ (St d L X T g 28) ∗ Done d L X T p) : sProp 𝕄) ⊢ bigSep Finset.univ (Done d L X T) := by
  rw [SparseCore.bigSep_erase' (Finset.mem_univ p), SparseCore.bigSep_erase' (Φ := Done d L X T) (Finset.mem_univ p)]
  have e : bigSep (Finset.univ.erase p) (St d L X T g 28) = bigSep (Finset.univ.erase p) (Done d L X T) := by
    refine bigSep_congr fun r hr => ?_
    have h1 := t1_lt r.1
    have h2 := t2_lt r.2
    have h3 : num r ≠ num p := fun e => (Finset.mem_erase.mp hr).1 (num_inj e)
    unfold St
    rw [if_pos (by unfold num at h h3 ⊢; omega)]
  rw [e, show St d L X T g 28 p = iprop(emp) from (congrArg (fun n => St d L X T g n p) h.symm).trans (St_fly d L X T g p)]
  iintro ⟨⟨-, Hr⟩, Hd⟩
  isplitl [Hd]; · iexact Hd
  iexact Hr

set_option maxHeartbeats 4000000 in
theorem tile_run :
    (iprop(Transfers.MayWaits (V d (cV L) (jV L)) (default : HIx 1) O
        ∗ ((xV).view.loc (V d (cV L) (jV L)) ↦{q} X) ∗ ((xV).view.loc (V d (cV L) (jV L)) ↦{q'} X) ∗ ((tV).view.loc (V d (cV L) (jV L)) ↦{qt} T)
        ∗ bigSep Finset.univ (Todo d L g)
        ∗ (∃ f, (pB).view.loc (V d (cV L) (jV L)) ↦{fullShare} f)
        ∗ (∃ f, (i0B).view.loc (V d (cV L) (jV L)) ↦{fullShare} f) ∗ (∃ f, (i1B).view.loc (V d (cV L) (jV L)) ↦{fullShare} f)
        ∗ (∃ f, (o0B).view.loc (V d (cV L) (jV L)) ↦{fullShare} f) ∗ (∃ f, (o1B).view.loc (V d (cV L) (jV L)) ↦{fullShare} f)
        ∗ semVal ((V d (cV L) (jV L)), SemLoc.dma cc0_scratch5.sem) 0 ∗ semVal ((V d (cV L) (jV L)), SemLoc.dma cc0_scratch6.sem) 0
        ∗ semVal ((V d (cV L) (jV L)), SemLoc.dma cc0_scratch7.sem) 0 ∗ semVal ((V d (cV L) (jV L)), SemLoc.dma cc0_scratch8.sem) 0
        ∗ semVal ((V d (cV L) (jV L)), SemLoc.dma cc0_scoped0.sem) 0 ∗ owes (V d (cV L) (jV L)) O W) : sProp 𝕄)
      ⊢ wp frame (wpE (defs₀ (F := F)) 𝒱₀ (V d (cV L) (jV L)) none) Set.univ
          (cc0_run L xV (Memref.isWhole_whole _) tV (Memref.isWhole_whole _) oV (Memref.isWhole_whole _) pB (Memref.isWhole_whole _)
            i0B (Memref.isWhole_whole _) i1B (Memref.isWhole_whole _) o0B (Memref.isWhole_whole _) o1B (Memref.isWhole_whole _)
            cc0_scratch5 cc0_scratch6 cc0_scratch7 cc0_scratch8 cc0_scoped0)
          fun _ => iprop(((xV).view.loc (V d (cV L) (jV L)) ↦{q} X) ∗ ((xV).view.loc (V d (cV L) (jV L)) ↦{q'} X) ∗ ((tV).view.loc (V d (cV L) (jV L)) ↦{qt} T)
        ∗ bigSep Finset.univ (Done d L X T)
        ∗ (∃ f, (pB).view.loc (V d (cV L) (jV L)) ↦{fullShare} f)
        ∗ (∃ f, (i0B).view.loc (V d (cV L) (jV L)) ↦{fullShare} f) ∗ (∃ f, (i1B).view.loc (V d (cV L) (jV L)) ↦{fullShare} f)
        ∗ (∃ f, (o0B).view.loc (V d (cV L) (jV L)) ↦{fullShare} f) ∗ (∃ f, (o1B).view.loc (V d (cV L) (jV L)) ↦{fullShare} f)
        ∗ semVal ((V d (cV L) (jV L)), SemLoc.dma cc0_scratch5.sem) 0 ∗ semVal ((V d (cV L) (jV L)), SemLoc.dma cc0_scratch6.sem) 0
        ∗ semVal ((V d (cV L) (jV L)), SemLoc.dma cc0_scratch7.sem) 0 ∗ semVal ((V d (cV L) (jV L)), SemLoc.dma cc0_scratch8.sem) 0
        ∗ semVal ((V d (cV L) (jV L)), SemLoc.dma cc0_scoped0.sem) 0 ∗ ∃ W', ⌜OKW W W'⌝ ∗ owes (V d (cV L) (jV L)) O W') := by
  iintro ⟨#Hmw, Hx, Hx', Ht, HT, ⟨%fp, Hp⟩, Hi0, Hi1, Ho0, Ho1, Hs5, Hs6, Hs7, Hs8, Hs, HO⟩
  sl_unfold [cc0_run]
  sl_exec
  sl_for (inv1 d L X T g q q' O W qt) $$ [Hx Hx' Ht HT Hp Hi0 Hi1 Ho0 Ho1 Hs5 Hs6 Hs7 Hs8 Hs HO]
  case region =>
    intro k u
    exact step1 d L X T g q q' O W qt _ k u
  · unfold inv1 Core JJ Sl
    rw [if_pos (Nat.mul_zero 14)]
    isplitr; · iexact Hmw
    isplitl [Hx Hx' Hp Hi0 Hi1 Hs7 Hs8 HO]
    · iexists _
      isplitl [Hx]; · iexact Hx
      isplitl [Hx']; · iexact Hx'
      isplitl [Hp]; · iexact Hp
      isplitl [Hi0]; · iexact Hi0
      isplitl [Hi1]; · iexact Hi1
      isplitl [Hs7]; · iexact Hs7
      isplitl [Hs8]; · iexact Hs8
      iexists _
      isplitr
      rotate_left
      · iexact HO
      · ipureintro
        exact OKW.refl W
    isplitl [Ht]; · iexact Ht
    isplitl [Hs]; · iexact Hs
    isplitl [HT]
    · rw [show bigSep Finset.univ (St d L X T g (14 * 0)) = bigSep Finset.univ (Todo d L g) from bigSep_congr fun r _ => by
        unfold St; rw [if_neg (by omega), if_neg (by omega)]]
      iexact HT
    isplitl [Ho0]; · iexact Ho0
    isplitl [Hs5]; · iexact Hs5
    isplitl [Ho1]; · iexact Ho1
    iexact Hs6
  iintro %_ HI
  ihave HI := (show inv1 d L X T g q q' O W qt k0_t1_loop.trips _ ⊢ _ from Entails.of_eq (congrArg (fun n => inv1 d L X T g q q' O W qt n _) trips1)) $$ HI
  unfold inv1 Core JJ Sl
  icases HI with ⟨-, ⟨%P, Hx, Hx', Hp, Hi0, Hi1, Hs7, Hs8, %W0, %hW0, HO⟩, Ht, Hs, HS, HI⟩
  ihave HI := (Entails.of_eq (if_neg (show ¬ 14 * 2 = 0 by omega))) $$ HI
  icases HI with ⟨%p, %hp, HB, HC⟩
  unfold B0 B1
  sl_exec
  ihave Ho0 : iprop((o0B).view.loc (V d (cV L) (jV L)) ↦{fullShare} OB0 L X T p.1 p.2) $$ [HB_src0 HB_src1 HB_src2 HB_src3 HB_src4 HB_src5 HB_src6 HB_src7 HB_src8 HB_src9 HB_src10 HB_src11 HB_src12 HB_src13 HB_src14 HB_src15]
  · rw [split_ob0, sep16]
    isplitl [HB_src0]; · iexact HB_src0
    isplitl [HB_src1]; · iexact HB_src1
    isplitl [HB_src2]; · iexact HB_src2
    isplitl [HB_src3]; · iexact HB_src3
    isplitl [HB_src4]; · iexact HB_src4
    isplitl [HB_src5]; · iexact HB_src5
    isplitl [HB_src6]; · iexact HB_src6
    isplitl [HB_src7]; · iexact HB_src7
    isplitl [HB_src8]; · iexact HB_src8
    isplitl [HB_src9]; · iexact HB_src9
    isplitl [HB_src10]; · iexact HB_src10
    isplitl [HB_src11]; · iexact HB_src11
    isplitl [HB_src12]; · iexact HB_src12
    isplitl [HB_src13]; · iexact HB_src13
    isplitl [HB_src14]; · iexact HB_src14
    iexact HB_src15
  ihave HL0 : Land0 d L X T p.1 p.2 $$ [HB_dst0 HB_dst1 HB_dst2 HB_dst3 HB_dst4 HB_dst5 HB_dst6 HB_dst7 HB_dst8 HB_dst9 HB_dst10 HB_dst11 HB_dst12 HB_dst13 HB_dst14 HB_dst15]
  · unfold Land0; rw [sep16]
    isplitl [HB_dst0]; · iapply (fing0 d L X T g p.1 p.2 _) $$ HB_dst0
    isplitl [HB_dst1]; · iapply (fing0 d L X T g p.1 p.2 _) $$ HB_dst1
    isplitl [HB_dst2]; · iapply (fing0 d L X T g p.1 p.2 _) $$ HB_dst2
    isplitl [HB_dst3]; · iapply (fing0 d L X T g p.1 p.2 _) $$ HB_dst3
    isplitl [HB_dst4]; · iapply (fing0 d L X T g p.1 p.2 _) $$ HB_dst4
    isplitl [HB_dst5]; · iapply (fing0 d L X T g p.1 p.2 _) $$ HB_dst5
    isplitl [HB_dst6]; · iapply (fing0 d L X T g p.1 p.2 _) $$ HB_dst6
    isplitl [HB_dst7]; · iapply (fing0 d L X T g p.1 p.2 _) $$ HB_dst7
    isplitl [HB_dst8]; · iapply (fing0 d L X T g p.1 p.2 _) $$ HB_dst8
    isplitl [HB_dst9]; · iapply (fing0 d L X T g p.1 p.2 _) $$ HB_dst9
    isplitl [HB_dst10]; · iapply (fing0 d L X T g p.1 p.2 _) $$ HB_dst10
    isplitl [HB_dst11]; · iapply (fing0 d L X T g p.1 p.2 _) $$ HB_dst11
    isplitl [HB_dst12]; · iapply (fing0 d L X T g p.1 p.2 _) $$ HB_dst12
    isplitl [HB_dst13]; · iapply (fing0 d L X T g p.1 p.2 _) $$ HB_dst13
    isplitl [HB_dst14]; · iapply (fing0 d L X T g p.1 p.2 _) $$ HB_dst14
    iapply (fing0 d L X T g p.1 p.2 _) $$ HB_dst15
  ihave Ho1 : iprop((o1B).view.loc (V d (cV L) (jV L)) ↦{fullShare} OB1 L X T p.1 p.2) $$ [HC_src0 HC_src1 HC_src2 HC_src3 HC_src4 HC_src5 HC_src6 HC_src7 HC_src8 HC_src9 HC_src10 HC_src11 HC_src12 HC_src13 HC_src14 HC_src15]
  · rw [split_ob1, sep16]
    isplitl [HC_src0]; · iexact HC_src0
    isplitl [HC_src1]; · iexact HC_src1
    isplitl [HC_src2]; · iexact HC_src2
    isplitl [HC_src3]; · iexact HC_src3
    isplitl [HC_src4]; · iexact HC_src4
    isplitl [HC_src5]; · iexact HC_src5
    isplitl [HC_src6]; · iexact HC_src6
    isplitl [HC_src7]; · iexact HC_src7
    isplitl [HC_src8]; · iexact HC_src8
    isplitl [HC_src9]; · iexact HC_src9
    isplitl [HC_src10]; · iexact HC_src10
    isplitl [HC_src11]; · iexact HC_src11
    isplitl [HC_src12]; · iexact HC_src12
    isplitl [HC_src13]; · iexact HC_src13
    isplitl [HC_src14]; · iexact HC_src14
    iexact HC_src15
  ihave HL1 : Land1 d L X T p.1 p.2 $$ [HC_dst0 HC_dst1 HC_dst2 HC_dst3 HC_dst4 HC_dst5 HC_dst6 HC_dst7 HC_dst8 HC_dst9 HC_dst10 HC_dst11 HC_dst12 HC_dst13 HC_dst14 HC_dst15]
  · unfold Land1; rw [sep16]
    isplitl [HC_dst0]; · iapply (fing1 d L X T g p.1 p.2 _) $$ HC_dst0
    isplitl [HC_dst1]; · iapply (fing1 d L X T g p.1 p.2 _) $$ HC_dst1
    isplitl [HC_dst2]; · iapply (fing1 d L X T g p.1 p.2 _) $$ HC_dst2
    isplitl [HC_dst3]; · iapply (fing1 d L X T g p.1 p.2 _) $$ HC_dst3
    isplitl [HC_dst4]; · iapply (fing1 d L X T g p.1 p.2 _) $$ HC_dst4
    isplitl [HC_dst5]; · iapply (fing1 d L X T g p.1 p.2 _) $$ HC_dst5
    isplitl [HC_dst6]; · iapply (fing1 d L X T g p.1 p.2 _) $$ HC_dst6
    isplitl [HC_dst7]; · iapply (fing1 d L X T g p.1 p.2 _) $$ HC_dst7
    isplitl [HC_dst8]; · iapply (fing1 d L X T g p.1 p.2 _) $$ HC_dst8
    isplitl [HC_dst9]; · iapply (fing1 d L X T g p.1 p.2 _) $$ HC_dst9
    isplitl [HC_dst10]; · iapply (fing1 d L X T g p.1 p.2 _) $$ HC_dst10
    isplitl [HC_dst11]; · iapply (fing1 d L X T g p.1 p.2 _) $$ HC_dst11
    isplitl [HC_dst12]; · iapply (fing1 d L X T g p.1 p.2 _) $$ HC_dst12
    isplitl [HC_dst13]; · iapply (fing1 d L X T g p.1 p.2 _) $$ HC_dst13
    isplitl [HC_dst14]; · iapply (fing1 d L X T g p.1 p.2 _) $$ HC_dst14
    iapply (fing1 d L X T g p.1 p.2 _) $$ HC_dst15
  sl_step
  isplitl [Hx]; · iexact Hx
  isplitl [Hx']; · iexact Hx'
  isplitl [Ht]; · iexact Ht
  isplitl [HS HL0 HL1]
  · iapply (all_done d L X T g p hp) $$ [HS HL0 HL1]
    isplitl [HS]; · iexact HS
    unfold Done
    isplitl [HL0]; · iexact HL0
    iexact HL1
  isplitl [Hp]; · iexists _; iexact Hp
  isplitl [Hi0]; · iexact Hi0
  isplitl [Hi1]; · iexact Hi1
  isplitl [Ho0]; · iexists _; iexact Ho0
  isplitl [Ho1]; · iexists _; iexact Ho1
  isplitl [HB]; · iexact HB
  isplitl [HC]; · iexact HC
  isplitl [Hs7]; · iexact Hs7
  isplitl [Hs8]; · iexact Hs8
  isplitl [Hs]; · iexact Hs
  iexists _
  isplitr
  rotate_left
  · iexact HO
  · ipureintro
    repeat (first | exact hW0 | refine OKW.ins ?_ _)

end

end Cert.Proof.Scm

end
-- ==== Proof.Host.lean ====
/-
  The operations the program runs before the kernel, as a list, and the table they leave.
-/
module

public import proofs.«01_k».proof.Proof.Setup
public import Idealize.ShloMosaic.Lib.StableHlo.RunRead
public import Idealize.ShloMosaic.Lib.Pipeline.Frame

@[expose] public section

noncomputable section

namespace Cert.Proof.Scm

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "xV" => (Memref.whole Cert.KernelIdeal.main_arg0_scv : Memref Cert.KernelIdeal.sig Kind.scVector Space.hbm Cert.KernelIdeal.S8x8x224x224 EltTy.f32)
local notation "tV" => (Memref.whole Cert.KernelIdeal.main_v75_scv : Memref Cert.KernelIdeal.sig Kind.scVector Space.hbm Cert.KernelIdeal.S2560 EltTy.f32)
local notation "oV" => (Memref.whole Cert.KernelIdeal.main_v76_scv : Memref Cert.KernelIdeal.sig Kind.scVector Space.hbm Cert.KernelIdeal.S8x128x224x224 EltTy.f32)
local notation "pB" => (Memref.whole Cert.KernelIdeal.cc0_scratch0 : Memref Cert.KernelIdeal.sig Kind.scVector Space.vmem Cert.KernelIdeal.S320 EltTy.f32)
local notation "i0B" => (Memref.whole Cert.KernelIdeal.cc0_scratch1 : Memref Cert.KernelIdeal.sig Kind.scVector Space.vmem Cert.KernelIdeal.S8x224 EltTy.f32)
local notation "i1B" => (Memref.whole Cert.KernelIdeal.cc0_scratch2 : Memref Cert.KernelIdeal.sig Kind.scVector Space.vmem Cert.KernelIdeal.S8x224 EltTy.f32)
local notation "o0B" => (Memref.whole Cert.KernelIdeal.cc0_scratch3 : Memref Cert.KernelIdeal.sig Kind.scVector Space.vmem Cert.KernelIdeal.S16x8x224 EltTy.f32)
local notation "o1B" => (Memref.whole Cert.KernelIdeal.cc0_scratch4 : Memref Cert.KernelIdeal.sig Kind.scVector Space.vmem Cert.KernelIdeal.S16x8x224 EltTy.f32)

set_option maxHeartbeats 40000000 in
/-- Part 0 of the operations before the kernel. -/
abbrev hops0 [FloatOps F] : List (HloOp τ sig (Elt F)) :=
  [ StableHlo.unary main_arg1 main_v0 ((extractStridedSlice S8x1 ![0, 0] · slices_S8x16_S8x1_0_0) : (⟨S8x16, .f32⟩ : BufTy).Contents (Elt F) → (⟨S8x1, .f32⟩ : BufTy).Contents (Elt F)),
    StableHlo.reshape main_v0 main_v1 (rfl : (.f32 : EltTy) = .f32) shapeCasts_S8x1_S8,
    StableHlo.unary main_arg1 main_v2 ((extractStridedSlice S8x1 ![0, 1] · slices_S8x16_S8x1_0_1) : (⟨S8x16, .f32⟩ : BufTy).Contents (Elt F) → (⟨S8x1, .f32⟩ : BufTy).Contents (Elt F)),
    StableHlo.reshape main_v2 main_v3 (rfl : (.f32 : EltTy) = .f32) shapeCasts_S8x1_S8,
    StableHlo.unary main_arg1 main_v4 ((extractStridedSlice S8x1 ![0, 0] · slices_S8x16_S8x1_0_0) : (⟨S8x16, .f32⟩ : BufTy).Contents (Elt F) → (⟨S8x1, .f32⟩ : BufTy).Contents (Elt F)),
    StableHlo.reshape main_v4 main_v5 (rfl : (.f32 : EltTy) = .f32) shapeCasts_S8x1_S8,
    StableHlo.binary main_v3 main_v5 main_v6 (subf : (⟨S8, .f32⟩ : BufTy).Contents (Elt F) → (⟨S8, .f32⟩ : BufTy).Contents (Elt F) → (⟨S8, .f32⟩ : BufTy).Contents (Elt F)),
    StableHlo.unary main_arg2 main_v7 ((extractStridedSlice S8x1 ![0, 0] · slices_S8x16_S8x1_0_0) : (⟨S8x16, .f32⟩ : BufTy).Contents (Elt F) → (⟨S8x1, .f32⟩ : BufTy).Contents (Elt F)),
    StableHlo.reshape main_v7 main_v8 (rfl : (.f32 : EltTy) = .f32) shapeCasts_S8x1_S8,
    StableHlo.unary main_v8 main_v9 (Host.negf : (⟨S8, .f32⟩ : BufTy).Contents (Elt F) → (⟨S8, .f32⟩ : BufTy).Contents (Elt F)),
    StableHlo.unary main_arg2 main_v10 ((extractStridedSlice S8x1 ![0, 1] · slices_S8x16_S8x1_0_1) : (⟨S8x16, .f32⟩ : BufTy).Contents (Elt F) → (⟨S8x1, .f32⟩ : BufTy).Contents (Elt F)),
    StableHlo.reshape main_v10 main_v11 (rfl : (.f32 : EltTy) = .f32) shapeCasts_S8x1_S8,
    StableHlo.unary main_arg2 main_v12 ((extractStridedSlice S8x1 ![0, 0] · slices_S8x16_S8x1_0_0) : (⟨S8x16, .f32⟩ : BufTy).Contents (Elt F) → (⟨S8x1, .f32⟩ : BufTy).Contents (Elt F)),
    StableHlo.reshape main_v12 main_v13 (rfl : (.f32 : EltTy) = .f32) shapeCasts_S8x1_S8,
    StableHlo.binary main_v11 main_v13 main_v14 (subf : (⟨S8, .f32⟩ : BufTy).Contents (Elt F) → (⟨S8, .f32⟩ : BufTy).Contents (Elt F) → (⟨S8, .f32⟩ : BufTy).Contents (Elt F)),
    StableHlo.unary main_v14 main_v15 (Host.negf : (⟨S8, .f32⟩ : BufTy).Contents (Elt F) → (⟨S8, .f32⟩ : BufTy).Contents (Elt F)),
    StableHlo.nullary main_cst (constant S_ .f32 0x3F800000#32),
    StableHlo.unary main_cst main_v16 (broadcastInDim S8 ![] bcast_S_S8 : (⟨S_, .f32⟩ : BufTy).Contents (Elt F) → (⟨S8, .f32⟩ : BufTy).Contents (Elt F)),
    StableHlo.binary main_v16 main_v6 main_v17 (Host.divf : (⟨S8, .f32⟩ : BufTy).Contents (Elt F) → (⟨S8, .f32⟩ : BufTy).Contents (Elt F) → (⟨S8, .f32⟩ : BufTy).Contents (Elt F)),
    StableHlo.unary main_arg1 main_v18 ((extractStridedSlice S8x1 ![0, 0] · slices_S8x16_S8x1_0_0) : (⟨S8x16, .f32⟩ : BufTy).Contents (Elt F) → (⟨S8x1, .f32⟩ : BufTy).Contents (Elt F)),
    StableHlo.reshape main_v18 main_v19 (rfl : (.f32 : EltTy) = .f32) shapeCasts_S8x1_S8,
    StableHlo.unary main_arg1 main_v20 ((extractStridedSlice S8x1 ![0, 1] · slices_S8x16_S8x1_0_1) : (⟨S8x16, .f32⟩ : BufTy).Contents (Elt F) → (⟨S8x1, .f32⟩ : BufTy).Contents (Elt F)),
    StableHlo.reshape main_v20 main_v21 (rfl : (.f32 : EltTy) = .f32) shapeCasts_S8x1_S8,
    StableHlo.unary main_arg1 main_v22 ((extractStridedSlice S8x1 ![0, 2] · slices_S8x16_S8x1_0_2) : (⟨S8x16, .f32⟩ : BufTy).Contents (Elt F) → (⟨S8x1, .f32⟩ : BufTy).Contents (Elt F)),
    StableHlo.reshape main_v22 main_v23 (rfl : (.f32 : EltTy) = .f32) shapeCasts_S8x1_S8,
    StableHlo.unary main_arg1 main_v24 ((extractStridedSlice S8x1 ![0, 3] · slices_S8x16_S8x1_0_3) : (⟨S8x16, .f32⟩ : BufTy).Contents (Elt F) → (⟨S8x1, .f32⟩ : BufTy).Contents (Elt F)),
    StableHlo.reshape main_v24 main_v25 (rfl : (.f32 : EltTy) = .f32) shapeCasts_S8x1_S8,
    StableHlo.unary main_arg1 main_v26 ((extractStridedSlice S8x1 ![0, 4] · slices_S8x16_S8x1_0_4) : (⟨S8x16, .f32⟩ : BufTy).Contents (Elt F) → (⟨S8x1, .f32⟩ : BufTy).Contents (Elt F)),
    StableHlo.reshape main_v26 main_v27 (rfl : (.f32 : EltTy) = .f32) shapeCasts_S8x1_S8,
    StableHlo.unary main_arg1 main_v28 ((extractStridedSlice S8x1 ![0, 5] · slices_S8x16_S8x1_0_5) : (⟨S8x16, .f32⟩ : BufTy).Contents (Elt F) → (⟨S8x1, .f32⟩ : BufTy).Contents (Elt F)),
    StableHlo.reshape main_v28 main_v29 (rfl : (.f32 : EltTy) = .f32) shapeCasts_S8x1_S8,
    StableHlo.unary main_arg1 main_v30 ((extractStridedSlice S8x1 ![0, 6] · slices_S8x16_S8x1_0_6) : (⟨S8x16, .f32⟩ : BufTy).Contents (Elt F) → (⟨S8x1, .f32⟩ : BufTy).Contents (Elt F)),
    StableHlo.reshape main_v30 main_v31 (rfl : (.f32 : EltTy) = .f32) shapeCasts_S8x1_S8,
    StableHlo.unary main_arg1 main_v32 ((extractStridedSlice S8x1 ![0, 7] · slices_S8x16_S8x1_0_7) : (⟨S8x16, .f32⟩ : BufTy).Contents (Elt F) → (⟨S8x1, .f32⟩ : BufTy).Contents (Elt F)),
    StableHlo.reshape main_v32 main_v33 (rfl : (.f32 : EltTy) = .f32) shapeCasts_S8x1_S8,
    StableHlo.unary main_arg1 main_v34 ((extractStridedSlice S8x1 ![0, 8] · slices_S8x16_S8x1_0_8) : (⟨S8x16, .f32⟩ : BufTy).Contents (Elt F) → (⟨S8x1, .f32⟩ : BufTy).Contents (Elt F)),
    StableHlo.reshape main_v34 main_v35 (rfl : (.f32 : EltTy) = .f32) shapeCasts_S8x1_S8,
    StableHlo.unary main_arg1 main_v36 ((extractStridedSlice S8x1 ![0, 9] · slices_S8x16_S8x1_0_9) : (⟨S8x16, .f32⟩ : BufTy).Contents (Elt F) → (⟨S8x1, .f32⟩ : BufTy).Contents (Elt F)),
    StableHlo.reshape main_v36 main_v37 (rfl : (.f32 : EltTy) = .f32) shapeCasts_S8x1_S8,
    StableHlo.unary main_arg1 main_v38 ((extractStridedSlice S8x1 ![0, 10] · slices_S8x16_S8x1_0_10) : (⟨S8x16, .f32⟩ : BufTy).Contents (Elt F) → (⟨S8x1, .f32⟩ : BufTy).Contents (Elt F)),
    StableHlo.reshape main_v38 main_v39 (rfl : (.f32 : EltTy) = .f32) shapeCasts_S8x1_S8,
    StableHlo.unary main_arg1 main_v40 ((extractStridedSlice S8x1 ![0, 11] · slices_S8x16_S8x1_0_11) : (⟨S8x16, .f32⟩ : BufTy).Contents (Elt F) → (⟨S8x1, .f32⟩ : BufTy).Contents (Elt F)),
    StableHlo.reshape main_v40 main_v41 (rfl : (.f32 : EltTy) = .f32) shapeCasts_S8x1_S8,
    StableHlo.unary main_arg1 main_v42 ((extractStridedSlice S8x1 ![0, 12] · slices_S8x16_S8x1_0_12) : (⟨S8x16, .f32⟩ : BufTy).Contents (Elt F) → (⟨S8x1, .f32⟩ : BufTy).Contents (Elt F)),
    StableHlo.reshape main_v42 main_v43 (rfl : (.f32 : EltTy) = .f32) shapeCasts_S8x1_S8,
    StableHlo.unary main_arg1 main_v44 ((extractStridedSlice S8x1 ![0, 13] · slices_S8x16_S8x1_0_13) : (⟨S8x16, .f32⟩ : BufTy).Contents (Elt F) → (⟨S8x1, .f32⟩ : BufTy).Contents (Elt F)),
    StableHlo.reshape main_v44 main_v45 (rfl : (.f32 : EltTy) = .f32) shapeCasts_S8x1_S8,
    StableHlo.unary main_arg1 main_v46 ((extractStridedSlice S8x1 ![0, 14] · slices_S8x16_S8x1_0_14) : (⟨S8x16, .f32⟩ : BufTy).Contents (Elt F) → (⟨S8x1, .f32⟩ : BufTy).Contents (Elt F)),
    StableHlo.reshape main_v46 main_v47 (rfl : (.f32 : EltTy) = .f32) shapeCasts_S8x1_S8,
    StableHlo.unary main_arg1 main_v48 ((extractStridedSlice S8x1 ![0, 15] · slices_S8x16_S8x1_0_15) : (⟨S8x16, .f32⟩ : BufTy).Contents (Elt F) → (⟨S8x1, .f32⟩ : BufTy).Contents (Elt F)),
    StableHlo.reshape main_v48 main_v49 (rfl : (.f32 : EltTy) = .f32) shapeCasts_S8x1_S8,
    StableHlo.unary main_v1 main_v50 (broadcastInDim S8x1 ![0] bcast_S8_S8x1_0 : (⟨S8, .f32⟩ : BufTy).Contents (Elt F) → (⟨S8x1, .f32⟩ : BufTy).Contents (Elt F)),
    StableHlo.unary main_v17 main_v51 (broadcastInDim S8x1 ![0] bcast_S8_S8x1_0 : (⟨S8, .f32⟩ : BufTy).Contents (Elt F) → (⟨S8x1, .f32⟩ : BufTy).Contents (Elt F)),
    StableHlo.unary main_v9 main_v52 (broadcastInDim S8x1 ![0] bcast_S8_S8x1_0 : (⟨S8, .f32⟩ : BufTy).Contents (Elt F) → (⟨S8x1, .f32⟩ : BufTy).Contents (Elt F)),
    StableHlo.unary main_v15 main_v53 (broadcastInDim S8x1 ![0] bcast_S8_S8x1_0 : (⟨S8, .f32⟩ : BufTy).Contents (Elt F) → (⟨S8x1, .f32⟩ : BufTy).Contents (Elt F)),
    StableHlo.unary main_v19 main_v54 (broadcastInDim S8x1 ![0] bcast_S8_S8x1_0 : (⟨S8, .f32⟩ : BufTy).Contents (Elt F) → (⟨S8x1, .f32⟩ : BufTy).Contents (Elt F)),
    StableHlo.unary main_v21 main_v55 (broadcastInDim S8x1 ![0] bcast_S8_S8x1_0 : (⟨S8, .f32⟩ : BufTy).Contents (Elt F) → (⟨S8x1, .f32⟩ : BufTy).Contents (Elt F)),
    StableHlo.unary main_v23 main_v56 (broadcastInDim S8x1 ![0] bcast_S8_S8x1_0 : (⟨S8, .f32⟩ : BufTy).Contents (Elt F) → (⟨S8x1, .f32⟩ : BufTy).Contents (Elt F)),
    StableHlo.unary main_v25 main_v57 (broadcastInDim S8x1 ![0] bcast_S8_S8x1_0 : (⟨S8, .f32⟩ : BufTy).Contents (Elt F) → (⟨S8x1, .f32⟩ : BufTy).Contents (Elt F)),
    StableHlo.unary main_v27 main_v58 (broadcastInDim S8x1 ![0] bcast_S8_S8x1_0 : (⟨S8, .f32⟩ : BufTy).Contents (Elt F) → (⟨S8x1, .f32⟩ : BufTy).Contents (Elt F)) ]

set_option maxHeartbeats 40000000 in
/-- Part 1 of the operations before the kernel. -/
abbrev hops1 [FloatOps F] : List (HloOp τ sig (Elt F)) :=
  [ StableHlo.unary main_v29 main_v59 (broadcastInDim S8x1 ![0] bcast_S8_S8x1_0 : (⟨S8, .f32⟩ : BufTy).Contents (Elt F) → (⟨S8x1, .f32⟩ : BufTy).Contents (Elt F)),
    StableHlo.unary main_v31 main_v60 (broadcastInDim S8x1 ![0] bcast_S8_S8x1_0 : (⟨S8, .f32⟩ : BufTy).Contents (Elt F) → (⟨S8x1, .f32⟩ : BufTy).Contents (Elt F)),
    StableHlo.unary main_v33 main_v61 (broadcastInDim S8x1 ![0] bcast_S8_S8x1_0 : (⟨S8, .f32⟩ : BufTy).Contents (Elt F) → (⟨S8x1, .f32⟩ : BufTy).Contents (Elt F)),
    StableHlo.unary main_v35 main_v62 (broadcastInDim S8x1 ![0] bcast_S8_S8x1_0 : (⟨S8, .f32⟩ : BufTy).Contents (Elt F) → (⟨S8x1, .f32⟩ : BufTy).Contents (Elt F)),
    StableHlo.unary main_v37 main_v63 (broadcastInDim S8x1 ![0] bcast_S8_S8x1_0 : (⟨S8, .f32⟩ : BufTy).Contents (Elt F) → (⟨S8x1, .f32⟩ : BufTy).Contents (Elt F)),
    StableHlo.unary main_v39 main_v64 (broadcastInDim S8x1 ![0] bcast_S8_S8x1_0 : (⟨S8, .f32⟩ : BufTy).Contents (Elt F) → (⟨S8x1, .f32⟩ : BufTy).Contents (Elt F)),
    StableHlo.unary main_v41 main_v65 (broadcastInDim S8x1 ![0] bcast_S8_S8x1_0 : (⟨S8, .f32⟩ : BufTy).Contents (Elt F) → (⟨S8x1, .f32⟩ : BufTy).Contents (Elt F)),
    StableHlo.unary main_v43 main_v66 (broadcastInDim S8x1 ![0] bcast_S8_S8x1_0 : (⟨S8, .f32⟩ : BufTy).Contents (Elt F) → (⟨S8x1, .f32⟩ : BufTy).Contents (Elt F)),
    StableHlo.unary main_v45 main_v67 (broadcastInDim S8x1 ![0] bcast_S8_S8x1_0 : (⟨S8, .f32⟩ : BufTy).Contents (Elt F) → (⟨S8x1, .f32⟩ : BufTy).Contents (Elt F)),
    StableHlo.unary main_v47 main_v68 (broadcastInDim S8x1 ![0] bcast_S8_S8x1_0 : (⟨S8, .f32⟩ : BufTy).Contents (Elt F) → (⟨S8x1, .f32⟩ : BufTy).Contents (Elt F)),
    StableHlo.unary main_v49 main_v69 (broadcastInDim S8x1 ![0] bcast_S8_S8x1_0 : (⟨S8, .f32⟩ : BufTy).Contents (Elt F) → (⟨S8x1, .f32⟩ : BufTy).Contents (Elt F)),
    StableHlo.nary ![main_v50, main_v51, main_v52, main_v53, main_v54, main_v55, main_v56, main_v57, main_v58, main_v59, main_v60, main_v61, main_v62, main_v63, main_v64, main_v65] main_v70 (fun u => (concatenate S8x16 1 [⟨S8x1, (u 0 : (⟨S8x1, .f32⟩ : BufTy).Contents (Elt F))⟩, ⟨S8x1, (u 1 : (⟨S8x1, .f32⟩ : BufTy).Contents (Elt F))⟩, ⟨S8x1, (u 2 : (⟨S8x1, .f32⟩ : BufTy).Contents (Elt F))⟩, ⟨S8x1, (u 3 : (⟨S8x1, .f32⟩ : BufTy).Contents (Elt F))⟩, ⟨S8x1, (u 4 : (⟨S8x1, .f32⟩ : BufTy).Contents (Elt F))⟩, ⟨S8x1, (u 5 : (⟨S8x1, .f32⟩ : BufTy).Contents (Elt F))⟩, ⟨S8x1, (u 6 : (⟨S8x1, .f32⟩ : BufTy).Contents (Elt F))⟩, ⟨S8x1, (u 7 : (⟨S8x1, .f32⟩ : BufTy).Contents (Elt F))⟩, ⟨S8x1, (u 8 : (⟨S8x1, .f32⟩ : BufTy).Contents (Elt F))⟩, ⟨S8x1, (u 9 : (⟨S8x1, .f32⟩ : BufTy).Contents (Elt F))⟩, ⟨S8x1, (u 10 : (⟨S8x1, .f32⟩ : BufTy).Contents (Elt F))⟩, ⟨S8x1, (u 11 : (⟨S8x1, .f32⟩ : BufTy).Contents (Elt F))⟩, ⟨S8x1, (u 12 : (⟨S8x1, .f32⟩ : BufTy).Contents (Elt F))⟩, ⟨S8x1, (u 13 : (⟨S8x1, .f32⟩ : BufTy).Contents (Elt F))⟩, ⟨S8x1, (u 14 : (⟨S8x1, .f32⟩ : BufTy).Contents (Elt F))⟩, ⟨S8x1, (u 15 : (⟨S8x1, .f32⟩ : BufTy).Contents (Elt F))⟩] concatenates_S8x1_S8x1_S8x1_S8x1_S8x1_S8x1_S8x1_S8x1_S8x1_S8x1_S8x1_S8x1_S8x1_S8x1_S8x1_S8x1_S8x16_d1 : (⟨S8x16, .f32⟩ : BufTy).Contents (Elt F))),
    StableHlo.nary ![main_v66, main_v67, main_v68, main_v69] main_v71 (fun u => (concatenate S8x4 1 [⟨S8x1, (u 0 : (⟨S8x1, .f32⟩ : BufTy).Contents (Elt F))⟩, ⟨S8x1, (u 1 : (⟨S8x1, .f32⟩ : BufTy).Contents (Elt F))⟩, ⟨S8x1, (u 2 : (⟨S8x1, .f32⟩ : BufTy).Contents (Elt F))⟩, ⟨S8x1, (u 3 : (⟨S8x1, .f32⟩ : BufTy).Contents (Elt F))⟩] concatenates_S8x1_S8x1_S8x1_S8x1_S8x4_d1 : (⟨S8x4, .f32⟩ : BufTy).Contents (Elt F))),
    StableHlo.binary main_v70 main_v71 main_v72 ((fun a b => concatenate S8x20 1 [⟨S8x16, a⟩, ⟨S8x4, b⟩] concatenates_S8x16_S8x4_S8x20_d1) : (⟨S8x16, .f32⟩ : BufTy).Contents (Elt F) → (⟨S8x4, .f32⟩ : BufTy).Contents (Elt F) → (⟨S8x20, .f32⟩ : BufTy).Contents (Elt F)),
    StableHlo.unary main_v72 main_v73 (broadcastInDim S8x20x1 ![0, 1] bcast_S8x20_S8x20x1_0_1 : (⟨S8x20, .f32⟩ : BufTy).Contents (Elt F) → (⟨S8x20x1, .f32⟩ : BufTy).Contents (Elt F)),
    StableHlo.unary main_v73 main_v74 (broadcastInDim S8x20x16 ![0, 1, 2] bcast_S8x20x1_S8x20x16_0_1_2 : (⟨S8x20x1, .f32⟩ : BufTy).Contents (Elt F) → (⟨S8x20x16, .f32⟩ : BufTy).Contents (Elt F)),
    StableHlo.reshape main_v74 main_v75 (rfl : (.f32 : EltTy) = .f32) shapeCasts_S8x20x16_S2560 ]

section
variable [FloatOps F]

/-- The operations before the kernel. -/
abbrev hops : List (HloOp τ sig (Elt F)) := hops0 ++ hops1

set_option maxHeartbeats 40000000 in
theorem part0_eq (d : Dev nD) : main_part0 (F := F) d = StableHlo.seq hops0 := rfl

set_option maxHeartbeats 40000000 in
theorem part1_eq (d : Dev nD) :
    main_part1 (F := F) d = StableHlo.seq hops1 >>= fun _ => ((K (F := F)).run d 0 >>= fun _ => pure ⟨⟩) := rfl

theorem main_eq (d : Dev nD) :
    Cert.KernelIdeal.main (F := F) d = StableHlo.seq hops >>= fun _ => ((K (F := F)).run d 0 >>= fun _ => pure ⟨⟩) := by
  show (main_part0 (F := F) d >>= fun _ => main_part1 d) = _
  rw [part0_eq, part1_eq, StableHlo.seq_append, bind_assoc]

set_option maxHeartbeats 40000000 in
theorem hops_sub : ∀ op ∈ hops (F := F), op.bufs ⊆ Pipeline.ucRefs τ sig := by
  have h : (hops (F := F)).Forall fun op => op.bufs ⊆ StableHlo.tcRefs τ sig := by
    simp only [hops, hops0, hops1, List.cons_append, List.nil_append, List.forall_cons, StableHlo.nullary_bufs_sub, StableHlo.unary_bufs_sub,
      StableHlo.binary_bufs_sub, StableHlo.reshape_bufs_sub, StableHlo.nary_bufs_sub, List.Forall, and_self]
  exact fun op ho => Pipeline.sub_ucRefs op (List.forall_iff_forall_mem.1 h op ho)

set_option maxHeartbeats 40000000 in
theorem hops_fresh : ∀ op ∈ hops (F := F), op.fresh = ∅ :=
  List.forall_iff_forall_mem.1 (StableHlo.forall_fresh_of_map rfl)

variable (m : (ℓ : Loc nD τ sig) → Buf (Elt F) ℓ) (d : Dev nD)

abbrev xLoc (d : Dev nD) : Loc nD τ sig := (SparseCore.T d).loc main_arg0
abbrev eLoc (d : Dev nD) : Loc nD τ sig := (SparseCore.T d).loc main_arg1
abbrev fLoc (d : Dev nD) : Loc nD τ sig := (SparseCore.T d).loc main_arg2
abbrev tLoc (d : Dev nD) : Loc nD τ sig := (SparseCore.T d).loc main_v75
abbrev oLoc (d : Dev nD) : Loc nD τ sig := (SparseCore.T d).loc main_v76

/-- What the buffers hold when the kernel starts. -/
abbrev HV : Valuation τ sig (Elt F) := StableHlo.after hops (StableHlo.launchContents m d)

/-- The table the kernel is given. -/
@[irreducible] def TB : S2560.Idx → F .f32 := HV m d (Proc.devRef .tc main_v75)
theorem HV_t : HV m d (Proc.devRef .tc main_v75) = TB m d := by unfold TB; rfl

set_option maxHeartbeats 40000000 in
theorem HV_x : HV m d (Proc.devRef .tc main_arg0) = m (xLoc d) := by after_reads_simp
set_option maxHeartbeats 40000000 in
theorem HV_e : HV m d (Proc.devRef .tc main_arg1) = m (eLoc d) := by after_reads_simp
set_option maxHeartbeats 40000000 in
theorem HV_f : HV m d (Proc.devRef .tc main_arg2) = m (fLoc d) := by after_reads_simp
set_option maxHeartbeats 40000000 in
theorem HV_o : HV m d (Proc.devRef .tc main_v76) = m (oLoc d) := by after_reads_simp

/-- The buffers the kernel and the claims read, out of the ones the program holds when the kernel starts. -/
theorem held_split5 :
    (StableHlo.held (SparseCore.T d) (Pipeline.ucRefs τ sig) (HV m d) : sProp 𝕄)
      ⊢ iprop((xLoc d ↦{fullShare} m (xLoc d)) ∗ (eLoc d ↦{fullShare} m (eLoc d)) ∗ (fLoc d ↦{fullShare} m (fLoc d))
          ∗ (tLoc d ↦{fullShare} TB m d) ∗ (oLoc d ↦{fullShare} m (oLoc d))) := by
  have hs : ({Proc.devRef .tc main_arg0, Proc.devRef .tc main_arg1, Proc.devRef .tc main_arg2, Proc.devRef .tc main_v75, Proc.devRef .tc main_v76} : Finset (DevRef τ sig))
      ⊆ Pipeline.ucRefs τ sig := by
    intro b hb
    simp only [Finset.mem_insert, Finset.mem_singleton] at hb
    refine Finset.mem_filter.mpr ?_
    rcases hb with rfl | rfl | rfl | rfl | rfl <;> exact ⟨StableHlo.devRef_mem_tcRefs _, by decide⟩
  rw [StableHlo.held_sub_split _ hs]
  unfold StableHlo.held
  rw [SparseCore.bigSep_insert' (by decide), SparseCore.bigSep_insert' (by decide), SparseCore.bigSep_insert' (by decide),
    SparseCore.bigSep_insert' (by decide), bigSep_singleton, HV_x, HV_e, HV_f, HV_t, HV_o]
  iintro ⟨⟨Hx, He, Hf, Ht, Ho⟩, -⟩
  isplitl [Hx]; · iexact Hx
  isplitl [He]; · iexact He
  isplitl [Hf]; · iexact Hf
  isplitl [Ht]; · iexact Ht
  iexact Ho

end

end Cert.Proof.Scm

end
-- ==== Proof.Deal.lean ====
/-
  The result dealt to the tiles' steps and joined again, and the inputs dealt in shares.
-/
module

public import proofs.«01_k».proof.Proof.Loops
public import proofs.«01_k».proof.Proof.Host

@[expose] public section

noncomputable section

namespace Cert.Proof.Scm

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "xV" => (Memref.whole Cert.KernelIdeal.main_arg0_scv : Memref Cert.KernelIdeal.sig Kind.scVector Space.hbm Cert.KernelIdeal.S8x8x224x224 EltTy.f32)
local notation "tV" => (Memref.whole Cert.KernelIdeal.main_v75_scv : Memref Cert.KernelIdeal.sig Kind.scVector Space.hbm Cert.KernelIdeal.S2560 EltTy.f32)
local notation "oV" => (Memref.whole Cert.KernelIdeal.main_v76_scv : Memref Cert.KernelIdeal.sig Kind.scVector Space.hbm Cert.KernelIdeal.S8x128x224x224 EltTy.f32)
local notation "pB" => (Memref.whole Cert.KernelIdeal.cc0_scratch0 : Memref Cert.KernelIdeal.sig Kind.scVector Space.vmem Cert.KernelIdeal.S320 EltTy.f32)
local notation "i0B" => (Memref.whole Cert.KernelIdeal.cc0_scratch1 : Memref Cert.KernelIdeal.sig Kind.scVector Space.vmem Cert.KernelIdeal.S8x224 EltTy.f32)
local notation "i1B" => (Memref.whole Cert.KernelIdeal.cc0_scratch2 : Memref Cert.KernelIdeal.sig Kind.scVector Space.vmem Cert.KernelIdeal.S8x224 EltTy.f32)
local notation "o0B" => (Memref.whole Cert.KernelIdeal.cc0_scratch3 : Memref Cert.KernelIdeal.sig Kind.scVector Space.vmem Cert.KernelIdeal.S16x8x224 EltTy.f32)
local notation "o1B" => (Memref.whole Cert.KernelIdeal.cc0_scratch4 : Memref Cert.KernelIdeal.sig Kind.scVector Space.vmem Cert.KernelIdeal.S16x8x224 EltTy.f32)

/-- The tile at position `i` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- The same from plain numbers. -/
abbrev tileL (c : Fin 2) (i : Fin 16) : grid0.Coords := coordsV ⟨c.val, c.isLt⟩ ⟨i.val, i.isLt⟩

theorem slab_tile (c : Fin 2) (i : Fin 16) (t : ℕ) : slab (tileL c i) t = 4 * i.val + 2 * c.val + t := rfl

/-- The places plane `k` of half `h` of a step goes to. -/
def WS (L : grid0.Coords) (h : Fin 2) (t1 : Fin k0_t1_loop.trips) (t2 : Fin k0_t2_loop.trips) (k : Fin 16) : Finset S8x128x224x224.Idx :=
  Finset.univ.filter fun z => (z 0).val = slab L t1.val / 8 ∧ (z 1).val = slab L t1.val % 8 * 16 + k.val ∧ (z 2).val / 8 = 2 * t2.val + h.val

theorem set_oW0 (L : grid0.Coords) (t1 : Fin k0_t1_loop.trips) (t2 : Fin k0_t2_loop.trips) (k : Fin 16) :
    (oW0 L t1 t2 k).view.set = WS L 0 t1 t2 k := by
  show (((oV).view.slice (Rect.unit (s := S8x128x224x224) (k0_off21 L t1 t2 (BitVec.ofNat 32 k.val)) S1x1x8x224.size (k0_off21_inb L t1 t2 k))).reshape S8x224 _).set = _
  rw [View.set_reshape]
  refine (View.set_slice_whole _ _).trans ?_
  ext z
  rw [Rect.mem_set_unit]
  unfold WS
  simp only [Finset.mem_filter, Finset.mem_univ, _root_.true_and]
  have h3 : (z 3).val < 224 := (z 3).isLt
  have o := off21_eqv L t1 t2 k
  have e0 : k0_off21 L t1 t2 (BitVec.ofNat 32 k.val) 0 = slab L t1.val / 8 := by rw [o]; rfl
  have e1 : k0_off21 L t1 t2 (BitVec.ofNat 32 k.val) 1 = slab L t1.val % 8 * 16 + k.val := by rw [o]; rfl
  have e2 : k0_off21 L t1 t2 (BitVec.ofNat 32 k.val) 2 = t2.val * 16 := by rw [o]; rfl
  have e3 : k0_off21 L t1 t2 (BitVec.ofNat 32 k.val) 3 = 0 := by rw [o]; rfl
  constructor
  · intro H
    have H0 := H 0
    have H1 := H 1
    have H2 := H 2
    rw [e0] at H0; rw [e1] at H1; rw [e2] at H2
    change slab L t1.val / 8 ≤ (z 0).val ∧ (z 0).val < slab L t1.val / 8 + 1 at H0
    change slab L t1.val % 8 * 16 + k.val ≤ (z 1).val ∧ (z 1).val < slab L t1.val % 8 * 16 + k.val + 1 at H1
    change t2.val * 16 ≤ (z 2).val ∧ (z 2).val < t2.val * 16 + 8 at H2
    refine ⟨by omega, by omega, ?_⟩
    show (z 2).val / 8 = 2 * t2.val + 0
    omega
  · rintro ⟨H0, H1, H2⟩ a
    change (z 2).val / 8 = 2 * t2.val + 0 at H2
    match a with
    | 0 => rw [e0]; show slab L t1.val / 8 ≤ (z 0).val ∧ (z 0).val < slab L t1.val / 8 + 1; omega
    | 1 => rw [e1]; show slab L t1.val % 8 * 16 + k.val ≤ (z 1).val ∧ (z 1).val < slab L t1.val % 8 * 16 + k.val + 1; omega
    | 2 => rw [e2]; show t2.val * 16 ≤ (z 2).val ∧ (z 2).val < t2.val * 16 + 8; omega
    | 3 => rw [e3]; show 0 ≤ (z 3).val ∧ (z 3).val < 0 + 224; omega

theorem oPt0_eq (d : Dev nD) (L : grid0.Coords) (g : S8x128x224x224.Idx → F .f32) (t1 : Fin k0_t1_loop.trips) (t2 : Fin k0_t2_loop.trips) (k : Fin 16) :
    (oPt0 d L g t1 t2 k : sProp 𝕄) = (oLoc d ↦[WS L 0 t1 t2 k]{fullShare} g) := by
  rw [← set_oW0]
  rfl

theorem set_oW1 (L : grid0.Coords) (t1 : Fin k0_t1_loop.trips) (t2 : Fin k0_t2_loop.trips) (k : Fin 16) :
    (oW1 L t1 t2 k).view.set = WS L 1 t1 t2 k := by
  show (((oV).view.slice (Rect.unit (s := S8x128x224x224) (k0_off39 L t1 t2 (BitVec.ofNat 32 k.val)) S1x1x8x224.size (k0_off39_inb L t1 t2 k))).reshape S8x224 _).set = _
  rw [View.set_reshape]
  refine (View.set_slice_whole _ _).trans ?_
  ext z
  rw [Rect.mem_set_unit]
  unfold WS
  simp only [Finset.mem_filter, Finset.mem_univ, _root_.true_and]
  have h3 : (z 3).val < 224 := (z 3).isLt
  have o := off39_eqv L t1 t2 k
  have e0 : k0_off39 L t1 t2 (BitVec.ofNat 32 k.val) 0 = slab L t1.val / 8 := by rw [o]; rfl
  have e1 : k0_off39 L t1 t2 (BitVec.ofNat 32 k.val) 1 = slab L t1.val % 8 * 16 + k.val := by rw [o]; rfl
  have e2 : k0_off39 L t1 t2 (BitVec.ofNat 32 k.val) 2 = t2.val * 16 + 8 := by rw [o]; rfl
  have e3 : k0_off39 L t1 t2 (BitVec.ofNat 32 k.val) 3 = 0 := by rw [o]; rfl
  constructor
  · intro H
    have H0 := H 0
    have H1 := H 1
    have H2 := H 2
    rw [e0] at H0; rw [e1] at H1; rw [e2] at H2
    change slab L t1.val / 8 ≤ (z 0).val ∧ (z 0).val < slab L t1.val / 8 + 1 at H0
    change slab L t1.val % 8 * 16 + k.val ≤ (z 1).val ∧ (z 1).val < slab L t1.val % 8 * 16 + k.val + 1 at H1
    change t2.val * 16 + 8 ≤ (z 2).val ∧ (z 2).val < t2.val * 16 + 8 + 8 at H2
    refine ⟨by omega, by omega, ?_⟩
    show (z 2).val / 8 = 2 * t2.val + 1
    omega
  · rintro ⟨H0, H1, H2⟩ a
    change (z 2).val / 8 = 2 * t2.val + 1 at H2
    match a with
    | 0 => rw [e0]; show slab L t1.val / 8 ≤ (z 0).val ∧ (z 0).val < slab L t1.val / 8 + 1; omega
    | 1 => rw [e1]; show slab L t1.val % 8 * 16 + k.val ≤ (z 1).val ∧ (z 1).val < slab L t1.val % 8 * 16 + k.val + 1; omega
    | 2 => rw [e2]; show t2.val * 16 + 8 ≤ (z 2).val ∧ (z 2).val < t2.val * 16 + 8 + 8; omega
    | 3 => rw [e3]; show 0 ≤ (z 3).val ∧ (z 3).val < 0 + 224; omega

theorem oPt1_eq (d : Dev nD) (L : grid0.Coords) (g : S8x128x224x224.Idx → F .f32) (t1 : Fin k0_t1_loop.trips) (t2 : Fin k0_t2_loop.trips) (k : Fin 16) :
    (oPt1 d L g t1 t2 k : sProp 𝕄) = (oLoc d ↦[WS L 1 t1 t2 k]{fullShare} g) := by
  rw [← set_oW1]
  rfl

/-- A step's pieces: which tile, which step, which half, which plane. -/
abbrev Ax : Type := (Fin 2 × Fin 16) × (Pt × (Fin 2 × Fin 16))

abbrev WA (a : Ax) : Finset S8x128x224x224.Idx := WS (tileL a.1.1 a.1.2) a.2.2.1 a.2.1.1 a.2.1.2 a.2.2.2

theorem WA_cover (z : S8x128x224x224.Idx) : ∃ a, z ∈ WA a := by
  have h0 : (z 0).val < 8 := (z 0).isLt
  have h1 : (z 1).val < 128 := (z 1).isLt
  have h2 : (z 2).val < 224 := (z 2).isLt
  refine ⟨((⟨((z 0).val * 8 + (z 1).val / 16) / 2 % 2, by omega⟩, ⟨((z 0).val * 8 + (z 1).val / 16) / 4, by omega⟩),
    ((⟨((z 0).val * 8 + (z 1).val / 16) % 2, show _ < 2 by omega⟩, ⟨(z 2).val / 16, show _ < 14 by omega⟩),
      (⟨(z 2).val / 8 % 2, by omega⟩, ⟨(z 1).val % 16, by omega⟩))), ?_⟩
  unfold WA WS
  rw [Finset.mem_filter, slab_tile]
  refine ⟨Finset.mem_univ _, ?_, ?_, ?_⟩
  · show (z 0).val = (4 * (((z 0).val * 8 + (z 1).val / 16) / 4) + 2 * (((z 0).val * 8 + (z 1).val / 16) / 2 % 2) + ((z 0).val * 8 + (z 1).val / 16) % 2) / 8
    omega
  · show (z 1).val = (4 * (((z 0).val * 8 + (z 1).val / 16) / 4) + 2 * (((z 0).val * 8 + (z 1).val / 16) / 2 % 2) + ((z 0).val * 8 + (z 1).val / 16) % 2) % 8 * 16 + (z 1).val % 16
    omega
  · show (z 2).val / 8 = 2 * ((z 2).val / 16) + (z 2).val / 8 % 2
    omega

theorem WA_inj (a a' : Ax) (z : S8x128x224x224.Idx) (h : z ∈ WA a) (h' : z ∈ WA a') : a = a' := by
  obtain ⟨⟨c, i⟩, ⟨t1, t2⟩, hh, k⟩ := a
  obtain ⟨⟨c', i'⟩, ⟨t1', t2'⟩, hh', k'⟩ := a'
  unfold WA WS at h h'
  rw [Finset.mem_filter, slab_tile] at h h'
  obtain ⟨-, x0, x1, x2⟩ := h
  obtain ⟨-, y0, y1, y2⟩ := h'
  dsimp only at x0 x1 x2 y0 y1 y2
  have b1 := t1_lt t1
  have b2 := t1_lt t1'
  have b3 := c.isLt
  have b4 := c'.isLt
  have b5 := hh.isLt
  have b6 := hh'.isLt
  have b7 := k.isLt
  have b8 := k'.isLt
  have ek : k.val = k'.val := by omega
  have es : 4 * i.val + 2 * c.val + t1.val = 4 * i'.val + 2 * c'.val + t1'.val := by omega
  have ei : i.val = i'.val := by omega
  have ec : c.val = c'.val := by omega
  have et : t1.val = t1'.val := by omega
  have eu : t2.val = t2'.val := by omega
  have eh : hh.val = hh'.val := by omega
  rw [Fin.ext ek, Fin.ext ei, Fin.ext ec, Fin.ext et, Fin.ext eu, Fin.ext eh]

/-- The result at `g` is every tile's every step's two halves at `g`. -/
theorem out_deal (d : Dev nD) (g : S8x128x224x224.Idx → F .f32) :
    (oLoc d ↦{fullShare} g : sProp 𝕄)
      = bigSep Finset.univ fun ci : Fin 2 × Fin 16 => bigSep Finset.univ (Todo d (tileL ci.1 ci.2) g) := by
  refine (split_gen (A := Ax) (oLoc d) fullShare g WA WA_cover WA_inj).trans ?_
  rw [bigSep_univ_prod]
  refine bigSep_congr fun ci _ => ?_
  rw [bigSep_univ_prod]
  refine bigSep_congr fun p _ => ?_
  rw [bigSep_univ_prod, bigSep_fin_two]
  unfold Todo
  rw [show (bigSep Finset.univ (oPt0 d (tileL ci.1 ci.2) g p.1 p.2) : sProp 𝕄) = _ from bigSep_congr fun k _ => oPt0_eq d (tileL ci.1 ci.2) g p.1 p.2 k,
    show (bigSep Finset.univ (oPt1 d (tileL ci.1 ci.2) g p.1 p.2) : sProp 𝕄) = _ from bigSep_congr fun k _ => oPt1_eq d (tileL ci.1 ci.2) g p.1 p.2 k]
  rfl

theorem done_eq (d : Dev nD) (L : grid0.Coords) (X : S8x8x224x224.Idx → F .f32) (T : S2560.Idx → F .f32) :
    (Done d L X T : Pt → sProp 𝕄) = Todo d L (GG X T) := rfl

/-- The share of an input's half `q` a tile reads with. -/
abbrev tok (q : PosShare TreeShare) (c : Fin 2) (i : Fin 16) : PosShare TreeShare := Transfers.shareTok q (2 * 16) (finProdFinEquiv (c, i))

theorem toks_deal (ℓ : Loc nD τ sig) (f : Buf (Elt F) ℓ) (q : PosShare TreeShare) :
    (ℓ ↦{q} f : sProp 𝕄) ⊢ iprop((ℓ ↦{Transfers.shareDrop q (2 * 16)} f) ∗ bigSep Finset.univ fun ci : Fin 2 × Fin 16 => (ℓ ↦{tok q ci.1 ci.2} f)) := by
  refine (Transfers.pointsTo_toks (Lvl := ℕ) q (2 * 16)).1.trans ?_
  rw [bigSep_univ_equiv finProdFinEquiv]
theorem toks_join (ℓ : Loc nD τ sig) (f : Buf (Elt F) ℓ) (q : PosShare TreeShare) :
    iprop((ℓ ↦{Transfers.shareDrop q (2 * 16)} f) ∗ bigSep Finset.univ fun ci : Fin 2 × Fin 16 => (ℓ ↦{tok q ci.1 ci.2} f)) ⊢ (ℓ ↦{q} f : sProp 𝕄) := by
  refine .trans ?_ (Transfers.pointsTo_toks (Lvl := ℕ) q (2 * 16)).2
  rw [bigSep_univ_equiv finProdFinEquiv (fun i : Fin (2 * 16) => (ℓ ↦{Transfers.shareTok q (2 * 16) i} f : sProp 𝕄))]

end Cert.Proof.Scm

end
-- ==== Proof.Launch.lean ====
/-
  The launch: what each tile is given and gives back, the program around the kernel, and what the run leaves.
-/
module

public import proofs.«01_k».proof.Proof.Tile
public import proofs.«01_k».proof.Proof.Deal

@[expose] public section

noncomputable section

namespace Cert.Proof.Scm

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "xV" => (Memref.whole Cert.KernelIdeal.main_arg0_scv : Memref Cert.KernelIdeal.sig Kind.scVector Space.hbm Cert.KernelIdeal.S8x8x224x224 EltTy.f32)
local notation "tV" => (Memref.whole Cert.KernelIdeal.main_v75_scv : Memref Cert.KernelIdeal.sig Kind.scVector Space.hbm Cert.KernelIdeal.S2560 EltTy.f32)
local notation "oV" => (Memref.whole Cert.KernelIdeal.main_v76_scv : Memref Cert.KernelIdeal.sig Kind.scVector Space.hbm Cert.KernelIdeal.S8x128x224x224 EltTy.f32)
local notation "pB" => (Memref.whole Cert.KernelIdeal.cc0_scratch0 : Memref Cert.KernelIdeal.sig Kind.scVector Space.vmem Cert.KernelIdeal.S320 EltTy.f32)
local notation "i0B" => (Memref.whole Cert.KernelIdeal.cc0_scratch1 : Memref Cert.KernelIdeal.sig Kind.scVector Space.vmem Cert.KernelIdeal.S8x224 EltTy.f32)
local notation "i1B" => (Memref.whole Cert.KernelIdeal.cc0_scratch2 : Memref Cert.KernelIdeal.sig Kind.scVector Space.vmem Cert.KernelIdeal.S8x224 EltTy.f32)
local notation "o0B" => (Memref.whole Cert.KernelIdeal.cc0_scratch3 : Memref Cert.KernelIdeal.sig Kind.scVector Space.vmem Cert.KernelIdeal.S16x8x224 EltTy.f32)
local notation "o1B" => (Memref.whole Cert.KernelIdeal.cc0_scratch4 : Memref Cert.KernelIdeal.sig Kind.scVector Space.vmem Cert.KernelIdeal.S16x8x224 EltTy.f32)

section
variable (m : (ℓ : Loc nD τ sig) → Buf (Elt F) ℓ) (ρ : Dev nD → PrngReg)

/-- The result. -/
abbrev OUT (d : Dev nD) : S8x128x224x224.Idx → F .f32 := GG (m (xLoc d)) (TB m d)

/-- A tile's shares of the two inputs. -/
abbrev Shares (d : Dev nD) (c : Fin 2) (i : Fin 16) : sProp 𝕄 :=
  iprop((xLoc d ↦{tok fullShare.left c i} m (xLoc d)) ∗ (xLoc d ↦{tok fullShare.right c i} m (xLoc d)) ∗ (tLoc d ↦{tok fullShare c i} TB m d))

/-- What a tile is given: its shares of the inputs and its steps' places in the result. -/
@[irreducible] def TileIn (d : Dev nD) (c : Fin 2) (i : Fin 16) : sProp 𝕄 :=
  iprop(Shares m d c i ∗ bigSep Finset.univ (Todo d (tileL c i) (m (oLoc d))))
/-- What it gives back: the same, the places written. -/
@[irreducible] def TileOut (d : Dev nD) (c : Fin 2) (i : Fin 16) : sProp 𝕄 :=
  iprop(Shares m d c i ∗ bigSep Finset.univ (Todo d (tileL c i) (OUT m d)))
/-- What a SparseCore is given, and gives back: its tiles' holdings. -/
@[irreducible] def CoreIn (d : Dev nD) (c : Fin 2) : sProp 𝕄 := bigSep Finset.univ fun i : Fin 16 => TileIn m d c i
@[irreducible] def CoreOut (d : Dev nD) (c : Fin 2) : sProp 𝕄 := bigSep Finset.univ fun i : Fin 16 => TileOut m d c i

def P : (K (F := F)).Pay (nD := nD) (Val := Elt F) (Name := ℕ) (U := UU) where
  st := fun q d c => match q with | 0 => CoreIn m d (Fin.cast nCore_zero c)
  dn := fun q d c => match q with | 0 => CoreOut m d (Fin.cast nCore_zero c)
  go := fun q d c i => match q with | 0 => TileIn m d (Fin.cast nCore_zero c) (Fin.cast nSub_zero i)
  td := fun q d c i => match q with | 0 => TileOut m d (Fin.cast nCore_zero c) (Fin.cast nSub_zero i)
  x := fun _ _ => iprop(emp)

theorem store_big {I : Type} (s : Finset I) (Φ : I → sProp 𝕄) (h : ∀ i, BI.Storable (upEmb : UEmb _ 𝕄) (Φ i)) :
    BI.Storable (upEmb : UEmb _ 𝕄) (bigSep s Φ) := inferInstance

theorem todo_storable (d : Dev nD) (L : grid0.Coords) (g : S8x128x224x224.Idx → F .f32) (p : Pt) :
    BI.Storable (upEmb : UEmb _ 𝕄) (Todo (F := F) d L g p) := by
  unfold Todo
  exact store_two (store_big _ _ fun _ => store_pt _ _ _ _) (store_big _ _ fun _ => store_pt _ _ _ _)

theorem shares_storable (d : Dev nD) (c : Fin 2) (i : Fin 16) : BI.Storable (upEmb : UEmb _ 𝕄) (Shares m d c i) :=
  store_two (store_pt _ _ _ _) (store_two (store_pt _ _ _ _) (store_pt _ _ _ _))

theorem tileIn_storable (d : Dev nD) (c : Fin 2) (i : Fin 16) : BI.Storable (upEmb : UEmb _ 𝕄) (TileIn m d c i) := by
  unfold TileIn
  exact store_two (shares_storable m d c i) (store_big _ _ fun p => todo_storable _ _ _ p)
theorem tileOut_storable (d : Dev nD) (c : Fin 2) (i : Fin 16) : BI.Storable (upEmb : UEmb _ 𝕄) (TileOut m d c i) := by
  unfold TileOut
  exact store_two (shares_storable m d c i) (store_big _ _ fun p => todo_storable _ _ _ p)
theorem coreIn_storable (d : Dev nD) (c : Fin 2) : BI.Storable (upEmb : UEmb _ 𝕄) (CoreIn m d c) := by
  unfold CoreIn
  exact store_big _ _ fun i => tileIn_storable m d c i
theorem coreOut_storable (d : Dev nD) (c : Fin 2) : BI.Storable (upEmb : UEmb _ 𝕄) (CoreOut m d c) := by
  unfold CoreOut
  exact store_big _ _ fun i => tileOut_storable m d c i

instance P_storable : (P (F := F) m).IsStorable where
  st q d c := match q with | 0 => coreIn_storable m d (Fin.cast nCore_zero c)
  dn q d c := match q with | 0 => coreOut_storable m d (Fin.cast nCore_zero c)
  go q d c i := match q with | 0 => tileIn_storable m d (Fin.cast nCore_zero c) (Fin.cast nSub_zero i)
  td q d c i := match q with | 0 => tileOut_storable m d (Fin.cast nCore_zero c) (Fin.cast nSub_zero i)

/-! ## The task -/

section Tile
variable (d : Dev nD) (L : grid0.Coords)

theorem cell_ne {a b : SemLoc sig} (h : a ≠ b) : ((V d (cV L) (jV L)), a) ≠ (((V d (cV L) (jV L)), b) : GSem nD τ sig) := fun e => h (Prod.mk.inj e).2

theorem ownSems0_V :
    (ownSems0 (V d (cV L) (jV L)) : sProp 𝕄)
      = iprop(semVal ((V d (cV L) (jV L)), SemLoc.dma cc0_scratch5.sem) 0 ∗ semVal ((V d (cV L) (jV L)), SemLoc.dma cc0_scratch6.sem) 0 ∗ semVal ((V d (cV L) (jV L)), SemLoc.dma cc0_scratch7.sem) 0 ∗ semVal ((V d (cV L) (jV L)), SemLoc.dma cc0_scratch8.sem) 0 ∗ semVal ((V d (cV L) (jV L)), SemLoc.dma cc0_scoped0.sem) 0
          ∗ bigSep ((((((ownCells (V d (cV L) (jV L))).erase ((V d (cV L) (jV L)), SemLoc.dma cc0_scratch5.sem)).erase ((V d (cV L) (jV L)), SemLoc.dma cc0_scratch6.sem)).erase ((V d (cV L) (jV L)), SemLoc.dma cc0_scratch7.sem)).erase ((V d (cV L) (jV L)), SemLoc.dma cc0_scratch8.sem)).erase ((V d (cV L) (jV L)), SemLoc.dma cc0_scoped0.sem)) fun g => semVal g 0) := by
  unfold SparseCore.Cfg.ownSems0
  rw [SparseCore.bigSep_erase' ((mem_ownCells (g := (((V d (cV L) (jV L)), SemLoc.dma cc0_scratch5.sem) : GSem nD τ sig))).mpr ⟨rfl, by show (SemLoc.dma cc0_scratch5.sem : SemLoc sig).isScoped .scVector = true; decide⟩),
    SparseCore.bigSep_erase' (Finset.mem_erase.mpr ⟨cell_ne d L (show (SemLoc.dma cc0_scratch6.sem : SemLoc sig) ≠ .dma cc0_scratch5.sem by decide), (mem_ownCells (g := (((V d (cV L) (jV L)), SemLoc.dma cc0_scratch6.sem) : GSem nD τ sig))).mpr ⟨rfl, by show (SemLoc.dma cc0_scratch6.sem : SemLoc sig).isScoped .scVector = true; decide⟩⟩),
    SparseCore.bigSep_erase' (Finset.mem_erase.mpr ⟨cell_ne d L (show (SemLoc.dma cc0_scratch7.sem : SemLoc sig) ≠ .dma cc0_scratch6.sem by decide), Finset.mem_erase.mpr ⟨cell_ne d L (show (SemLoc.dma cc0_scratch7.sem : SemLoc sig) ≠ .dma cc0_scratch5.sem by decide), (mem_ownCells (g := (((V d (cV L) (jV L)), SemLoc.dma cc0_scratch7.sem) : GSem nD τ sig))).mpr ⟨rfl, by show (SemLoc.dma cc0_scratch7.sem : SemLoc sig).isScoped .scVector = true; decide⟩⟩⟩),
    SparseCore.bigSep_erase' (Finset.mem_erase.mpr ⟨cell_ne d L (show (SemLoc.dma cc0_scratch8.sem : SemLoc sig) ≠ .dma cc0_scratch7.sem by decide), Finset.mem_erase.mpr ⟨cell_ne d L (show (SemLoc.dma cc0_scratch8.sem : SemLoc sig) ≠ .dma cc0_scratch6.sem by decide), Finset.mem_erase.mpr ⟨cell_ne d L (show (SemLoc.dma cc0_scratch8.sem : SemLoc sig) ≠ .dma cc0_scratch5.sem by decide), (mem_ownCells (g := (((V d (cV L) (jV L)), SemLoc.dma cc0_scratch8.sem) : GSem nD τ sig))).mpr ⟨rfl, by show (SemLoc.dma cc0_scratch8.sem : SemLoc sig).isScoped .scVector = true; decide⟩⟩⟩⟩),
    SparseCore.bigSep_erase' (Finset.mem_erase.mpr ⟨cell_ne d L (show (SemLoc.dma cc0_scoped0.sem : SemLoc sig) ≠ .dma cc0_scratch8.sem by decide), Finset.mem_erase.mpr ⟨cell_ne d L (show (SemLoc.dma cc0_scoped0.sem : SemLoc sig) ≠ .dma cc0_scratch7.sem by decide), Finset.mem_erase.mpr ⟨cell_ne d L (show (SemLoc.dma cc0_scoped0.sem : SemLoc sig) ≠ .dma cc0_scratch6.sem by decide), Finset.mem_erase.mpr ⟨cell_ne d L (show (SemLoc.dma cc0_scoped0.sem : SemLoc sig) ≠ .dma cc0_scratch5.sem by decide), (mem_ownCells (g := (((V d (cV L) (jV L)), SemLoc.dma cc0_scoped0.sem) : GSem nD τ sig))).mpr ⟨rfl, by show (SemLoc.dma cc0_scoped0.sem : SemLoc sig).isScoped .scVector = true; decide⟩⟩⟩⟩⟩)]

theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f)
          ∗ bigSep ((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := (Proc.scVector (cV L) (jV L)).devRef cc0_scratch4) rfl⟩⟩⟩⟩)]

set_option maxHeartbeats 4000000 in
theorem tile_body (c : Fin 2) (i : Fin 16) (hL : L = tileL c i) (hF : (K (F := F)).Facts) (O : CellTallies nD τ sig (HIx 1)) (W : Waits sig (HIx 1)) (hO : ∀ g, O g none = 0) :
    iprop(levAts (K (F := F)).L (K (F := F)).lev ∗ emp ∗ TileIn m d c i
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_run L xV (Memref.isWhole_whole _) tV (Memref.isWhole_whole _) oV (Memref.isWhole_whole _) pB (Memref.isWhole_whole _)
            i0B (Memref.isWhole_whole _) i1B (Memref.isWhole_whole _) o0B (Memref.isWhole_whole _) o1B (Memref.isWhole_whole _)
            cc0_scratch5 cc0_scratch6 cc0_scratch7 cc0_scratch8 cc0_scoped0)
          fun _ => iprop(TileOut m d c i ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V]
  unfold TileIn TileOut Shares
  iintro ⟨#Hlv, -, ⟨⟨Hx, Hx', Ht⟩, HT⟩, ⟨Hp, Hi0, Hi1, Ho0, Ho1, Hbufs⟩, ⟨Hs5, Hs6, Hs7, Hs8, Hs, Hsems⟩, HO⟩
  ihave Hmw := (show levAts (K (F := F)).L (K (F := F)).lev ⊢ Transfers.MayWaits (V d (cV L) (jV L)) (default : HIx 1) O from
    (K (F := F)).mayWaits_none (thr := (V d (cV L) (jV L))) hO) $$ Hlv
  ihave Hw := (tile_run d L (m (xLoc d)) (TB m d) (m (oLoc d)) (tok fullShare.left c i) (tok fullShare.right c i) (tok fullShare c i) O W) $$ [Hmw Hx Hx' Ht HT Hp Hi0 Hi1 Ho0 Ho1 Hs5 Hs6 Hs7 Hs8 Hs HO]
  · isplitl [Hmw]; · iexact Hmw
    isplitl [Hx]; · iexact Hx
    isplitl [Hx']; · iexact Hx'
    isplitl [Ht]; · iexact Ht
    isplitl [HT]; · rw [hL]; iexact HT
    isplitl [Hp]; · iexact Hp
    isplitl [Hi0]; · iexact Hi0
    isplitl [Hi1]; · iexact Hi1
    isplitl [Ho0]; · iexact Ho0
    isplitl [Ho1]; · iexact Ho1
    isplitl [Hs5]; · iexact Hs5
    isplitl [Hs6]; · iexact Hs6
    isplitl [Hs7]; · iexact Hs7
    isplitl [Hs8]; · iexact Hs8
    isplitl [Hs]; · iexact Hs
    iexact HO
  iapply (wp_wand_r Idealize.ShloMosaic.frame (wpE (defs₀ (F := F)) 𝒱₀ (V d (cV L) (jV L)) none) Set.univ) $$ [Hw Hbufs Hsems]
  isplitl [Hw]; · iexact Hw
  iintro %_ ⟨Hx, Hx', Ht, HT, Hp, Hi0, Hi1, Ho0, Ho1, Hs5, Hs6, Hs7, Hs8, Hs, %W', %hW, HO⟩
  isplitl [Hx Hx' Ht HT]
  · isplitl [Hx Hx' Ht]
    · isplitl [Hx]; · iexact Hx
      isplitl [Hx']; · iexact Hx'
      iexact Ht
    rw [done_eq, hL]; iexact HT
  isplitl [Hp Hi0 Hi1 Ho0 Ho1 Hbufs]
  · isplitl [Hp]; · iexact Hp
    isplitl [Hi0]; · iexact Hi0
    isplitl [Hi1]; · iexact Hi1
    isplitl [Ho0]; · iexact Ho0
    isplitl [Ho1]; · iexact Ho1
    iexact Hbufs
  isplitl [Hs5 Hs6 Hs7 Hs8 Hs Hsems]
  · isplitl [Hs5]; · iexact Hs5
    isplitl [Hs6]; · iexact Hs6
    isplitl [Hs7]; · iexact Hs7
    isplitl [Hs8]; · iexact Hs8
    isplitl [Hs]; · iexact Hs
    iexact Hsems
  iexists W'
  isplitr
  swap; · iexact HO
  ipureintro
  exact fun p hp => (hW p hp).imp id Or.inl

theorem defs₀_vector (c : Fin τ.nSC) (s : Fin τ.nSub) :
    defs₀ (F := F) (.scVector c s) 0 ()
      = SparseCore.onTile hcore0 hsub0 (fun c s => cc0_run (coordsV c s)
          xV (Memref.isWhole_whole _) tV (Memref.isWhole_whole _) oV (Memref.isWhole_whole _) pB (Memref.isWhole_whole _)
            i0B (Memref.isWhole_whole _) i1B (Memref.isWhole_whole _) o0B (Memref.isWhole_whole _) o1B (Memref.isWhole_whole _)
            cc0_scratch5 cc0_scratch6 cc0_scratch7 cc0_scratch8 cc0_scoped0) ⟨⟩ c s := rfl

theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) (Fin.cast nCore_zero c) (Fin.cast nSub_zero i) rfl hF O W hO

end Tile

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show CoreIn m d (Fin.cast nCore_zero c) ⊢ |={Set.univ}=> iprop(
      (bigSep Finset.univ fun i : Fin ((K (F := F)).nSub 0) => TileIn m d (Fin.cast nCore_zero c) (Fin.cast nSub_zero i))
      ∗ ((bigSep Finset.univ fun i : Fin ((K (F := F)).nSub 0) => TileOut m d (Fin.cast nCore_zero c) (Fin.cast nSub_zero i))
          -∗ CoreOut m d (Fin.cast nCore_zero c)))
  rw [bigSep_tasks (F := F) (fun i => TileIn m d (Fin.cast nCore_zero c) i), bigSep_tasks (F := F) (fun i => TileOut m d (Fin.cast nCore_zero c) i)]
  unfold CoreIn CoreOut
  iintro H; imodintro
  isplitl [H]; · iexact H
  iintro H; iexact H

/-! ## The launch -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

theorem st0_eq (d : Dev nD) :
    (bigSep Finset.univ fun c : Fin ((K (F := F)).nCore 0) => (P m).st 0 d c)
      = bigSep Finset.univ fun ci : Fin 2 × Fin 16 => iprop(Shares m d ci.1 ci.2 ∗ bigSep Finset.univ (Todo d (tileL ci.1 ci.2) (m (oLoc d)))) := by
  refine (bigSep_cores (F := F) (fun c => CoreIn m d c)).trans ?_
  rw [bigSep_univ_prod (fun ci : Fin 2 × Fin 16 => iprop(Shares m d ci.1 ci.2 ∗ bigSep Finset.univ (Todo d (tileL ci.1 ci.2) (m (oLoc d)))))]
  refine bigSep_congr fun c _ => ?_
  unfold CoreIn TileIn
  rfl
theorem dn0_eq (d : Dev nD) :
    (bigSep Finset.univ fun c : Fin ((K (F := F)).nCore 0) => (P m).dn 0 d c)
      = bigSep Finset.univ fun ci : Fin 2 × Fin 16 => iprop(Shares m d ci.1 ci.2 ∗ bigSep Finset.univ (Todo d (tileL ci.1 ci.2) (OUT m d))) := by
  refine (bigSep_cores (F := F) (fun c => CoreOut m d c)).trans ?_
  rw [bigSep_univ_prod (fun ci : Fin 2 × Fin 16 => iprop(Shares m d ci.1 ci.2 ∗ bigSep Finset.univ (Todo d (tileL ci.1 ci.2) (OUT m d))))]
  refine bigSep_congr fun c _ => ?_
  unfold CoreOut TileOut
  rfl

/-- The tiles' holdings, sorted by what they are. -/
theorem tiles_eq (d : Dev nD) (g : S8x128x224x224.Idx → F .f32) :
    (bigSep Finset.univ fun ci : Fin 2 × Fin 16 => iprop(Shares m d ci.1 ci.2 ∗ bigSep Finset.univ (Todo d (tileL ci.1 ci.2) g)) : sProp 𝕄)
      = iprop(((bigSep Finset.univ fun ci : Fin 2 × Fin 16 => (xLoc d ↦{tok fullShare.left ci.1 ci.2} m (xLoc d)))
          ∗ (bigSep Finset.univ fun ci : Fin 2 × Fin 16 => (xLoc d ↦{tok fullShare.right ci.1 ci.2} m (xLoc d)))
          ∗ (bigSep Finset.univ fun ci : Fin 2 × Fin 16 => (tLoc d ↦{tok fullShare ci.1 ci.2} TB m d)))
        ∗ (oLoc d ↦{fullShare} g)) := by
  unfold Shares
  rw [bigSep_sep', bigSep_sep', bigSep_sep', out_deal]

abbrev FIN (d : Dev nD) : sProp 𝕄 :=
  iprop((xLoc d ↦{fullShare} m (xLoc d)) ∗ (eLoc d ↦{fullShare} m (eLoc d)) ∗ (fLoc d ↦{fullShare} m (fLoc d)) ∗ (oLoc d ↦{fullShare} OUT m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (Cert.KernelIdeal.main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = StableHlo.held (SparseCore.T d) (Pipeline.ucRefs τ sig) (StableHlo.launchContents m d)
    from Pipeline.unscopedBufs_held d (StableHlo.launchContents m d), main_eq]
  iintro ⟨#Hctx, Hst, ⟨Hb, Hheld, Hts, -⟩, -⟩
  iapply (StableHlo.wp_seq 𝒱 none Set.univ d (Pipeline.ucRefs τ sig) (fun _ => ((K (F := F)).run d 0 >>= fun _ => pure ⟨⟩)) hops hops_sub hops_fresh (StableHlo.launchContents m d)) $$ [Hb Hheld]
  · isplitl [Hb]; · iexact Hb
    iexact Hheld
  iintro ⟨Hb, Hheld⟩
  ihave Hh := (held_split5 m d) $$ Hheld
  icases Hh with ⟨Hx, He, Hf, Ht, Ho⟩
  ihave Hxx := (pointsTo_share (PosShare.mem_left_op_right _)).1 $$ Hx
  icases Hxx with ⟨Hx, Hx'⟩
  ihave Hx := (toks_deal (xLoc d) (m (xLoc d)) fullShare.left) $$ Hx
  ihave Hx' := (toks_deal (xLoc d) (m (xLoc d)) fullShare.right) $$ Hx'
  ihave Ht := (toks_deal (tLoc d) (TB m d) fullShare) $$ Ht
  icases Hx with ⟨Hxr, Hx⟩
  icases Hx' with ⟨Hxr', Hx'⟩
  icases Ht with ⟨-, Ht⟩
  simp only [wp_bind, wp_pure]
  iapply ((K (F := F)).wp_run (D (F := F)) 𝒱 (EH := EH) (P := P m) κ d 0) $$ [Hst Hx Hx' Ht Ho Hxr Hxr' He Hf Hb Hts]
  isplitr; · iexact Hctx
  isplitl [Hst]; · iexact Hst
  isplitl [Hx Hx' Ht Ho]
  · rw [st0_eq]
    iapply (Entails.of_eq (tiles_eq m d (m (oLoc d))).symm)
    isplitl [Hx Hx' Ht]
    · isplitl [Hx]; · iexact Hx
      isplitl [Hx']; · iexact Hx'
      iexact Ht
    iexact Ho
  iintro ⟨Hst, Hdn⟩
  ihave Hdn' := (Entails.of_eq ((dn0_eq m d).trans (tiles_eq m d (OUT m d)))) $$ Hdn
  icases Hdn' with ⟨⟨Hx, Hx', -⟩, Ho⟩
  ihave Hx := (toks_join (xLoc d) (m (xLoc d)) fullShare.left) $$ [Hxr Hx]
  · isplitl [Hxr]; · iexact Hxr
    iexact Hx
  ihave Hx' := (toks_join (xLoc d) (m (xLoc d)) fullShare.right) $$ [Hxr' Hx']
  · isplitl [Hxr']; · iexact Hxr'
    iexact Hx'
  ihave Hx := (pointsTo_share (PosShare.mem_left_op_right _)).2 $$ [Hx Hx']
  · isplitl [Hx]; · iexact Hx
    iexact Hx'
  imodintro
  isplitl [Hst]; · iexact Hst
  isplitr [Hb Hts]
  · isplitl [Hx]; · iexact Hx
    isplitl [He]; · iexact He
    isplitl [Hf]; · iexact Hf
    iexact Ho
  isplitl [Hb] <;> iassumption

def fq (d : Dev nD) (s' : Phys nD τ sig (Elt F)) : Prop :=
  s'.mem.mem (xLoc d) = m (xLoc d) ∧ s'.mem.mem (eLoc d) = m (eLoc d) ∧ s'.mem.mem (fLoc d) = m (fLoc d) ∧ s'.mem.mem (oLoc d) = OUT m d

theorem hfin (d : Dev nD) (s' : Phys nD τ sig (Elt F)) : iprop(FIN m d ∗ SI s') ⊢ (⌜fq m d s'⌝ : sProp 𝕄) := by
  iintro ⟨⟨Hx, He, Hf, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%hx, HSI, -⟩
  ihave H := (persistent_entails_right (SI_pointsTo_agree (st := s') (ℓ := eLoc d) (I := Finset.univ) (q := fullShare) (f := m (eLoc d)))) $$ [HSI He]
  · isplitl [HSI] <;> iassumption
  icases H with ⟨%he, HSI, -⟩
  ihave H := (persistent_entails_right (SI_pointsTo_agree (st := s') (ℓ := fLoc d) (I := Finset.univ) (q := fullShare) (f := m (fLoc d)))) $$ [HSI Hf]
  · isplitl [HSI] <;> iassumption
  icases H with ⟨%hf, HSI, -⟩
  ihave H := (SI_pointsTo_agree (st := s') (ℓ := oLoc d) (I := Finset.univ) (q := fullShare) (f := OUT m d)) $$ [HSI Ho]
  · isplitl [HSI] <;> iassumption
  icases H with %ho
  ipureintro
  exact ⟨funext fun i => hx i (Finset.mem_univ i), funext fun i => he i (Finset.mem_univ i), funext fun i => hf i (Finset.mem_univ i), funext fun i => ho i (Finset.mem_univ i)⟩

/-- What a run leaves: the arguments unchanged, the result the kernel's function of them, every semaphore at zero. -/
def QC : PUnit × MemSt nD τ sig (Elt F) → Prop := fun r =>
  (∀ c : Dev nD, r.2.mem (xLoc c) = m (xLoc c) ∧ r.2.mem (eLoc c) = m (eLoc c) ∧ r.2.mem (fLoc c) = m (fLoc c) ∧ r.2.mem (oLoc c) = OUT m c) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ Cert.KernelIdeal.main (fun _ => iprop(emp)) (FIN m) (u₀ (F := F)) (sep_elim_left.trans (hu₀ m)) (hmain m ρ) (fq m) (hfin m) (QC m) (fun _ h hz => ⟨h, hz⟩)

end

end Cert.Proof.Scm

end
-- ==== Proof.Frames.lean ====
/-
  The kernel terminates, leaves its arguments as they were and every semaphore at zero.
-/
module

public import proofs.«01_k».proof.Proof.Launch
public import proofs.«01_k».proof.Defs
public import proofs.«01_k».proof.Proof.Gen.Kernel

@[expose] public section

noncomputable section

namespace Cert.Proof.Scm

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "xV" => (Memref.whole Cert.KernelIdeal.main_arg0_scv : Memref Cert.KernelIdeal.sig Kind.scVector Space.hbm Cert.KernelIdeal.S8x8x224x224 EltTy.f32)
local notation "tV" => (Memref.whole Cert.KernelIdeal.main_v75_scv : Memref Cert.KernelIdeal.sig Kind.scVector Space.hbm Cert.KernelIdeal.S2560 EltTy.f32)
local notation "oV" => (Memref.whole Cert.KernelIdeal.main_v76_scv : Memref Cert.KernelIdeal.sig Kind.scVector Space.hbm Cert.KernelIdeal.S8x128x224x224 EltTy.f32)
local notation "pB" => (Memref.whole Cert.KernelIdeal.cc0_scratch0 : Memref Cert.KernelIdeal.sig Kind.scVector Space.vmem Cert.KernelIdeal.S320 EltTy.f32)
local notation "i0B" => (Memref.whole Cert.KernelIdeal.cc0_scratch1 : Memref Cert.KernelIdeal.sig Kind.scVector Space.vmem Cert.KernelIdeal.S8x224 EltTy.f32)
local notation "i1B" => (Memref.whole Cert.KernelIdeal.cc0_scratch2 : Memref Cert.KernelIdeal.sig Kind.scVector Space.vmem Cert.KernelIdeal.S8x224 EltTy.f32)
local notation "o0B" => (Memref.whole Cert.KernelIdeal.cc0_scratch3 : Memref Cert.KernelIdeal.sig Kind.scVector Space.vmem Cert.KernelIdeal.S16x8x224 EltTy.f32)
local notation "o1B" => (Memref.whole Cert.KernelIdeal.cc0_scratch4 : Memref Cert.KernelIdeal.sig Kind.scVector Space.vmem Cert.KernelIdeal.S16x8x224 EltTy.f32)

/-- The kernel as printed. -/
theorem frame_kernel : Cert.quiescent_Kernel (hKernel := Cert.Kernel.Gen.facts) := fun m ρ _ =>
  (θ_run (Cert.KernelIdeal.defs (F := Bits)) _ _).mono (fun _ h => ⟨fun c => ⟨(h.1 c).1, (h.1 c).2.1, (h.1 c).2.2.1⟩, h.2⟩)
    (run_main (F := Bits) m ρ)

/-- The kernel over the extended reals. -/
theorem frame_ideal : Cert.quiescent_KernelIdeal (hKernelIdeal := Cert.KernelIdeal.Gen.facts) := fun m ρ _ =>
  (θ_run (Cert.KernelIdeal.defs (F := Ideal)) _ _).mono (fun _ h => ⟨fun c => ⟨(h.1 c).1, (h.1 c).2.1, (h.1 c).2.2.1⟩, h.2⟩)
    (run_main (F := Ideal) m ρ)

end Cert.Proof.Scm

end
-- ==== Proof.Table.lean ====
/-
  The table the kernel is given, read at an index.
-/
module

public import proofs.«01_k».proof.Proof.Host
public import Idealize.ShloMosaic.Lib.Pipeline.Value
public import Idealize.ShloMosaic.PureOps.Ideal
public import Idealize.ShloMosaic.Lib.ValueIdxRank6
public import Idealize.ShloMosaic.Lib.IdealHost

@[expose] public section

noncomputable section

namespace Cert.Proof.Scm

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx

section Gen

variable {F : FTy → Type} [FloatOps F]

/-! ## The table's columns -/

/-- Column 0 of a codebook. -/
def c0 (e : S8x16.Idx → F .f32) : S8.Idx → F .f32 := shapeCast S8 (extractStridedSlice S8x1 ![0, 0] e slices_S8x16_S8x1_0_0) shapeCasts_S8x1_S8

/-- Column 1 of a codebook. -/
def c1 (e : S8x16.Idx → F .f32) : S8.Idx → F .f32 := shapeCast S8 (extractStridedSlice S8x1 ![0, 1] e slices_S8x16_S8x1_0_1) shapeCasts_S8x1_S8

/-- A vector as a column. -/
def col (v : S8.Idx → F .f32) : S8x1.Idx → F .f32 := broadcastInDim S8x1 ![0] bcast_S8_S8x1_0 v

/-- One over the step. -/
def rstep (e : S8x16.Idx → F .f32) : S8.Idx → F .f32 :=
  Host.divf (broadcastInDim S8 ![] bcast_S_S8 (constant S_ .f32 0x3F800000#32)) (subf (c1 e) (c0 e))

/-- The first sixteen columns, one by one. -/
abbrev L16 (e f : S8x16.Idx → F .f32) : List ((s : Shape) × (s.Idx → F .f32)) :=
  [⟨S8x1, (col (c0 e))⟩,
      ⟨S8x1, (col (rstep e))⟩,
      ⟨S8x1, (col (Host.negf (c0 f)))⟩,
      ⟨S8x1, (col (Host.negf (subf (c1 f) (c0 f))))⟩,
      ⟨S8x1, (col (shapeCast S8 (extractStridedSlice S8x1 ![0, 0] e slices_S8x16_S8x1_0_0) shapeCasts_S8x1_S8))⟩,
      ⟨S8x1, (col (shapeCast S8 (extractStridedSlice S8x1 ![0, 1] e slices_S8x16_S8x1_0_1) shapeCasts_S8x1_S8))⟩,
      ⟨S8x1, (col (shapeCast S8 (extractStridedSlice S8x1 ![0, 2] e slices_S8x16_S8x1_0_2) shapeCasts_S8x1_S8))⟩,
      ⟨S8x1, (col (shapeCast S8 (extractStridedSlice S8x1 ![0, 3] e slices_S8x16_S8x1_0_3) shapeCasts_S8x1_S8))⟩,
      ⟨S8x1, (col (shapeCast S8 (extractStridedSlice S8x1 ![0, 4] e slices_S8x16_S8x1_0_4) shapeCasts_S8x1_S8))⟩,
      ⟨S8x1, (col (shapeCast S8 (extractStridedSlice S8x1 ![0, 5] e slices_S8x16_S8x1_0_5) shapeCasts_S8x1_S8))⟩,
      ⟨S8x1, (col (shapeCast S8 (extractStridedSlice S8x1 ![0, 6] e slices_S8x16_S8x1_0_6) shapeCasts_S8x1_S8))⟩,
      ⟨S8x1, (col (shapeCast S8 (extractStridedSlice S8x1 ![0, 7] e slices_S8x16_S8x1_0_7) shapeCasts_S8x1_S8))⟩,
      ⟨S8x1, (col (shapeCast S8 (extractStridedSlice S8x1 ![0, 8] e slices_S8x16_S8x1_0_8) shapeCasts_S8x1_S8))⟩,
      ⟨S8x1, (col (shapeCast S8 (extractStridedSlice S8x1 ![0, 9] e slices_S8x16_S8x1_0_9) shapeCasts_S8x1_S8))⟩,
      ⟨S8x1, (col (shapeCast S8 (extractStridedSlice S8x1 ![0, 10] e slices_S8x16_S8x1_0_10) shapeCasts_S8x1_S8))⟩,
      ⟨S8x1, (col (shapeCast S8 (extractStridedSlice S8x1 ![0, 11] e slices_S8x16_S8x1_0_11) shapeCasts_S8x1_S8))⟩]

/-- The last four, one by one. -/
abbrev L4 (e : S8x16.Idx → F .f32) : List ((s : Shape) × (s.Idx → F .f32)) :=
  [⟨S8x1, (col (shapeCast S8 (extractStridedSlice S8x1 ![0, 12] e slices_S8x16_S8x1_0_12) shapeCasts_S8x1_S8))⟩,
      ⟨S8x1, (col (shapeCast S8 (extractStridedSlice S8x1 ![0, 13] e slices_S8x16_S8x1_0_13) shapeCasts_S8x1_S8))⟩,
      ⟨S8x1, (col (shapeCast S8 (extractStridedSlice S8x1 ![0, 14] e slices_S8x16_S8x1_0_14) shapeCasts_S8x1_S8))⟩,
      ⟨S8x1, (col (shapeCast S8 (extractStridedSlice S8x1 ![0, 15] e slices_S8x16_S8x1_0_15) shapeCasts_S8x1_S8))⟩]

/-- The first sixteen columns. -/
def T16 (e f : S8x16.Idx → F .f32) : S8x16.Idx → F .f32 :=
  concatenate S8x16 1 (L16 e f)
    concatenates_S8x1_S8x1_S8x1_S8x1_S8x1_S8x1_S8x1_S8x1_S8x1_S8x1_S8x1_S8x1_S8x1_S8x1_S8x1_S8x1_S8x16_d1

/-- The last four. -/
def T4 (e : S8x16.Idx → F .f32) : S8x4.Idx → F .f32 :=
  concatenate S8x4 1 (L4 e)
    concatenates_S8x1_S8x1_S8x1_S8x1_S8x4_d1

/-- All twenty. -/
def T20 (e f : S8x16.Idx → F .f32) : S8x20.Idx → F .f32 :=
  concatenate S8x20 1 [⟨S8x16, T16 e f⟩, ⟨S8x4, T4 e⟩] concatenates_S8x16_S8x4_S8x20_d1

/-- The table. -/
def TBL (e f : S8x16.Idx → F .f32) : S2560.Idx → F .f32 :=
  shapeCast S2560 (broadcastInDim S8x20x16 ![0, 1, 2] bcast_S8x20x1_S8x20x16_0_1_2
    (broadcastInDim S8x20x1 ![0, 1] bcast_S8x20_S8x20x1_0_1 (T20 e f))) shapeCasts_S8x20x16_S2560

variable (m : (ℓ : Loc nD τ sig) → Buf (Elt F) ℓ) (d : Dev nD)

set_option maxHeartbeats 40000000 in
set_option maxRecDepth 20000 in
theorem TB_eq : TB m d = TBL (m (eLoc d)) (m (fLoc d)) := by
  unfold TB
  after_reads_simp
  rfl

/-! ## The columns at an index -/

variable (e f : S8x16.Idx → F .f32) (c : Fin 8)

theorem col_at (v : S8.Idx → F .f32) : col v (ix2 c (0 : Fin 1)) = v (ix1 c) :=
  broadcastInDim_apply _ _ _ _ (ix1 c) (by intro a; fin_cases a; rfl)

theorem slice_at (k : Fin 16) (h : S8x16.Slices ![0, k.val] S8x1) :
    shapeCast S8 (extractStridedSlice S8x1 ![0, k.val] e h) shapeCasts_S8x1_S8 (ix1 c) = e (ix2 c k) := by
  rw [shapeCast_apply _ _ _ (ix2 c (0 : Fin 1)) (by rw [Shape.rowMajor_val_two, Shape.rowMajor_val_one]; show c.val * 1 + 0 = c.val; omega)]
  exact extractStridedSlice_apply _ _ _ _ (ix2 c k) (by
    intro a; fin_cases a
    · exact (Nat.zero_add _).symm
    · rfl)

theorem c0_at : c0 e (ix1 c) = e (ix2 c (0 : Fin 16)) := slice_at e c 0 _
theorem c1_at : c1 e (ix1 c) = e (ix2 c (1 : Fin 16)) := slice_at e c 1 _

set_option maxHeartbeats 4000000 in
theorem T16_0 : T16 e f (ix2 c (0 : Fin 16)) = c0 e (ix1 c) := by
  unfold T16
  refine (concatenate_apply_piece (t := S8x16) 1 (L16 e f) _ (ix2 c (0 : Fin 16)) 0 (show 0 < 16 by decide) S8x1 (col (c0 e)) rfl rfl 0 rfl (ix2 c (0 : Fin 1)) ?_ rfl).trans ?_
  · intro b hb; fin_cases b
    · rfl
    · exact absurd rfl hb
  · exact (col_at c _)

set_option maxHeartbeats 4000000 in
theorem T16_1 : T16 e f (ix2 c (1 : Fin 16)) = rstep e (ix1 c) := by
  unfold T16
  refine (concatenate_apply_piece (t := S8x16) 1 (L16 e f) _ (ix2 c (1 : Fin 16)) 1 (show 1 < 16 by decide) S8x1 (col (rstep e)) rfl rfl 1 rfl (ix2 c (0 : Fin 1)) ?_ rfl).trans ?_
  · intro b hb; fin_cases b
    · rfl
    · exact absurd rfl hb
  · exact (col_at c _)

set_option maxHeartbeats 4000000 in
theorem T16_2 : T16 e f (ix2 c (2 : Fin 16)) = Host.negf (c0 f) (ix1 c) := by
  unfold T16
  refine (concatenate_apply_piece (t := S8x16) 1 (L16 e f) _ (ix2 c (2 : Fin 16)) 2 (show 2 < 16 by decide) S8x1 (col (Host.negf (c0 f))) rfl rfl 2 rfl (ix2 c (0 : Fin 1)) ?_ rfl).trans ?_
  · intro b hb; fin_cases b
    · rfl
    · exact absurd rfl hb
  · exact (col_at c _)

set_option maxHeartbeats 4000000 in
theorem T16_3 : T16 e f (ix2 c (3 : Fin 16)) = Host.negf (subf (c1 f) (c0 f)) (ix1 c) := by
  unfold T16
  refine (concatenate_apply_piece (t := S8x16) 1 (L16 e f) _ (ix2 c (3 : Fin 16)) 3 (show 3 < 16 by decide) S8x1 (col (Host.negf (subf (c1 f) (c0 f)))) rfl rfl 3 rfl (ix2 c (0 : Fin 1)) ?_ rfl).trans ?_
  · intro b hb; fin_cases b
    · rfl
    · exact absurd rfl hb
  · exact (col_at c _)

set_option maxHeartbeats 4000000 in
theorem T16_4 : T16 e f (ix2 c (4 : Fin 16)) = e (ix2 c (0 : Fin 16)) := by
  unfold T16
  refine (concatenate_apply_piece (t := S8x16) 1 (L16 e f) _ (ix2 c (4 : Fin 16)) 4 (show 4 < 16 by decide) S8x1 (col (shapeCast S8 (extractStridedSlice S8x1 ![0, 0] e slices_S8x16_S8x1_0_0) shapeCasts_S8x1_S8)) rfl rfl 4 rfl (ix2 c (0 : Fin 1)) ?_ rfl).trans ?_
  · intro b hb; fin_cases b
    · rfl
    · exact absurd rfl hb
  · exact (col_at c _).trans (slice_at e c 0 _)

set_option maxHeartbeats 4000000 in
theorem T16_5 : T16 e f (ix2 c (5 : Fin 16)) = e (ix2 c (1 : Fin 16)) := by
  unfold T16
  refine (concatenate_apply_piece (t := S8x16) 1 (L16 e f) _ (ix2 c (5 : Fin 16)) 5 (show 5 < 16 by decide) S8x1 (col (shapeCast S8 (extractStridedSlice S8x1 ![0, 1] e slices_S8x16_S8x1_0_1) shapeCasts_S8x1_S8)) rfl rfl 5 rfl (ix2 c (0 : Fin 1)) ?_ rfl).trans ?_
  · intro b hb; fin_cases b
    · rfl
    · exact absurd rfl hb
  · exact (col_at c _).trans (slice_at e c 1 _)

set_option maxHeartbeats 4000000 in
theorem T16_6 : T16 e f (ix2 c (6 : Fin 16)) = e (ix2 c (2 : Fin 16)) := by
  unfold T16
  refine (concatenate_apply_piece (t := S8x16) 1 (L16 e f) _ (ix2 c (6 : Fin 16)) 6 (show 6 < 16 by decide) S8x1 (col (shapeCast S8 (extractStridedSlice S8x1 ![0, 2] e slices_S8x16_S8x1_0_2) shapeCasts_S8x1_S8)) rfl rfl 6 rfl (ix2 c (0 : Fin 1)) ?_ rfl).trans ?_
  · intro b hb; fin_cases b
    · rfl
    · exact absurd rfl hb
  · exact (col_at c _).trans (slice_at e c 2 _)

set_option maxHeartbeats 4000000 in
theorem T16_7 : T16 e f (ix2 c (7 : Fin 16)) = e (ix2 c (3 : Fin 16)) := by
  unfold T16
  refine (concatenate_apply_piece (t := S8x16) 1 (L16 e f) _ (ix2 c (7 : Fin 16)) 7 (show 7 < 16 by decide) S8x1 (col (shapeCast S8 (extractStridedSlice S8x1 ![0, 3] e slices_S8x16_S8x1_0_3) shapeCasts_S8x1_S8)) rfl rfl 7 rfl (ix2 c (0 : Fin 1)) ?_ rfl).trans ?_
  · intro b hb; fin_cases b
    · rfl
    · exact absurd rfl hb
  · exact (col_at c _).trans (slice_at e c 3 _)

set_option maxHeartbeats 4000000 in
theorem T16_8 : T16 e f (ix2 c (8 : Fin 16)) = e (ix2 c (4 : Fin 16)) := by
  unfold T16
  refine (concatenate_apply_piece (t := S8x16) 1 (L16 e f) _ (ix2 c (8 : Fin 16)) 8 (show 8 < 16 by decide) S8x1 (col (shapeCast S8 (extractStridedSlice S8x1 ![0, 4] e slices_S8x16_S8x1_0_4) shapeCasts_S8x1_S8)) rfl rfl 8 rfl (ix2 c (0 : Fin 1)) ?_ rfl).trans ?_
  · intro b hb; fin_cases b
    · rfl
    · exact absurd rfl hb
  · exact (col_at c _).trans (slice_at e c 4 _)

set_option maxHeartbeats 4000000 in
theorem T16_9 : T16 e f (ix2 c (9 : Fin 16)) = e (ix2 c (5 : Fin 16)) := by
  unfold T16
  refine (concatenate_apply_piece (t := S8x16) 1 (L16 e f) _ (ix2 c (9 : Fin 16)) 9 (show 9 < 16 by decide) S8x1 (col (shapeCast S8 (extractStridedSlice S8x1 ![0, 5] e slices_S8x16_S8x1_0_5) shapeCasts_S8x1_S8)) rfl rfl 9 rfl (ix2 c (0 : Fin 1)) ?_ rfl).trans ?_
  · intro b hb; fin_cases b
    · rfl
    · exact absurd rfl hb
  · exact (col_at c _).trans (slice_at e c 5 _)

set_option maxHeartbeats 4000000 in
theorem T16_10 : T16 e f (ix2 c (10 : Fin 16)) = e (ix2 c (6 : Fin 16)) := by
  unfold T16
  refine (concatenate_apply_piece (t := S8x16) 1 (L16 e f) _ (ix2 c (10 : Fin 16)) 10 (show 10 < 16 by decide) S8x1 (col (shapeCast S8 (extractStridedSlice S8x1 ![0, 6] e slices_S8x16_S8x1_0_6) shapeCasts_S8x1_S8)) rfl rfl 10 rfl (ix2 c (0 : Fin 1)) ?_ rfl).trans ?_
  · intro b hb; fin_cases b
    · rfl
    · exact absurd rfl hb
  · exact (col_at c _).trans (slice_at e c 6 _)

set_option maxHeartbeats 4000000 in
theorem T16_11 : T16 e f (ix2 c (11 : Fin 16)) = e (ix2 c (7 : Fin 16)) := by
  unfold T16
  refine (concatenate_apply_piece (t := S8x16) 1 (L16 e f) _ (ix2 c (11 : Fin 16)) 11 (show 11 < 16 by decide) S8x1 (col (shapeCast S8 (extractStridedSlice S8x1 ![0, 7] e slices_S8x16_S8x1_0_7) shapeCasts_S8x1_S8)) rfl rfl 11 rfl (ix2 c (0 : Fin 1)) ?_ rfl).trans ?_
  · intro b hb; fin_cases b
    · rfl
    · exact absurd rfl hb
  · exact (col_at c _).trans (slice_at e c 7 _)

set_option maxHeartbeats 4000000 in
theorem T16_12 : T16 e f (ix2 c (12 : Fin 16)) = e (ix2 c (8 : Fin 16)) := by
  unfold T16
  refine (concatenate_apply_piece (t := S8x16) 1 (L16 e f) _ (ix2 c (12 : Fin 16)) 12 (show 12 < 16 by decide) S8x1 (col (shapeCast S8 (extractStridedSlice S8x1 ![0, 8] e slices_S8x16_S8x1_0_8) shapeCasts_S8x1_S8)) rfl rfl 12 rfl (ix2 c (0 : Fin 1)) ?_ rfl).trans ?_
  · intro b hb; fin_cases b
    · rfl
    · exact absurd rfl hb
  · exact (col_at c _).trans (slice_at e c 8 _)

set_option maxHeartbeats 4000000 in
theorem T16_13 : T16 e f (ix2 c (13 : Fin 16)) = e (ix2 c (9 : Fin 16)) := by
  unfold T16
  refine (concatenate_apply_piece (t := S8x16) 1 (L16 e f) _ (ix2 c (13 : Fin 16)) 13 (show 13 < 16 by decide) S8x1 (col (shapeCast S8 (extractStridedSlice S8x1 ![0, 9] e slices_S8x16_S8x1_0_9) shapeCasts_S8x1_S8)) rfl rfl 13 rfl (ix2 c (0 : Fin 1)) ?_ rfl).trans ?_
  · intro b hb; fin_cases b
    · rfl
    · exact absurd rfl hb
  · exact (col_at c _).trans (slice_at e c 9 _)

set_option maxHeartbeats 4000000 in
theorem T16_14 : T16 e f (ix2 c (14 : Fin 16)) = e (ix2 c (10 : Fin 16)) := by
  unfold T16
  refine (concatenate_apply_piece (t := S8x16) 1 (L16 e f) _ (ix2 c (14 : Fin 16)) 14 (show 14 < 16 by decide) S8x1 (col (shapeCast S8 (extractStridedSlice S8x1 ![0, 10] e slices_S8x16_S8x1_0_10) shapeCasts_S8x1_S8)) rfl rfl 14 rfl (ix2 c (0 : Fin 1)) ?_ rfl).trans ?_
  · intro b hb; fin_cases b
    · rfl
    · exact absurd rfl hb
  · exact (col_at c _).trans (slice_at e c 10 _)

set_option maxHeartbeats 4000000 in
theorem T16_15 : T16 e f (ix2 c (15 : Fin 16)) = e (ix2 c (11 : Fin 16)) := by
  unfold T16
  refine (concatenate_apply_piece (t := S8x16) 1 (L16 e f) _ (ix2 c (15 : Fin 16)) 15 (show 15 < 16 by decide) S8x1 (col (shapeCast S8 (extractStridedSlice S8x1 ![0, 11] e slices_S8x16_S8x1_0_11) shapeCasts_S8x1_S8)) rfl rfl 15 rfl (ix2 c (0 : Fin 1)) ?_ rfl).trans ?_
  · intro b hb; fin_cases b
    · rfl
    · exact absurd rfl hb
  · exact (col_at c _).trans (slice_at e c 11 _)

theorem T4_0 : T4 e (ix2 c (0 : Fin 4)) = e (ix2 c (12 : Fin 16)) := by
  unfold T4
  refine (concatenate_apply_piece (t := S8x4) 1 (L4 e) _ (ix2 c (0 : Fin 4)) 0 (show 0 < 4 by decide) S8x1 (col (shapeCast S8 (extractStridedSlice S8x1 ![0, 12] e slices_S8x16_S8x1_0_12) shapeCasts_S8x1_S8)) rfl rfl 0 rfl (ix2 c (0 : Fin 1)) ?_ rfl).trans ?_
  · intro b hb; fin_cases b
    · rfl
    · exact absurd rfl hb
  · exact (col_at c _).trans (slice_at e c 12 _)

theorem T4_1 : T4 e (ix2 c (1 : Fin 4)) = e (ix2 c (13 : Fin 16)) := by
  unfold T4
  refine (concatenate_apply_piece (t := S8x4) 1 (L4 e) _ (ix2 c (1 : Fin 4)) 1 (show 1 < 4 by decide) S8x1 (col (shapeCast S8 (extractStridedSlice S8x1 ![0, 13] e slices_S8x16_S8x1_0_13) shapeCasts_S8x1_S8)) rfl rfl 1 rfl (ix2 c (0 : Fin 1)) ?_ rfl).trans ?_
  · intro b hb; fin_cases b
    · rfl
    · exact absurd rfl hb
  · exact (col_at c _).trans (slice_at e c 13 _)

theorem T4_2 : T4 e (ix2 c (2 : Fin 4)) = e (ix2 c (14 : Fin 16)) := by
  unfold T4
  refine (concatenate_apply_piece (t := S8x4) 1 (L4 e) _ (ix2 c (2 : Fin 4)) 2 (show 2 < 4 by decide) S8x1 (col (shapeCast S8 (extractStridedSlice S8x1 ![0, 14] e slices_S8x16_S8x1_0_14) shapeCasts_S8x1_S8)) rfl rfl 2 rfl (ix2 c (0 : Fin 1)) ?_ rfl).trans ?_
  · intro b hb; fin_cases b
    · rfl
    · exact absurd rfl hb
  · exact (col_at c _).trans (slice_at e c 14 _)

theorem T4_3 : T4 e (ix2 c (3 : Fin 4)) = e (ix2 c (15 : Fin 16)) := by
  unfold T4
  refine (concatenate_apply_piece (t := S8x4) 1 (L4 e) _ (ix2 c (3 : Fin 4)) 3 (show 3 < 4 by decide) S8x1 (col (shapeCast S8 (extractStridedSlice S8x1 ![0, 15] e slices_S8x16_S8x1_0_15) shapeCasts_S8x1_S8)) rfl rfl 3 rfl (ix2 c (0 : Fin 1)) ?_ rfl).trans ?_
  · intro b hb; fin_cases b
    · rfl
    · exact absurd rfl hb
  · exact (col_at c _).trans (slice_at e c 15 _)

theorem T20_left (r : Fin 16) : T20 e f (ix2 c (⟨r.val, by omega⟩ : Fin 20)) = T16 e f (ix2 c r) :=
  concatenate_pair_apply_left (t := S8x20) (s₁ := S8x16) (s₂ := S8x4) 1 (T16 e f) (T4 e) _ (ix2 c (⟨r.val, by omega⟩ : Fin 20)) rfl (ix2 c r)
    (by intro b; fin_cases b <;> rfl)

theorem T20_right (r : Fin 4) : T20 e f (ix2 c (⟨r.val + 16, by omega⟩ : Fin 20)) = T4 e (ix2 c r) := by
  unfold T20
  refine concatenate_pair_apply_right (t := S8x20) (s₁ := S8x16) (s₂ := S8x4) 1 (T16 e f) (T4 e) _ (ix2 c (⟨r.val + 16, by omega⟩ : Fin 20)) rfl rfl (ix2 c r) ?_ ?_
  · intro b hb; fin_cases b
    · rfl
    · exact absurd rfl hb
  · rfl

theorem T20_book (k : Fin 16) : T20 e f (ix2 c (⟨k.val + 4, by omega⟩ : Fin 20)) = e (ix2 c k) := by
  fin_cases k
  · exact (T20_left e f c 4).trans (T16_4 e f c)
  · exact (T20_left e f c 5).trans (T16_5 e f c)
  · exact (T20_left e f c 6).trans (T16_6 e f c)
  · exact (T20_left e f c 7).trans (T16_7 e f c)
  · exact (T20_left e f c 8).trans (T16_8 e f c)
  · exact (T20_left e f c 9).trans (T16_9 e f c)
  · exact (T20_left e f c 10).trans (T16_10 e f c)
  · exact (T20_left e f c 11).trans (T16_11 e f c)
  · exact (T20_left e f c 12).trans (T16_12 e f c)
  · exact (T20_left e f c 13).trans (T16_13 e f c)
  · exact (T20_left e f c 14).trans (T16_14 e f c)
  · exact (T20_left e f c 15).trans (T16_15 e f c)
  · exact (T20_right e f c 0).trans (T4_0 e c)
  · exact (T20_right e f c 1).trans (T4_1 e c)
  · exact (T20_right e f c 2).trans (T4_2 e c)
  · exact (T20_right e f c 3).trans (T4_3 e c)

theorem TBL_at (r : Fin 20) (l : Fin 16) (q : Fin 2560) (hq : q.val = c.val * 320 + r.val * 16 + l.val) : TBL e f (ix1 q) = T20 e f (ix2 c r) := by
  unfold TBL
  rw [shapeCast_apply _ _ _ (ix3 c r l) (by
      rw [Shape.rowMajor_val_three, Shape.rowMajor_val_one]
      show (c.val * 20 + r.val) * 16 + l.val = q.val
      omega),
    broadcastInDim_apply _ _ _ _ (ix3 c r (0 : Fin 1)) (by intro a; fin_cases a <;> rfl),
    broadcastInDim_apply _ _ _ _ (ix2 c r) (by intro a; fin_cases a <;> rfl)]

end Gen

/-! ## The table over the extended reals -/

section Ideal

variable (E Fo : S8x16.Idx → Ideal .f32) (c : Fin 8) (e s f0 fs : ℝ)
  (he : ∀ k : Fin 16, E (ix2 c k) = ((e + k.val * s : ℝ) : EReal)) (hf : ∀ k : Fin 16, Fo (ix2 c k) = ((f0 + k.val * fs : ℝ) : EReal))
include he

theorem row_book (k : Fin 16) : T20 E Fo (ix2 c (⟨k.val + 4, by omega⟩ : Fin 20)) = ((e + k.val * s : ℝ) : EReal) := by
  rw [T20_book, he]

theorem row0 : T20 E Fo (ix2 c (0 : Fin 20)) = (e : EReal) := by
  refine (T20_left E Fo c 0).trans ((T16_0 E Fo c).trans ?_)
  rw [c0_at, he]
  exact congrArg (fun r : ℝ => (r : EReal)) (by simp)

theorem row1 (hs : s ≠ 0) : T20 E Fo (ix2 c (1 : Fin 20)) = ((1 / s : ℝ) : EReal) := by
  refine (T20_left E Fo c 1).trans ((T16_1 E Fo c).trans ?_)
  show Ideal.div (Ideal.ofBits .f32 0x3F800000#32) (c1 E (ix1 c) - c0 E (ix1 c)) = _
  rw [c1_at, c0_at, he, he, ← EReal.coe_sub, Ideal.ofBits_one_f32,
    show (e + ((1 : Fin 16).val : ℝ) * s) - (e + ((0 : Fin 16).val : ℝ) * s) = s by simp, Ideal.div_coe hs, one_mul]

omit he
include hf

theorem row2 : T20 E Fo (ix2 c (2 : Fin 20)) = ((-f0 : ℝ) : EReal) := by
  refine (T20_left E Fo c 2).trans ((T16_2 E Fo c).trans ?_)
  show -(c0 Fo (ix1 c)) = _
  rw [c0_at, hf, ← EReal.coe_neg]
  exact congrArg (fun r : ℝ => (r : EReal)) (by simp)

theorem row3 : T20 E Fo (ix2 c (3 : Fin 20)) = ((-fs : ℝ) : EReal) := by
  refine (T20_left E Fo c 3).trans ((T16_3 E Fo c).trans ?_)
  show -(c1 Fo (ix1 c) - c0 Fo (ix1 c)) = _
  rw [c1_at, c0_at, hf, hf, ← EReal.coe_sub, ← EReal.coe_neg]
  exact congrArg (fun r : ℝ => (r : EReal)) (by simp)

end Ideal

end Cert.Proof.Scm

end
-- ==== Proof.Nearest.lean ====
/-
  The arithmetic of one pixel over the reals: the nearest codeword of an equally spaced codebook is the rounded position,
  and exponentials over their sum do not change when every exponent is shifted.
-/
module

public import proofs.«01_k».proof.Proof.Inner
public import Idealize.ShloMosaic.Lib.IdealHost
public import Idealize.ShloMosaic.PureOps.Ideal.Laws

@[expose] public section

noncomputable section

namespace Cert.Proof.Scm

open Idealize.ShloMosaic

/-! ## Reals -/

/-- A position halfway between no two neighbouring numbers has one nearest number among the sixteen, its clamped rounding. -/
theorem nearest (u : ℝ) (h : ∀ k : ℕ, k < 15 → u ≠ k + 1 / 2) :
    ∃ j : ℕ, j < 16 ∧ ⌊min (max u 0) 15 + 1 / 2⌋ = (j : ℤ) ∧ ∀ k : ℕ, k < 16 → k ≠ j → |u - j| < |u - k| := by
  rcases lt_or_ge u 0 with hu | hu
  · refine ⟨0, by norm_num, ?_, fun k _ hk => ?_⟩
    · rw [max_eq_right hu.le, min_eq_left (by norm_num)]; norm_num
    · have : (0 : ℝ) < k := by exact_mod_cast Nat.pos_of_ne_zero hk
      rw [abs_of_neg (by push_cast; linarith), abs_of_neg (by linarith)]; push_cast; linarith
  rcases lt_or_ge 15 u with hv | hv
  · refine ⟨15, by norm_num, ?_, fun k hk hk' => ?_⟩
    · rw [max_eq_left hu, min_eq_right hv.le, Int.floor_eq_iff]; norm_num
    · have : (k : ℝ) + 1 ≤ 15 := by exact_mod_cast (show k + 1 ≤ 15 by omega)
      rw [abs_of_pos (by push_cast; linarith), abs_of_pos (by linarith)]; push_cast; linarith
  rw [max_eq_left hu, min_eq_left hv]
  have h0 : 0 ≤ ⌊u + 1 / 2⌋ := Int.floor_nonneg.2 (by linarith)
  obtain ⟨j, hj⟩ := Int.eq_ofNat_of_zero_le h0
  have hl := Int.floor_le (u + 1 / 2)
  have hr := Int.lt_floor_add_one (u + 1 / 2)
  rw [hj] at hl hr
  push_cast at hl hr
  have hj16 : j < 16 := by
    have : (j : ℝ) < 16 := by linarith
    exact_mod_cast this
  refine ⟨j, hj16, hj, fun k hk hkj => ?_⟩
  have hne : u - j ≠ -(1 / 2) := by
    intro e
    have hj0 : j ≠ 0 := by rintro rfl; push_cast at e; linarith
    obtain ⟨i, rfl⟩ := Nat.exists_eq_succ_of_ne_zero hj0
    exact h i (by omega) (by push_cast at e; linarith)
  have hlt : -(1 / 2) < u - j := lt_of_le_of_ne (by linarith) (Ne.symm hne)
  have h1 : |u - j| < 1 / 2 := abs_lt.2 ⟨hlt, by linarith⟩
  rcases Nat.lt_or_gt_of_ne hkj with hc | hc
  · have : (k : ℝ) + 1 ≤ j := by exact_mod_cast hc
    rw [abs_of_pos (show (0 : ℝ) < u - k by linarith)]; linarith
  · have : (j : ℝ) + 1 ≤ k := by exact_mod_cast hc
    rw [abs_of_neg (show u - (k : ℝ) < 0 by linarith)]; linarith

/-- Sixteen exponentials over their sum, every exponent shifted by `M`. -/
theorem shifted (a : Fin 16 → ℝ) (M : ℝ) (k : Fin 16) :
    Real.exp (a k - M) / ∑ i, Real.exp (a i - M) = Real.exp (a k) * (1 / ∑ i, Real.exp (a i)) := by
  have hs : (0 : ℝ) < ∑ i, Real.exp (a i) := Finset.sum_pos (fun i _ => Real.exp_pos _) ⟨0, Finset.mem_univ _⟩
  have e : (∑ i, Real.exp (a i - M)) = (∑ i, Real.exp (a i)) * Real.exp (-M) := by
    rw [Finset.sum_mul]; exact Finset.sum_congr rfl fun i _ => by rw [← Real.exp_add]; ring_nf
  have hM := Real.exp_pos (-M)
  rw [e, show a k - M = a k + -M by ring, Real.exp_add]
  field_simp

/-! ## What the inputs must be for no tie -/

/-- The distance of two values. -/
def ds (x e : EReal) : EReal := max (x - e) (-(x - e))

theorem ds_coe (x e : ℝ) : ds x e = ((|x - e| : ℝ) : EReal) := by
  unfold ds
  rw [← EReal.coe_sub, ← EReal.coe_neg, abs_eq_max_neg]; exact (EReal.coe_strictMono.monotone.map_max).symm

theorem ds_top_left (e : EReal) : ds ⊤ e = ⊤ := by
  unfold ds
  induction e <;> simp [sub_eq_add_neg]
theorem ds_bot_left (e : EReal) : ds ⊥ e = ⊤ := by
  unfold ds
  induction e <;> simp [sub_eq_add_neg]
theorem ds_top_right (x : EReal) : ds x ⊤ = ⊤ := by
  unfold ds
  induction x <;> simp [sub_eq_add_neg]
theorem ds_bot_right (x : EReal) : ds x ⊥ = ⊤ := by
  unfold ds
  induction x <;> simp [sub_eq_add_neg]

/-- With no tie between neighbours, the pixel, the first codeword and the step are real and the step is not zero. -/
theorem all_real (X : EReal) (E : Fin 16 → EReal) (hE : ∀ k : Fin 16, E k = E 0 + ((k.val : ℝ) : EReal) * (E 1 - E 0))
    (hd : ∀ k : Fin 15, ds X (E k.succ) ≠ ds X (E k.castSucc)) :
    ∃ x e s : ℝ, s ≠ 0 ∧ X = x ∧ ∀ k : Fin 16, E k = ((e + k.val * s : ℝ) : EReal) := by
  have h2 : E 2 = E 0 + ((2 : ℝ) : EReal) * (E 1 - E 0) := by have := hE 2; simpa using this
  have h3 : E 3 = E 0 + ((3 : ℝ) : EReal) * (E 1 - E 0) := by have := hE 3; simpa using this
  have p2 : (0 : ℝ) < 2 := by norm_num
  have p3 : (0 : ℝ) < 3 := by norm_num
  have t23 : ds X (E 3) ≠ ds X (E 2) := hd 2
  have t01 : ds X (E 1) ≠ ds X (E 0) := hd 0
  induction X with
  | bot => exact absurd ((ds_bot_left _).trans (ds_bot_left _).symm) t01
  | top => exact absurd ((ds_top_left _).trans (ds_top_left _).symm) t01
  | coe x =>
    generalize hA : E 0 = A at *
    generalize hB : E 1 = B at *
    have key : ∀ a : EReal, (a = ⊤ ∨ a = ⊥) → ds x a = ⊤ := by
      rintro a (rfl | rfl)
      · exact ds_top_right _
      · exact ds_bot_right _
    have bad : (E 2 = ⊤ ∨ E 2 = ⊥) → (E 3 = ⊤ ∨ E 3 = ⊥) → False := fun a b => t23 ((key _ b).trans (key _ a).symm)
    induction A with
    | bot =>
      exact (bad (Or.inr (by rw [h2]; simp)) (Or.inr (by rw [h3]; simp))).elim
    | top =>
      have hs : B - ⊤ = ⊥ := by induction B <;> simp [sub_eq_add_neg]
      rw [hs, EReal.coe_mul_bot_of_pos p2] at h2
      rw [hs, EReal.coe_mul_bot_of_pos p3] at h3
      exact (bad (Or.inr (by rw [h2]; simp)) (Or.inr (by rw [h3]; simp))).elim
    | coe e =>
      induction B with
      | bot =>
        have hs : (⊥ : EReal) - (e : EReal) = ⊥ := by simp [sub_eq_add_neg]
        rw [hs, EReal.coe_mul_bot_of_pos p2] at h2
        rw [hs, EReal.coe_mul_bot_of_pos p3] at h3
        exact (bad (Or.inr (by rw [h2]; simp)) (Or.inr (by rw [h3]; simp))).elim
      | top =>
        have hs : (⊤ : EReal) - (e : EReal) = ⊤ := by simp [sub_eq_add_neg]
        rw [hs, EReal.coe_mul_top_of_pos p2] at h2
        rw [hs, EReal.coe_mul_top_of_pos p3] at h3
        exact (bad (Or.inl (by rw [h2]; simp)) (Or.inl (by rw [h3]; simp))).elim
      | coe b =>
        refine ⟨x, e, b - e, ?_, rfl, fun k => ?_⟩
        · intro h0
          have hb : b = e := by linarith
          exact t01 (by rw [hb])
        · rw [hE k, ← EReal.coe_sub, ← EReal.coe_mul, ← EReal.coe_add]

/-- The rounded position of `all_real`'s pixel, and what no tie says of it. -/
theorem nearest_of (x e s : ℝ) (hs : s ≠ 0)
    (hd : ∀ k : Fin 15, |x - (e + (k.val + 1 : ℕ) * s)| ≠ |x - (e + k.val * s)|) :
    ∃ j : Fin 16, ⌊min (max ((x - e) * (1 / s)) 0) 15 + 1 / 2⌋ = (j.val : ℤ)
      ∧ ∀ k : Fin 16, k ≠ j → |x - (e + j.val * s)| < |x - (e + k.val * s)| := by
  have hk : ∀ k : ℕ, |x - (e + k * s)| = |s| * |(x - e) * (1 / s) - k| := by
    intro k; rw [← abs_mul]; congr 1; field_simp; ring
  obtain ⟨j, hj, hf, hmin⟩ := nearest ((x - e) * (1 / s)) (by
    intro k hk' hu
    refine hd ⟨k, hk'⟩ ?_
    rw [hk, hk, hu]
    have e1 : (k : ℝ) + 1 / 2 - ((k + 1 : ℕ) : ℝ) = -(1 / 2) := by push_cast; ring
    have e2 : (k : ℝ) + 1 / 2 - (k : ℝ) = 1 / 2 := by ring
    rw [e1, e2, abs_neg])
  refine ⟨⟨j, hj⟩, hf, fun k hkj => ?_⟩
  rw [hk, hk]
  exact mul_lt_mul_of_pos_left (hmin k.val k.isLt fun h => hkj (Fin.ext h)) (abs_pos.2 hs)

end Cert.Proof.Scm

end
-- ==== Proof.Pre.lean ====
/-
  What the precondition says of the inputs, over the extended reals.
-/
module

public import proofs.«01_k».proof.Pre_affine_codebooks
public import proofs.«01_k».proof.Proof.Nearest
public import Idealize.ShloMosaic.PureOps.Reduce
public import Idealize.ShloMosaic.PureOps.Ideal.Laws
public import Idealize.ShloMosaic.Lib.Pipeline.Value

@[expose] public section

noncomputable section

namespace Cert.Proof.Pre

open Cert.Pre_affine_codebooks
open Idealize.ShloMosaic Idealize.ShloMosaic.ValueIdx
open Cert.Proof.Scm (ds ds_coe all_real)

/-- The precondition's shape relations. -/
theorem facts : Cert.Pre_affine_codebooks.Facts where
  bcast_S16_S1x16_1 := by decide
  slices_S8x16_S8x1_0_1 := by decide
  slices_S8x16_S8x1_0_0 := by decide
  bcast_S8x8x224x224_S8x8x1x224x224_0_1_3_4 := by decide
  bcast_S8x16_S1x8x16x1x1_1_2 := by decide
  bcast_S8x8x1x224x224_S8x8x16x224x224_0_1_2_3_4 := by decide
  bcast_S1x8x16x1x1_S8x8x16x224x224_0_1_2_3_4 := by decide
  bcast_S_S8x16 := by decide
  reducesTo_S8x16_S_d0_1 := by decide
  h_S_ := by decide
  bcast_S1x16_S8x16_0_1 := by decide
  bcast_S8x1_S8x16_0_1 := by decide
  slices_S8x8x16x224x224_S8x8x15x224x224_0_0_1_0_0 := by decide
  slices_S8x8x16x224x224_S8x8x15x224x224_0_0_0_0_0 := by decide
  reducesTo_S8x8x15x224x224_S_d0_1_2_3_4 := by decide

attribute [local instance] facts

open Cert.Pre_affine_codebooks.Facts

/-! ## A conjunction over every index -/

theorem and_one : ∀ x y : BitVec 1, IntOp.andi x y = 1#1 → x = 1#1 ∧ y = 1#1 := by decide

theorem fold_one {ι : Type} (x : ι → BitVec 1) (b : BitVec 1) (S : Finset ι) (h : S.fold IntOp.andi b x = 1#1) : ∀ i ∈ S, x i = 1#1 := by
  induction S using Finset.cons_induction with
  | empty => intro i hi; exact absurd hi (Finset.notMem_empty i)
  | cons k S hk ih =>
    rw [Finset.fold_cons] at h
    intro i hi
    rcases Finset.mem_cons.1 hi with rfl | hi
    · exact (and_one _ _ h).1
    · exact ih (and_one _ _ h).2 i hi

theorem all_of {s t u : Shape} {axes : List (Fin s.rank)} (h' : s.ReducesTo axes t) (hu : 0 < u.numel) (x : s.Idx → BitVec 1)
    (init : u.Idx → BitVec 1) (jj : t.Idx) (ht : ∀ j : t.Idx, j = jj) (h : Host.reduce IntOp.andi x init h' hu jj = 1#1) (i : s.Idx) : x i = 1#1 := by
  rw [Host.reduce_eq_fold] at h
  exact fold_one x _ _ h i (Finset.mem_filter.2 ⟨Finset.mem_univ i, ht _⟩)

theorem cmp_one (b : Bool) (h : BitVec.ofBool b = 1#1) : b = true := by
  revert b; decide

/-! ## The conjuncts -/

/-- The numbers of the codewords. -/
def kk : S1x16.Idx → Ideal .f32 := broadcastInDim S1x16 ![1] bcast_S16_S1x16_1 (sitofp (F := Ideal) .f32 (iotaInDim S16 32 0))

/-- A codebook's first difference. -/
def stp (e : S8x16.Idx → Ideal .f32) : S8x1.Idx → Ideal .f32 :=
  subf (extractStridedSlice S8x1 ![0, 1] e slices_S8x16_S8x1_0_1) (extractStridedSlice S8x1 ![0, 0] e slices_S8x16_S8x1_0_0)

/-- Whether a codebook's entries are finite. -/
def P1 (f : S8x16.Idx → Ideal .f32) : S8x16.Idx → BitVec 1 :=
  cmpf .olt (Host.absf f) (broadcastInDim S8x16 ![] bcast_S_S8x16 (constant S_ .f32 0x7F800000#32))

/-- Whether a codebook is an arithmetic progression. -/
def P2 (e : S8x16.Idx → Ideal .f32) : S8x16.Idx → BitVec 1 :=
  cmpf .oeq e (addf (broadcastInDim S8x16 ![0, 1] bcast_S8x1_S8x16_0_1 (extractStridedSlice S8x1 ![0, 0] e slices_S8x16_S8x1_0_0))
    (mulf (broadcastInDim S8x16 ![0, 1] bcast_S1x16_S8x16_0_1 kk) (broadcastInDim S8x16 ![0, 1] bcast_S8x1_S8x16_0_1 (stp e))))

/-- The distances. -/
def dd (x : S8x8x224x224.Idx → Ideal .f32) (e : S8x16.Idx → Ideal .f32) : S8x8x16x224x224.Idx → Ideal .f32 :=
  Host.absf (subf
    (broadcastInDim S8x8x16x224x224 ![0, 1, 2, 3, 4] bcast_S8x8x1x224x224_S8x8x16x224x224_0_1_2_3_4
      (broadcastInDim S8x8x1x224x224 ![0, 1, 3, 4] bcast_S8x8x224x224_S8x8x1x224x224_0_1_3_4 x))
    (broadcastInDim S8x8x16x224x224 ![0, 1, 2, 3, 4] bcast_S1x8x16x1x1_S8x8x16x224x224_0_1_2_3_4
      (broadcastInDim S1x8x16x1x1 ![1, 2] bcast_S8x16_S1x8x16x1x1_1_2 e)))

/-- Whether neighbouring distances differ. -/
def P3 (x : S8x8x224x224.Idx → Ideal .f32) (e : S8x16.Idx → Ideal .f32) : S8x8x15x224x224.Idx → BitVec 1 :=
  cmpf .une (extractStridedSlice S8x8x15x224x224 ![0, 0, 1, 0, 0] (dd x e) slices_S8x8x16x224x224_S8x8x15x224x224_0_0_1_0_0)
    (extractStridedSlice S8x8x15x224x224 ![0, 0, 0, 0, 0] (dd x e) slices_S8x8x16x224x224_S8x8x15x224x224_0_0_0_0_0)

theorem fn_fun (x : S8x8x224x224.Idx → Ideal .f32) (e f : S8x16.Idx → Ideal .f32) :
    Cert.Pre_affine_codebooks.fn (F := Ideal) x e f
      = andi (andi (andi (Host.reduce IntOp.andi (P1 f) (constantI S_ 1 1#1) reducesTo_S8x16_S_d0_1 h_S_)
          (Host.reduce IntOp.andi (P2 e) (constantI S_ 1 1#1) reducesTo_S8x16_S_d0_1 h_S_))
          (Host.reduce IntOp.andi (P2 f) (constantI S_ 1 1#1) reducesTo_S8x16_S_d0_1 h_S_))
          (Host.reduce IntOp.andi (P3 x e) (constantI S_ 1 1#1) reducesTo_S8x8x15x224x224_S_d0_1_2_3_4 h_S_) := rfl

theorem and_at {s : Shape} (x y : s.Idx → BitVec 1) (i : s.Idx) : andi x y i = IntOp.andi (x i) (y i) := rfl

/-- The one index of a scalar. -/
def i0 : S_.Idx := fun a => a.elim0

theorem i0_all (j : S_.Idx) : j = i0 := funext fun a => a.elim0

variable (x : S8x8x224x224.Idx → Ideal .f32) (e f : S8x16.Idx → Ideal .f32) (hp : Cert.Pre_affine_codebooks.fn (F := Ideal) x e f = fun _ => 1#1)

include hp in
theorem conjuncts : (∀ i, P1 f i = 1#1) ∧ (∀ i, P2 e i = 1#1) ∧ (∀ i, P2 f i = 1#1) ∧ ∀ i, P3 x e i = 1#1 := by
  have h := congrFun hp i0
  rw [fn_fun, and_at] at h
  obtain ⟨h, h4⟩ := and_one _ _ h
  rw [and_at] at h
  obtain ⟨h, h3⟩ := and_one _ _ h
  rw [and_at] at h
  obtain ⟨h1, h2⟩ := and_one _ _ h
  exact ⟨all_of _ _ _ _ _ i0_all h1, all_of _ _ _ _ _ i0_all h2, all_of _ _ _ _ _ i0_all h3, all_of _ _ _ _ _ i0_all h4⟩

/-! ## The conjuncts at an index -/

theorem sl0 (c : Fin 8) : extractStridedSlice S8x1 ![0, 0] e slices_S8x16_S8x1_0_0 (ix2 c (0 : Fin 1)) = e (ix2 c (0 : Fin 16)) :=
  extractStridedSlice_apply _ _ _ _ (ix2 c (0 : Fin 16)) (by
    intro a; fin_cases a
    · exact (Nat.zero_add _).symm
    · rfl)

theorem sl1 (c : Fin 8) : extractStridedSlice S8x1 ![0, 1] e slices_S8x16_S8x1_0_1 (ix2 c (0 : Fin 1)) = e (ix2 c (1 : Fin 16)) :=
  extractStridedSlice_apply _ _ _ _ (ix2 c (1 : Fin 16)) (by
    intro a; fin_cases a
    · exact (Nat.zero_add _).symm
    · rfl)

theorem bc (v : S8x1.Idx → Ideal .f32) (c : Fin 8) (k : Fin 16) :
    broadcastInDim S8x16 ![0, 1] bcast_S8x1_S8x16_0_1 v (ix2 c k) = v (ix2 c (0 : Fin 1)) :=
  broadcastInDim_apply _ _ _ _ _ (by intro a; fin_cases a <;> rfl)

theorem bk (v : S1x16.Idx → Ideal .f32) (c : Fin 8) (k : Fin 16) :
    broadcastInDim S8x16 ![0, 1] bcast_S1x16_S8x16_0_1 v (ix2 c k) = v (ix2 (0 : Fin 1) k) :=
  broadcastInDim_apply _ _ _ _ _ (by intro a; fin_cases a <;> rfl)

theorem kk_at (k : Fin 16) : kk (ix2 (0 : Fin 1) k) = ((k.val : ℝ) : EReal) := by
  unfold kk
  rw [broadcastInDim_apply _ _ _ _ (ix1 k) (by intro a; fin_cases a; rfl)]
  show (((BitVec.ofNat 32 k.val).toInt : ℝ) : EReal) = _
  have : (BitVec.ofNat 32 k.val).toInt = (k.val : ℤ) := by revert k; decide
  rw [this]
  rfl

theorem P2_at (h : ∀ i, P2 e i = 1#1) (c : Fin 8) (k : Fin 16) :
    e (ix2 c k) = e (ix2 c (0 : Fin 16)) + ((k.val : ℝ) : EReal) * (e (ix2 c (1 : Fin 16)) - e (ix2 c (0 : Fin 16))) := by
  have h1 := h (ix2 c k)
  have h2 : P2 e (ix2 c k) = BitVec.ofBool (decide (e (ix2 c k)
      = broadcastInDim S8x16 ![0, 1] bcast_S8x1_S8x16_0_1 (extractStridedSlice S8x1 ![0, 0] e slices_S8x16_S8x1_0_0) (ix2 c k)
        + broadcastInDim S8x16 ![0, 1] bcast_S1x16_S8x16_0_1 kk (ix2 c k)
          * broadcastInDim S8x16 ![0, 1] bcast_S8x1_S8x16_0_1 (stp e) (ix2 c k))) := rfl
  rw [h2] at h1
  have h3 := of_decide_eq_true (cmp_one _ h1)
  have h4 : stp e (ix2 c (0 : Fin 1)) = e (ix2 c (1 : Fin 16)) - e (ix2 c (0 : Fin 16)) := by
    have : stp e (ix2 c (0 : Fin 1)) = extractStridedSlice S8x1 ![0, 1] e slices_S8x16_S8x1_0_1 (ix2 c (0 : Fin 1))
      - extractStridedSlice S8x1 ![0, 0] e slices_S8x16_S8x1_0_0 (ix2 c (0 : Fin 1)) := rfl
    rw [this, sl1, sl0]
  rw [bc, bk, bc, sl0, kk_at, h4] at h3
  exact h3

theorem P1_at (h : ∀ i, P1 f i = 1#1) (i : S8x16.Idx) : ∃ r : ℝ, f i = (r : EReal) := by
  have h1 := h i
  have h2 : P1 f i = BitVec.ofBool (decide (max (f i) (-(f i)) < Ideal.ofBits .f32 0x7F800000#32)) := rfl
  rw [h2] at h1
  have h3 := of_decide_eq_true (cmp_one _ h1)
  have : Ideal.ofBits .f32 0x7F800000#32 = ⊤ := by simp [Ideal.ofBits, Ideal.ieee]
  rw [this] at h3
  generalize f i = v at h3
  induction v using EReal.rec with
  | bot => simp at h3
  | top => simp at h3
  | coe r => exact ⟨r, rfl⟩

theorem dd_at (b c : Fin 8) (k : Fin 16) (h w : Fin 224) : dd x e (ix5 b c k h w) = ds (x (ix4 b c h w)) (e (ix2 c k)) := by
  unfold dd
  show ds _ _ = _
  rw [broadcastInDim_apply _ _ _ _ (ix5 b c (0 : Fin 1) h w) (by intro a; fin_cases a <;> rfl),
    broadcastInDim_apply _ _ _ _ (ix4 b c h w) (by intro a; fin_cases a <;> rfl),
    broadcastInDim_apply _ _ _ _ (ix5 (0 : Fin 1) c k (0 : Fin 1) (0 : Fin 1)) (by intro a; fin_cases a <;> rfl),
    broadcastInDim_apply _ _ _ _ (ix2 c k) (by intro a; fin_cases a <;> rfl)]

theorem P3_at (hh : ∀ i, P3 x e i = 1#1) (b c : Fin 8) (k : Fin 15) (h w : Fin 224) :
    ds (x (ix4 b c h w)) (e (ix2 c k.succ)) ≠ ds (x (ix4 b c h w)) (e (ix2 c k.castSucc)) := by
  have h1 := hh (ix5 b c k h w)
  have h2 : P3 x e (ix5 b c k h w) = BitVec.ofBool (decide (
      extractStridedSlice S8x8x15x224x224 ![0, 0, 1, 0, 0] (dd x e) slices_S8x8x16x224x224_S8x8x15x224x224_0_0_1_0_0 (ix5 b c k h w)
      ≠ extractStridedSlice S8x8x15x224x224 ![0, 0, 0, 0, 0] (dd x e) slices_S8x8x16x224x224_S8x8x15x224x224_0_0_0_0_0 (ix5 b c k h w))) := rfl
  rw [h2] at h1
  have h3 := of_decide_eq_true (cmp_one _ h1)
  rw [extractStridedSlice_apply _ _ _ _ (ix5 b c k.succ h w) (by
      intro a; fin_cases a
      · exact (Nat.zero_add _).symm
      · exact (Nat.zero_add _).symm
      · exact Nat.add_comm _ _
      · exact (Nat.zero_add _).symm
      · exact (Nat.zero_add _).symm),
    extractStridedSlice_apply _ _ _ _ (ix5 b c k.castSucc h w) (by
      intro a; fin_cases a <;> exact (Nat.zero_add _).symm), dd_at, dd_at] at h3
  exact h3

include hp in
/-- The inputs at a pixel: everything real, the step not zero, the codebooks progressions, no two neighbours equally far. -/
theorem pre_reals (b c : Fin 8) (h w : Fin 224) :
    ∃ X e0 s f0 fs : ℝ, s ≠ 0 ∧ x (ix4 b c h w) = (X : EReal) ∧ (∀ k : Fin 16, e (ix2 c k) = ((e0 + k.val * s : ℝ) : EReal))
      ∧ (∀ k : Fin 16, f (ix2 c k) = ((f0 + k.val * fs : ℝ) : EReal))
      ∧ ∀ k : Fin 15, |X - (e0 + (k.val + 1 : ℕ) * s)| ≠ |X - (e0 + k.val * s)| := by
  obtain ⟨h1, h2, h3, h4⟩ := conjuncts x e f hp
  obtain ⟨X, e0, s, hs, hX, hE⟩ := all_real (x (ix4 b c h w)) (fun k => e (ix2 c k)) (P2_at e h2 c) (fun k => P3_at x e h4 b c k h w)
  obtain ⟨a, ha⟩ := P1_at f h1 (ix2 c (0 : Fin 16))
  obtain ⟨a', ha'⟩ := P1_at f h1 (ix2 c (1 : Fin 16))
  refine ⟨X, e0, s, a, a' - a, hs, hX, hE, fun k => ?_, fun k hk => ?_⟩
  · rw [P2_at f h3 c k, ha, ha', ← EReal.coe_sub, ← EReal.coe_mul, ← EReal.coe_add]
  · refine P3_at x e h4 b c k h w ?_
    have e1 : e (ix2 c k.succ) = ((e0 + (k.val + 1 : ℕ) * s : ℝ) : EReal) := hE k.succ
    have e2 : e (ix2 c k.castSucc) = ((e0 + k.val * s : ℝ) : EReal) := hE k.castSucc
    rw [hX, e1, e2, ds_coe, ds_coe, hk]

end Cert.Proof.Pre

end
-- ==== Proof.Ref.lean ====
/-
  The reference, operation by operation: its run leaves its arguments as they were, and its result is the
  functions below of them.
-/
module

public import proofs.«01_k».proof.Proof.Gen.ReferenceIdeal
public import Idealize.ShloMosaic.Lib.StableHlo.RunRead
public import Idealize.ShloMosaic.Lib.Pipeline.Frame

@[expose] public section

noncomputable section

namespace Cert.Proof.Ref

open Cert.ReferenceIdeal Cert.ReferenceIdeal.Facts₀ Cert.ReferenceIdeal.Facts
open Idealize.ShloMosaic Idealize.SL.Sem

variable {F : FTy → Type} [FloatOps F]

/-- The distances. -/
abbrev opsA : List (HloOp τ sig (Elt F)) :=
  [ StableHlo.unary main_arg0 main_v0 (broadcastInDim S8x8x1x224x224 ![0, 1, 3, 4] bcast_S8x8x224x224_S8x8x1x224x224_0_1_3_4 : (⟨S8x8x224x224, .f32⟩ : BufTy).Contents (Elt F) → (⟨S8x8x1x224x224, .f32⟩ : BufTy).Contents (Elt F)),
    StableHlo.unary main_arg1 main_v1 (broadcastInDim S1x8x16x1x1 ![1, 2] bcast_S8x16_S1x8x16x1x1_1_2 : (⟨S8x16, .f32⟩ : BufTy).Contents (Elt F) → (⟨S1x8x16x1x1, .f32⟩ : BufTy).Contents (Elt F)),
    StableHlo.unary main_v0 main_v2 (broadcastInDim S8x8x16x224x224 ![0, 1, 2, 3, 4] bcast_S8x8x1x224x224_S8x8x16x224x224_0_1_2_3_4 : (⟨S8x8x1x224x224, .f32⟩ : BufTy).Contents (Elt F) → (⟨S8x8x16x224x224, .f32⟩ : BufTy).Contents (Elt F)),
    StableHlo.unary main_v1 main_v3 (broadcastInDim S8x8x16x224x224 ![0, 1, 2, 3, 4] bcast_S1x8x16x1x1_S8x8x16x224x224_0_1_2_3_4 : (⟨S1x8x16x1x1, .f32⟩ : BufTy).Contents (Elt F) → (⟨S8x8x16x224x224, .f32⟩ : BufTy).Contents (Elt F)),
    StableHlo.binary main_v2 main_v3 main_v4 (subf : (⟨S8x8x16x224x224, .f32⟩ : BufTy).Contents (Elt F) → (⟨S8x8x16x224x224, .f32⟩ : BufTy).Contents (Elt F) → (⟨S8x8x16x224x224, .f32⟩ : BufTy).Contents (Elt F)),
    StableHlo.unary main_v4 main_v5 (Host.absf : (⟨S8x8x16x224x224, .f32⟩ : BufTy).Contents (Elt F) → (⟨S8x8x16x224x224, .f32⟩ : BufTy).Contents (Elt F)) ]

/-- The nearest codeword's number. -/
abbrev opsM : List (HloOp τ sig (Elt F)) :=
  [ StableHlo.nullary main_call0_v0 (iotaInDim S8x8x16x224x224 32 2),
    StableHlo.nullary main_call0_cst (constant S_ .f32 0x7F800000#32),
    StableHlo.nullary main_call0_c (constantI S_ 32 0#32),
    StableHlo.quaternary main_v5 main_call0_v0 main_call0_cst main_call0_c main_call0_v1_0 (fun x y u v j => (Host.argReduce reducer_argmin_f32_i32 x y u v reducesTo_S8x8x16x224x224_S8x8x224x224_d2 h_S_ j).1 : (⟨S8x8x16x224x224, .f32⟩ : BufTy).Contents (Elt F) → (⟨S8x8x16x224x224, .i32⟩ : BufTy).Contents (Elt F) → (⟨S_, .f32⟩ : BufTy).Contents (Elt F) → (⟨S_, .i32⟩ : BufTy).Contents (Elt F) → (⟨S8x8x224x224, .f32⟩ : BufTy).Contents (Elt F)),
    StableHlo.quaternary main_v5 main_call0_v0 main_call0_cst main_call0_c main_v6 (fun x y u v j => (Host.argReduce reducer_argmin_f32_i32 x y u v reducesTo_S8x8x16x224x224_S8x8x224x224_d2 h_S_ j).2 : (⟨S8x8x16x224x224, .f32⟩ : BufTy).Contents (Elt F) → (⟨S8x8x16x224x224, .i32⟩ : BufTy).Contents (Elt F) → (⟨S_, .f32⟩ : BufTy).Contents (Elt F) → (⟨S_, .i32⟩ : BufTy).Contents (Elt F) → (⟨S8x8x224x224, .i32⟩ : BufTy).Contents (Elt F)) ]

/-- The two arrays the look-up takes. -/
abbrev opsB : List (HloOp τ sig (Elt F)) :=
  [ StableHlo.unary main_v6 main_v7 (broadcastInDim S8x8x1x224x224 ![0, 1, 3, 4] bcast_S8x8x224x224_S8x8x1x224x224_0_1_3_4 : (⟨S8x8x224x224, .i32⟩ : BufTy).Contents (Elt F) → (⟨S8x8x1x224x224, .i32⟩ : BufTy).Contents (Elt F)),
    StableHlo.unary main_arg2 main_v8 (broadcastInDim S1x8x16x1x1 ![1, 2] bcast_S8x16_S1x8x16x1x1_1_2 : (⟨S8x16, .f32⟩ : BufTy).Contents (Elt F) → (⟨S1x8x16x1x1, .f32⟩ : BufTy).Contents (Elt F)) ]

/-- The look-up of the focus value. -/
abbrev opsT : List (HloOp τ sig (Elt F)) :=
  [ StableHlo.nullary main_call1_c (constantI S_ 32 0#32),
    StableHlo.unary main_call1_c main_call1_v0 ((broadcastInDim S8x8x1x224x224 ![] bcast_S_S8x8x1x224x224) : (⟨S_, .i32⟩ : BufTy).Contents (Elt F) → (⟨S8x8x1x224x224, .i32⟩ : BufTy).Contents (Elt F)),
    StableHlo.binary main_v7 main_call1_v0 main_call1_v1 ((cmpi .slt) : (⟨S8x8x1x224x224, .i32⟩ : BufTy).Contents (Elt F) → (⟨S8x8x1x224x224, .i32⟩ : BufTy).Contents (Elt F) → (⟨S8x8x1x224x224, .i1⟩ : BufTy).Contents (Elt F)),
    StableHlo.nullary main_call1_c_0 (constantI S_ 32 16#32),
    StableHlo.unary main_call1_c_0 main_call1_v2 ((broadcastInDim S8x8x1x224x224 ![] bcast_S_S8x8x1x224x224) : (⟨S_, .i32⟩ : BufTy).Contents (Elt F) → (⟨S8x8x1x224x224, .i32⟩ : BufTy).Contents (Elt F)),
    StableHlo.binary main_v7 main_call1_v2 main_call1_v3 (addi : (⟨S8x8x1x224x224, .i32⟩ : BufTy).Contents (Elt F) → (⟨S8x8x1x224x224, .i32⟩ : BufTy).Contents (Elt F) → (⟨S8x8x1x224x224, .i32⟩ : BufTy).Contents (Elt F)),
    StableHlo.ternary main_call1_v1 main_call1_v3 main_v7 main_call1_v4 (select : (⟨S8x8x1x224x224, .i1⟩ : BufTy).Contents (Elt F) → (⟨S8x8x1x224x224, .i32⟩ : BufTy).Contents (Elt F) → (⟨S8x8x1x224x224, .i32⟩ : BufTy).Contents (Elt F) → (⟨S8x8x1x224x224, .i32⟩ : BufTy).Contents (Elt F)),
    StableHlo.reshape main_call1_v4 main_call1_v5 rfl shapeCasts_S8x8x1x224x224_S8x8x1x224x224x1,
    StableHlo.reshape main_v8 main_call1_v6 rfl shapeCasts_S1x8x16x1x1_S8x16,
    StableHlo.nullary main_call1_c_1 (constantI S1 32 15#32),
    StableHlo.nullary main_call1_c_2 (constantI S_ 32 0#32),
    StableHlo.unary main_call1_c_2 main_call1_v7 ((broadcastInDim S8x8x1x224x224x1 ![] bcast_S_S8x8x1x224x224x1) : (⟨S_, .i32⟩ : BufTy).Contents (Elt F) → (⟨S8x8x1x224x224x1, .i32⟩ : BufTy).Contents (Elt F)),
    StableHlo.binary main_call1_v5 main_call1_v7 main_call1_v8 ((cmpi .sge) : (⟨S8x8x1x224x224x1, .i32⟩ : BufTy).Contents (Elt F) → (⟨S8x8x1x224x224x1, .i32⟩ : BufTy).Contents (Elt F) → (⟨S8x8x1x224x224x1, .i1⟩ : BufTy).Contents (Elt F)),
    StableHlo.unary main_call1_c_1 main_call1_v9 ((broadcastInDim S1x1x1x1x1x1 ![5] bcast_S1_S1x1x1x1x1x1_5) : (⟨S1, .i32⟩ : BufTy).Contents (Elt F) → (⟨S1x1x1x1x1x1, .i32⟩ : BufTy).Contents (Elt F)),
    StableHlo.unary main_call1_v9 main_call1_v10 ((broadcastInDim S8x8x1x224x224x1 ![0, 1, 2, 3, 4, 5] bcast_S1x1x1x1x1x1_S8x8x1x224x224x1_0_1_2_3_4_5) : (⟨S1x1x1x1x1x1, .i32⟩ : BufTy).Contents (Elt F) → (⟨S8x8x1x224x224x1, .i32⟩ : BufTy).Contents (Elt F)),
    StableHlo.binary main_call1_v5 main_call1_v10 main_call1_v11 ((cmpi .sle) : (⟨S8x8x1x224x224x1, .i32⟩ : BufTy).Contents (Elt F) → (⟨S8x8x1x224x224x1, .i32⟩ : BufTy).Contents (Elt F) → (⟨S8x8x1x224x224x1, .i1⟩ : BufTy).Contents (Elt F)),
    StableHlo.binary main_call1_v8 main_call1_v11 main_call1_v12 (andi : (⟨S8x8x1x224x224x1, .i1⟩ : BufTy).Contents (Elt F) → (⟨S8x8x1x224x224x1, .i1⟩ : BufTy).Contents (Elt F) → (⟨S8x8x1x224x224x1, .i1⟩ : BufTy).Contents (Elt F)),
    StableHlo.nullary main_call1_c_3 (constantI S_ 1 1#1),
    StableHlo.binary main_call1_v12 main_call1_c_3 main_call1_v13 (fun x v => Host.reduce IntOp.andi x v reducesTo_S8x8x1x224x224x1_S8x8x1x224x224_d5 h_S_ : (⟨S8x8x1x224x224x1, .i1⟩ : BufTy).Contents (Elt F) → (⟨S_, .i1⟩ : BufTy).Contents (Elt F) → (⟨S8x8x1x224x224, .i1⟩ : BufTy).Contents (Elt F)),
    StableHlo.binary main_call1_v6 main_call1_v5 main_call1_v14 (fun x i => Host.gather gather_S8x16_S8x8x1x224x224x1_S8x8x1x224x224_n_1_0_1_1_5_11 x i : (⟨S8x16, .f32⟩ : BufTy).Contents (Elt F) → (⟨S8x8x1x224x224x1, .i32⟩ : BufTy).Contents (Elt F) → (⟨S8x8x1x224x224, .f32⟩ : BufTy).Contents (Elt F)),
    StableHlo.nullary main_call1_cst (constant S_ .f32 0x7FC00000#32),
    StableHlo.unary main_call1_cst main_call1_v15 ((broadcastInDim S8x8x1x224x224 ![] bcast_S_S8x8x1x224x224) : (⟨S_, .f32⟩ : BufTy).Contents (Elt F) → (⟨S8x8x1x224x224, .f32⟩ : BufTy).Contents (Elt F)),
    StableHlo.ternary main_call1_v13 main_call1_v14 main_call1_v15 main_v9 (select : (⟨S8x8x1x224x224, .i1⟩ : BufTy).Contents (Elt F) → (⟨S8x8x1x224x224, .f32⟩ : BufTy).Contents (Elt F) → (⟨S8x8x1x224x224, .f32⟩ : BufTy).Contents (Elt F) → (⟨S8x8x1x224x224, .f32⟩ : BufTy).Contents (Elt F)) ]

/-- The softmax over the codewords. -/
abbrev opsC : List (HloOp τ sig (Elt F)) :=
  [ StableHlo.unary main_v9 main_v10 (broadcastInDim S8x8x16x224x224 ![0, 1, 2, 3, 4] bcast_S8x8x1x224x224_S8x8x16x224x224_0_1_2_3_4 : (⟨S8x8x1x224x224, .f32⟩ : BufTy).Contents (Elt F) → (⟨S8x8x16x224x224, .f32⟩ : BufTy).Contents (Elt F)),
    StableHlo.binary main_v5 main_v10 main_v11 (mulf : (⟨S8x8x16x224x224, .f32⟩ : BufTy).Contents (Elt F) → (⟨S8x8x16x224x224, .f32⟩ : BufTy).Contents (Elt F) → (⟨S8x8x16x224x224, .f32⟩ : BufTy).Contents (Elt F)),
    StableHlo.nullary main_cst (constant S_ .f32 0xBF800000#32),
    StableHlo.unary main_cst main_v12 (broadcastInDim S8x8x16x224x224 ![] bcast_S_S8x8x16x224x224 : (⟨S_, .f32⟩ : BufTy).Contents (Elt F) → (⟨S8x8x16x224x224, .f32⟩ : BufTy).Contents (Elt F)),
    StableHlo.binary main_v11 main_v12 main_v13 (mulf : (⟨S8x8x16x224x224, .f32⟩ : BufTy).Contents (Elt F) → (⟨S8x8x16x224x224, .f32⟩ : BufTy).Contents (Elt F) → (⟨S8x8x16x224x224, .f32⟩ : BufTy).Contents (Elt F)),
    StableHlo.nullary main_cst_0 (constant S_ .f32 0xFF800000#32),
    StableHlo.binary main_v13 main_cst_0 main_v14 ((fun x v => Host.reduce FloatOps.maximumf x v reducesTo_S8x8x16x224x224_S8x8x224x224_d2 h_S_) : (⟨S8x8x16x224x224, .f32⟩ : BufTy).Contents (Elt F) → (⟨S_, .f32⟩ : BufTy).Contents (Elt F) → (⟨S8x8x224x224, .f32⟩ : BufTy).Contents (Elt F)),
    StableHlo.nullary main_cst_1 (constant S_ .f32 0xFF800000#32),
    StableHlo.unary main_cst_1 main_v15 (broadcastInDim S8x8x224x224 ![] bcast_S_S8x8x224x224 : (⟨S_, .f32⟩ : BufTy).Contents (Elt F) → (⟨S8x8x224x224, .f32⟩ : BufTy).Contents (Elt F)),
    StableHlo.binary main_v15 main_v14 main_v16 (maximumf : (⟨S8x8x224x224, .f32⟩ : BufTy).Contents (Elt F) → (⟨S8x8x224x224, .f32⟩ : BufTy).Contents (Elt F) → (⟨S8x8x224x224, .f32⟩ : BufTy).Contents (Elt F)),
    StableHlo.unary main_v16 main_v17 (broadcastInDim S8x8x1x224x224 ![0, 1, 3, 4] bcast_S8x8x224x224_S8x8x1x224x224_0_1_3_4 : (⟨S8x8x224x224, .f32⟩ : BufTy).Contents (Elt F) → (⟨S8x8x1x224x224, .f32⟩ : BufTy).Contents (Elt F)),
    StableHlo.unary main_v17 main_v18 (broadcastInDim S8x8x16x224x224 ![0, 1, 2, 3, 4] bcast_S8x8x1x224x224_S8x8x16x224x224_0_1_2_3_4 : (⟨S8x8x1x224x224, .f32⟩ : BufTy).Contents (Elt F) → (⟨S8x8x16x224x224, .f32⟩ : BufTy).Contents (Elt F)),
    StableHlo.binary main_v13 main_v18 main_v19 (subf : (⟨S8x8x16x224x224, .f32⟩ : BufTy).Contents (Elt F) → (⟨S8x8x16x224x224, .f32⟩ : BufTy).Contents (Elt F) → (⟨S8x8x16x224x224, .f32⟩ : BufTy).Contents (Elt F)),
    StableHlo.unary main_v19 main_v20 (Host.exp : (⟨S8x8x16x224x224, .f32⟩ : BufTy).Contents (Elt F) → (⟨S8x8x16x224x224, .f32⟩ : BufTy).Contents (Elt F)),
    StableHlo.nullary main_cst_2 (constant S_ .f32 0x00000000#32),
    StableHlo.binary main_v20 main_cst_2 main_v21 ((fun x v => Host.reduceAdd x v reducesTo_S8x8x16x224x224_S8x8x224x224_d2 h_S_) : (⟨S8x8x16x224x224, .f32⟩ : BufTy).Contents (Elt F) → (⟨S_, .f32⟩ : BufTy).Contents (Elt F) → (⟨S8x8x224x224, .f32⟩ : BufTy).Contents (Elt F)),
    StableHlo.unary main_v21 main_v22 (broadcastInDim S8x8x1x224x224 ![0, 1, 3, 4] bcast_S8x8x224x224_S8x8x1x224x224_0_1_3_4 : (⟨S8x8x224x224, .f32⟩ : BufTy).Contents (Elt F) → (⟨S8x8x1x224x224, .f32⟩ : BufTy).Contents (Elt F)),
    StableHlo.unary main_v22 main_v23 (broadcastInDim S8x8x16x224x224 ![0, 1, 2, 3, 4] bcast_S8x8x1x224x224_S8x8x16x224x224_0_1_2_3_4 : (⟨S8x8x1x224x224, .f32⟩ : BufTy).Contents (Elt F) → (⟨S8x8x16x224x224, .f32⟩ : BufTy).Contents (Elt F)),
    StableHlo.binary main_v20 main_v23 main_v24 (Host.divf : (⟨S8x8x16x224x224, .f32⟩ : BufTy).Contents (Elt F) → (⟨S8x8x16x224x224, .f32⟩ : BufTy).Contents (Elt F) → (⟨S8x8x16x224x224, .f32⟩ : BufTy).Contents (Elt F)),
    StableHlo.reshape main_v24 main_v25 (rfl : (.f32 : EltTy) = .f32) shapeCasts_S8x8x16x224x224_S8x128x224x224 ]

/-- All of the reference's operations. -/
abbrev ops : List (HloOp τ sig (Elt F)) := opsA ++ (opsM ++ (opsB ++ (opsT ++ opsC)))

set_option maxHeartbeats 40000000 in
attribute [local irreducible] Host.reduce in
theorem main_eq (d : Dev nD) : Cert.ReferenceIdeal.main (F := F) d = StableHlo.seq ops := rfl

set_option maxHeartbeats 40000000 in
theorem ops_sub : (ops (F := F)).Forall fun op => op.bufs ⊆ StableHlo.tcRefs τ sig := by
  simp only [ops, opsA, opsM, opsB, opsT, opsC, List.cons_append, List.nil_append, List.forall_cons, StableHlo.nullary_bufs_sub,
    StableHlo.unary_bufs_sub, StableHlo.binary_bufs_sub, StableHlo.ternary_bufs_sub, StableHlo.quaternary_bufs_sub, StableHlo.reshape_bufs_sub,
    StableHlo.TRef.nullary, StableHlo.TRef.unary, StableHlo.TRef.binary, StableHlo.TRef.ternary, StableHlo.TRef.quaternary, StableHlo.TRef.reshape,
    List.Forall, and_self]

set_option maxHeartbeats 40000000 in
theorem ops_fresh : ∀ op ∈ ops (F := F), op.fresh = ∅ :=
  List.forall_iff_forall_mem.1 (StableHlo.forall_fresh_of_map rfl)

/-! ## The values -/

/-- The distance of every pixel to every codeword of its channel. -/
def RD (x : S8x8x224x224.Idx → F .f32) (e : S8x16.Idx → F .f32) : S8x8x16x224x224.Idx → F .f32 :=
  Host.absf (subf
    (broadcastInDim S8x8x16x224x224 ![0, 1, 2, 3, 4] bcast_S8x8x1x224x224_S8x8x16x224x224_0_1_2_3_4
      (broadcastInDim S8x8x1x224x224 ![0, 1, 3, 4] bcast_S8x8x224x224_S8x8x1x224x224_0_1_3_4 x))
    (broadcastInDim S8x8x16x224x224 ![0, 1, 2, 3, 4] bcast_S1x8x16x1x1_S8x8x16x224x224_0_1_2_3_4
      (broadcastInDim S1x8x16x1x1 ![1, 2] bcast_S8x16_S1x8x16x1x1_1_2 e)))

/-- The number of the nearest codeword. -/
def RJ (d : S8x8x16x224x224.Idx → F .f32) : S8x8x224x224.Idx → BitVec 32 :=
  fun j => (Host.argReduce reducer_argmin_f32_i32 d (iotaInDim S8x8x16x224x224 32 2) (constant S_ .f32 0x7F800000#32) (constantI S_ 32 0#32)
    reducesTo_S8x8x16x224x224_S8x8x224x224_d2 h_S_ j).2

/-- The numbers as the look-up takes them. -/
def RI (J : S8x8x224x224.Idx → BitVec 32) : S8x8x1x224x224.Idx → BitVec 32 :=
  broadcastInDim S8x8x1x224x224 ![0, 1, 3, 4] bcast_S8x8x224x224_S8x8x1x224x224_0_1_3_4 J

/-- A number below zero counts from the end. -/
def RW (I : S8x8x1x224x224.Idx → BitVec 32) : S8x8x1x224x224x1.Idx → BitVec 32 :=
  shapeCast S8x8x1x224x224x1 (select (cmpi .slt I (broadcastInDim S8x8x1x224x224 ![] bcast_S_S8x8x1x224x224 (constantI S_ 32 0#32)))
    (addi I (broadcastInDim S8x8x1x224x224 ![] bcast_S_S8x8x1x224x224 (constantI S_ 32 16#32))) I) shapeCasts_S8x8x1x224x224_S8x8x1x224x224x1

/-- Whether the number is one of the sixteen. -/
def RB (W : S8x8x1x224x224x1.Idx → BitVec 32) : S8x8x1x224x224.Idx → BitVec 1 :=
  Host.reduce IntOp.andi (andi (cmpi .sge W (broadcastInDim S8x8x1x224x224x1 ![] bcast_S_S8x8x1x224x224x1 (constantI S_ 32 0#32)))
    (cmpi .sle W (broadcastInDim S8x8x1x224x224x1 ![0, 1, 2, 3, 4, 5] bcast_S1x1x1x1x1x1_S8x8x1x224x224x1_0_1_2_3_4_5
      (broadcastInDim S1x1x1x1x1x1 ![5] bcast_S1_S1x1x1x1x1x1_5 (constantI S1 32 15#32))))) (constantI S_ 1 1#1)
    reducesTo_S8x8x1x224x224x1_S8x8x1x224x224_d5 h_S_

/-- The focus codebook as the look-up takes it. -/
def RG (f : S8x16.Idx → F .f32) : S8x16.Idx → F .f32 :=
  shapeCast S8x16 (broadcastInDim S1x8x16x1x1 ![1, 2] bcast_S8x16_S1x8x16x1x1_1_2 f) shapeCasts_S1x8x16x1x1_S8x16

/-- The focus value looked up. -/
def RF (W : S8x8x1x224x224x1.Idx → BitVec 32) (g : S8x16.Idx → F .f32) : S8x8x1x224x224.Idx → F .f32 :=
  select (RB W) (Host.gather gather_S8x16_S8x8x1x224x224x1_S8x8x1x224x224_n_1_0_1_1_5_11 g W)
    (broadcastInDim S8x8x1x224x224 ![] bcast_S_S8x8x1x224x224 (constant S_ .f32 0x7FC00000#32))

/-- The exponents. -/
def RS (d : S8x8x16x224x224.Idx → F .f32) (f : S8x8x1x224x224.Idx → F .f32) : S8x8x16x224x224.Idx → F .f32 :=
  mulf (mulf d (broadcastInDim S8x8x16x224x224 ![0, 1, 2, 3, 4] bcast_S8x8x1x224x224_S8x8x16x224x224_0_1_2_3_4 f))
    (broadcastInDim S8x8x16x224x224 ![] bcast_S_S8x8x16x224x224 (constant S_ .f32 0xBF800000#32))

/-- A value per pixel, repeated for every codeword. -/
def RX (v : S8x8x224x224.Idx → F .f32) : S8x8x16x224x224.Idx → F .f32 :=
  broadcastInDim S8x8x16x224x224 ![0, 1, 2, 3, 4] bcast_S8x8x1x224x224_S8x8x16x224x224_0_1_2_3_4
    (broadcastInDim S8x8x1x224x224 ![0, 1, 3, 4] bcast_S8x8x224x224_S8x8x1x224x224_0_1_3_4 v)

/-- The largest exponent of a pixel. -/
def RM (s : S8x8x16x224x224.Idx → F .f32) : S8x8x224x224.Idx → F .f32 :=
  maximumf (broadcastInDim S8x8x224x224 ![] bcast_S_S8x8x224x224 (constant S_ .f32 0xFF800000#32))
    (Host.reduce FloatOps.maximumf s (constant S_ .f32 0xFF800000#32) reducesTo_S8x8x16x224x224_S8x8x224x224_d2 h_S_)

/-- The exponentials, every exponent less the pixel's largest. -/
def RE (s : S8x8x16x224x224.Idx → F .f32) : S8x8x16x224x224.Idx → F .f32 := Host.exp (subf s (RX (RM s)))

/-- The exponentials over their sum, in the result's shape. -/
def RO (s : S8x8x16x224x224.Idx → F .f32) : S8x128x224x224.Idx → F .f32 :=
  shapeCast S8x128x224x224 (Host.divf (RE s) (RX (Host.reduceAdd (RE s) (constant S_ .f32 0x00000000#32)
    reducesTo_S8x8x16x224x224_S8x8x224x224_d2 h_S_))) shapeCasts_S8x8x16x224x224_S8x128x224x224

/-- The reference's result. -/
def RR (x : S8x8x224x224.Idx → F .f32) (e f : S8x16.Idx → F .f32) : S8x128x224x224.Idx → F .f32 :=
  RO (RS (RD x e) (RF (RW (RI (RJ (RD x e)))) (RG f)))

/-! ## The run -/

variable (V : Valuation τ sig (Elt F))

set_option maxHeartbeats 40000000 in
theorem A_v5 : StableHlo.after opsA V (no_index (Proc.devRef .tc main_v5)) = RD (V (Proc.devRef .tc main_arg0)) (V (Proc.devRef .tc main_arg1)) := by
  after_reads_simp
  all_goals rfl
set_option maxHeartbeats 40000000 in
theorem M_v6 : StableHlo.after opsM V (no_index (Proc.devRef .tc main_v6)) = RJ (V (Proc.devRef .tc main_v5)) := by
  after_reads_simp
  all_goals rfl
set_option maxHeartbeats 40000000 in
theorem M_v5 : StableHlo.after opsM V (no_index (Proc.devRef .tc main_v5)) = (V (Proc.devRef .tc main_v5)) := by
  after_reads_simp
set_option maxHeartbeats 40000000 in
theorem B_v7 : StableHlo.after opsB V (no_index (Proc.devRef .tc main_v7)) = RI (V (Proc.devRef .tc main_v6)) := by
  after_reads_simp
  all_goals rfl
set_option maxHeartbeats 40000000 in
theorem B_v8 : StableHlo.after opsB V (no_index (Proc.devRef .tc main_v8)) = broadcastInDim S1x8x16x1x1 ![1, 2] bcast_S8x16_S1x8x16x1x1_1_2 (V (Proc.devRef .tc main_arg2)) := by
  after_reads_simp
  all_goals rfl
set_option maxHeartbeats 40000000 in
theorem B_v5 : StableHlo.after opsB V (no_index (Proc.devRef .tc main_v5)) = (V (Proc.devRef .tc main_v5)) := by
  after_reads_simp
set_option maxHeartbeats 40000000 in
theorem T_v9 : StableHlo.after opsT V (no_index (Proc.devRef .tc main_v9)) = RF (RW (V (Proc.devRef .tc main_v7))) (shapeCast S8x16 (V (Proc.devRef .tc main_v8)) shapeCasts_S1x8x16x1x1_S8x16) := by
  after_reads_simp
  all_goals rfl
set_option maxHeartbeats 40000000 in
theorem T_v5 : StableHlo.after opsT V (no_index (Proc.devRef .tc main_v5)) = (V (Proc.devRef .tc main_v5)) := by
  after_reads_simp
set_option maxHeartbeats 40000000 in
theorem C_v25 : StableHlo.after opsC V (no_index (Proc.devRef .tc main_v25)) = RO (RS (V (Proc.devRef .tc main_v5)) (V (Proc.devRef .tc main_v9))) := by
  after_reads_simp
  all_goals rfl
set_option maxHeartbeats 40000000 in
theorem A_a0 : StableHlo.after opsA V (no_index (Proc.devRef .tc main_arg0)) = (V (Proc.devRef .tc main_arg0)) := by
  after_reads_simp
set_option maxHeartbeats 40000000 in
theorem A_a1 : StableHlo.after opsA V (no_index (Proc.devRef .tc main_arg1)) = (V (Proc.devRef .tc main_arg1)) := by
  after_reads_simp
set_option maxHeartbeats 40000000 in
theorem A_a2 : StableHlo.after opsA V (no_index (Proc.devRef .tc main_arg2)) = (V (Proc.devRef .tc main_arg2)) := by
  after_reads_simp
set_option maxHeartbeats 40000000 in
theorem M_a0 : StableHlo.after opsM V (no_index (Proc.devRef .tc main_arg0)) = (V (Proc.devRef .tc main_arg0)) := by
  after_reads_simp
set_option maxHeartbeats 40000000 in
theorem M_a1 : StableHlo.after opsM V (no_index (Proc.devRef .tc main_arg1)) = (V (Proc.devRef .tc main_arg1)) := by
  after_reads_simp
set_option maxHeartbeats 40000000 in
theorem M_a2 : StableHlo.after opsM V (no_index (Proc.devRef .tc main_arg2)) = (V (Proc.devRef .tc main_arg2)) := by
  after_reads_simp
set_option maxHeartbeats 40000000 in
theorem B_a0 : StableHlo.after opsB V (no_index (Proc.devRef .tc main_arg0)) = (V (Proc.devRef .tc main_arg0)) := by
  after_reads_simp
set_option maxHeartbeats 40000000 in
theorem B_a1 : StableHlo.after opsB V (no_index (Proc.devRef .tc main_arg1)) = (V (Proc.devRef .tc main_arg1)) := by
  after_reads_simp
set_option maxHeartbeats 40000000 in
theorem B_a2 : StableHlo.after opsB V (no_index (Proc.devRef .tc main_arg2)) = (V (Proc.devRef .tc main_arg2)) := by
  after_reads_simp
set_option maxHeartbeats 40000000 in
theorem T_a0 : StableHlo.after opsT V (no_index (Proc.devRef .tc main_arg0)) = (V (Proc.devRef .tc main_arg0)) := by
  after_reads_simp
set_option maxHeartbeats 40000000 in
theorem T_a1 : StableHlo.after opsT V (no_index (Proc.devRef .tc main_arg1)) = (V (Proc.devRef .tc main_arg1)) := by
  after_reads_simp
set_option maxHeartbeats 40000000 in
theorem T_a2 : StableHlo.after opsT V (no_index (Proc.devRef .tc main_arg2)) = (V (Proc.devRef .tc main_arg2)) := by
  after_reads_simp
set_option maxHeartbeats 40000000 in
theorem C_a0 : StableHlo.after opsC V (no_index (Proc.devRef .tc main_arg0)) = (V (Proc.devRef .tc main_arg0)) := by
  after_reads_simp
set_option maxHeartbeats 40000000 in
theorem C_a1 : StableHlo.after opsC V (no_index (Proc.devRef .tc main_arg1)) = (V (Proc.devRef .tc main_arg1)) := by
  after_reads_simp
set_option maxHeartbeats 40000000 in
theorem C_a2 : StableHlo.after opsC V (no_index (Proc.devRef .tc main_arg2)) = (V (Proc.devRef .tc main_arg2)) := by
  after_reads_simp

theorem after_args : StableHlo.after ops V (Proc.devRef .tc main_arg0) = V (Proc.devRef .tc main_arg0)
    ∧ StableHlo.after ops V (Proc.devRef .tc main_arg1) = V (Proc.devRef .tc main_arg1)
    ∧ StableHlo.after ops V (Proc.devRef .tc main_arg2) = V (Proc.devRef .tc main_arg2) := by
  simp only [ops, StableHlo.after_append]
  exact ⟨by rw [C_a0, T_a0, B_a0, M_a0, A_a0], by rw [C_a1, T_a1, B_a1, M_a1, A_a1], by rw [C_a2, T_a2, B_a2, M_a2, A_a2]⟩

theorem after_result : StableHlo.after ops V (Proc.devRef .tc main_v25)
    = RR (V (Proc.devRef .tc main_arg0)) (V (Proc.devRef .tc main_arg1)) (V (Proc.devRef .tc main_arg2)) := by
  simp only [ops, StableHlo.after_append]
  rw [C_v25, T_v5, B_v5, M_v5, A_v5, T_v9, B_v7, B_v8, M_v6, M_a2, A_v5, A_a2]
  rfl

variable (m : (ℓ : Loc nD τ sig) → Buf (Elt F) ℓ) (ρ : Dev nD → PrngReg)

/-- What the reference's run leaves in every buffer. -/
theorem run_ref : θ_run (Cert.ReferenceIdeal.defs (F := F)) (onTc (τ := τ) (Cert.ReferenceIdeal.main (F := F))) ⟨m, fun _ => 0, ρ⟩ fun r =>
    ∀ c : Dev nD,
      r.2.mem ((c.tc : Thread nD τ).loc main_v25)
        = RR (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun r h c => by
      have a := after_args (StableHlo.launchContents m c)
      exact ⟨(h c main_v25).trans (after_result _), (h c main_arg0).trans a.1, (h c main_arg1).trans a.2.1, (h c main_arg2).trans a.2.2⟩)
    (StableHlo.run_seq (by decide) (by decide) _ _ (fun _ => ops) main_eq (fun _ => ops_sub) m ρ (fun _ => ops_fresh))

end Cert.Proof.Ref

end
-- ==== Proof.Pixel.lean ====
/-
  One lane of the kernel over the extended reals, when the lane's table words and its pixel are real.
-/
module

public import proofs.«01_k».proof.Proof.Nearest

@[expose] public section

noncomputable section

namespace Cert.Proof.Scm

open Idealize.ShloMosaic

/-! ## The constants -/

theorem lit0 : (Scalar.ofBits .f32 0x00000000#32 : Ideal .f32) = ((0 : ℝ) : EReal) := Ideal.ofBits_zero_f32

theorem lit1 : (Scalar.ofBits .f32 0x3F800000#32 : Ideal .f32) = ((1 : ℝ) : EReal) := Ideal.ofBits_one_f32

theorem lit15 : (Scalar.ofBits .f32 0x41700000#32 : Ideal .f32) = ((15 : ℝ) : EReal) := by
  show Ideal.ofBits .f32 0x41700000#32 = _
  simp [Ideal.ofBits, Ideal.ieee, -EReal.coe_mul]
  norm_num

theorem lithalf : (Scalar.ofBits .f32 0x3F000000#32 : Ideal .f32) = ((1 / 2 : ℝ) : EReal) := by
  show Ideal.ofBits .f32 0x3F000000#32 = _
  simp [Ideal.ofBits, Ideal.ieee, -EReal.coe_mul]
  norm_num

/-! ## The lane -/

theorem max_coe (a b : ℝ) : max (a : EReal) (b : EReal) = ((max a b : ℝ) : EReal) := (EReal.coe_strictMono.monotone.map_max).symm

theorem min_coe (a b : ℝ) : min (a : EReal) (b : EReal) = ((min a b : ℝ) : EReal) := (EReal.coe_strictMono.monotone.map_min).symm

/-- Rounding to a word and back gives the whole part, for a value between zero and fifteen and a half. -/
theorem word_of (r : ℝ) (j : Fin 16) (h0 : 0 ≤ r) (hj : ⌊r⌋ = (j.val : ℤ)) :
    (Ideal.fptosi 32 (r : EReal)).toInt = (j.val : ℤ) := by
  unfold Ideal.fptosi
  rw [Ideal.toIntClamped_coe, if_pos h0, hj]
  clear hj
  revert j
  decide

/-- The slope word of a real pixel: minus the focus codebook's line at the nearest codeword's number. -/
theorem nsl_eq (T : Fin 20 → Ideal .f32) (x e s f0 fs : ℝ) (j : Fin 16)
    (h0 : T 0 = (e : EReal)) (h1 : T 1 = ((1 / s : ℝ) : EReal)) (h2 : T 2 = ((-f0 : ℝ) : EReal)) (h3 : T 3 = ((-fs : ℝ) : EReal))
    (hj : ⌊min (max ((x - e) * (1 / s)) 0) 15 + 1 / 2⌋ = (j.val : ℤ)) :
    nsl T (x : EReal) = ((-(f0 + j.val * fs) : ℝ) : EReal) := by
  have hr : (0 : ℝ) ≤ min (max ((x - e) * (1 / s)) 0) 15 + 1 / 2 := by
    have := le_min (le_max_right ((x - e) * (1 / s)) 0) (by norm_num : (0 : ℝ) ≤ 15)
    linarith
  unfold nsl
  rw [h0, h1, h2, h3, lit0, lit15, lithalf]
  show ((-f0 : ℝ) : EReal) + ((((Ideal.fptosi 32 (min (max (((x : EReal) - (e : EReal)) * ((1 / s : ℝ) : EReal)) ((0 : ℝ) : EReal)) ((15 : ℝ) : EReal)
    + ((1 / 2 : ℝ) : EReal))).toInt : ℝ) : EReal)) * ((-fs : ℝ) : EReal) = _
  rw [← EReal.coe_sub, ← EReal.coe_mul (x - e), max_coe, min_coe, ← EReal.coe_add, word_of _ j hr hj, ← EReal.coe_mul, ← EReal.coe_add]
  congr 1
  push_cast
  ring

/-- The kernel's exponent at codeword `k`. -/
def ak (x e s f0 fs : ℝ) (j k : Fin 16) : ℝ := |x - (e + k.val * s)| * -(f0 + j.val * fs)

theorem lane_eq (T : Fin 20 → Ideal .f32) (x e s f0 fs : ℝ) (j : Fin 16)
    (h0 : T 0 = (e : EReal)) (h1 : T 1 = ((1 / s : ℝ) : EReal)) (h2 : T 2 = ((-f0 : ℝ) : EReal)) (h3 : T 3 = ((-fs : ℝ) : EReal))
    (hk : ∀ k : Fin 16, T ⟨k.val + 4, by omega⟩ = ((e + k.val * s : ℝ) : EReal))
    (hj : ⌊min (max ((x - e) * (1 / s)) 0) 15 + 1 / 2⌋ = (j.val : ℤ)) (k : Fin 16) :
    lane T (x : EReal) k = ((Real.exp (ak x e s f0 fs j k) * (1 / ∑ i, Real.exp (ak x e s f0 fs j i)) : ℝ) : EReal) := by
  have he : ∀ i : Fin 16, ek T (x : EReal) i = ((Real.exp (ak x e s f0 fs j i) : ℝ) : EReal) := by
    intro i
    unfold ek
    rw [nsl_eq T x e s f0 fs j h0 h1 h2 h3 hj, hk i]
    show Ideal.exp (ds (x : EReal) ((e + i.val * s : ℝ) : EReal) * _) = _
    rw [ds_coe, ← EReal.coe_mul, Ideal.exp_coe]
    rfl
  have hs : (0 : ℝ) < ∑ i, Real.exp (ak x e s f0 fs j i) := Finset.sum_pos (fun i _ => Real.exp_pos _) ⟨0, Finset.mem_univ _⟩
  have hsum : esum T (x : EReal) = ((∑ i, Real.exp (ak x e s f0 fs j i) : ℝ) : EReal) := by
    unfold esum
    simp only [he, Ideal.addf_def, ← EReal.coe_add]
    congr 1
    simp only [Fin.sum_univ_succ, Fin.sum_univ_zero]
    show _ = _
    simp only [Fin.succ_zero_eq_one]
    norm_num [Fin.succ]
    ring!
  unfold lane
  rw [he, hsum, lit1, Ideal.divf_def, Ideal.div_coe hs.ne', Ideal.mulf_def, ← EReal.coe_mul, ← EReal.coe_mul, one_mul]

end Cert.Proof.Scm

end
-- ==== Proof.RefVal.lean ====
/-
  The reference's result read at an index, over the extended reals, when the pixel and the codebooks are real and one
  codeword is nearer than every other.
-/
module

public import proofs.«01_k».proof.Proof.Ref
public import proofs.«01_k».proof.Proof.Pixel
public import Idealize.ShloMosaic.PureOps.Reduce
public import Idealize.ShloMosaic.Lib.ValueIdxRank6
public import Idealize.ShloMosaic.Lib.Pipeline.Value

@[expose] public section

noncomputable section

namespace Cert.Proof.Ref

open Cert.ReferenceIdeal Cert.ReferenceIdeal.Facts₀ Cert.ReferenceIdeal.Facts
open Idealize.ShloMosaic Idealize.ShloMosaic.ValueIdx
open Cert.Proof.Scm (ds ds_coe lit0 lit1 ak shifted max_coe)

/-! ## Re-indexings -/

section Index

variable {α : Type}

theorem b4 (x : S8x8x224x224.Idx → α) (b c : Fin 8) (k : Fin 16) (h w : Fin 224) :
    broadcastInDim S8x8x16x224x224 ![0, 1, 2, 3, 4] bcast_S8x8x1x224x224_S8x8x16x224x224_0_1_2_3_4
      (broadcastInDim S8x8x1x224x224 ![0, 1, 3, 4] bcast_S8x8x224x224_S8x8x1x224x224_0_1_3_4 x) (ix5 b c k h w) = x (ix4 b c h w) := by
  rw [broadcastInDim_apply _ _ _ _ (ix5 b c (0 : Fin 1) h w) (by intro a; fin_cases a <;> rfl),
    broadcastInDim_apply _ _ _ _ (ix4 b c h w) (by intro a; fin_cases a <;> rfl)]

theorem b5 (x : S8x8x1x224x224.Idx → α) (b c : Fin 8) (k : Fin 16) (h w : Fin 224) :
    broadcastInDim S8x8x16x224x224 ![0, 1, 2, 3, 4] bcast_S8x8x1x224x224_S8x8x16x224x224_0_1_2_3_4 x (ix5 b c k h w)
      = x (ix5 b c (0 : Fin 1) h w) := by
  rw [broadcastInDim_apply _ _ _ _ (ix5 b c (0 : Fin 1) h w) (by intro a; fin_cases a <;> rfl)]

theorem b2 (e : S8x16.Idx → α) (b c : Fin 8) (k : Fin 16) (h w : Fin 224) :
    broadcastInDim S8x8x16x224x224 ![0, 1, 2, 3, 4] bcast_S1x8x16x1x1_S8x8x16x224x224_0_1_2_3_4
      (broadcastInDim S1x8x16x1x1 ![1, 2] bcast_S8x16_S1x8x16x1x1_1_2 e) (ix5 b c k h w) = e (ix2 c k) := by
  rw [broadcastInDim_apply _ _ _ _ (ix5 (0 : Fin 1) c k (0 : Fin 1) (0 : Fin 1)) (by intro a; fin_cases a <;> rfl),
    broadcastInDim_apply _ _ _ _ (ix2 c k) (by intro a; fin_cases a <;> rfl)]

theorem reduces2 : S8x8x16x224x224.Reduces [2] S8x8x224x224 := by decide

theorem reduces5 : S8x8x1x224x224x1.Reduces [5] S8x8x1x224x224 := by decide

theorem lift2 (b c : Fin 8) (k : Fin 16) (h w : Fin 224) : reduces2.lift (ix4 b c h w) k = ix5 b c k h w := by
  funext a
  apply Fin.ext
  refine (Shape.Reduces.lift_val reduces2 (ix4 b c h w) k a).trans ?_
  fin_cases a <;> rfl

theorem lift5 (b c : Fin 8) (h w : Fin 224) (k : Fin 1) :
    reduces5.lift (ix5 b c (0 : Fin 1) h w) k = ix6 b c (0 : Fin 1) h w (0 : Fin 1) := by
  have : k = 0 := Subsingleton.elim _ _
  subst this
  funext a
  apply Fin.ext
  refine (Shape.Reduces.lift_val reduces5 (ix5 b c (0 : Fin 1) h w) (0 : Fin 1) a).trans ?_
  fin_cases a <;> rfl

end Index

/-! ## The distances -/

theorem RD_apply (x : S8x8x224x224.Idx → Ideal .f32) (e : S8x16.Idx → Ideal .f32) (b c : Fin 8) (k : Fin 16) (h w : Fin 224) :
    RD x e (ix5 b c k h w) = ds (x (ix4 b c h w)) (e (ix2 c k)) := by
  show ds _ _ = _
  rw [b4, b2]

/-! ## The nearest codeword -/

theorem r_fst (a q : Ideal .f32 × BitVec 32) :
    (reducer_argmin_f32_i32 (F := Ideal) a q).1 = a.1 ∨ (reducer_argmin_f32_i32 (F := Ideal) a q).1 = q.1 := by
  unfold reducer_argmin_f32_i32
  dsimp only
  unfold Scalar.select
  split
  · exact Or.inl rfl
  · exact Or.inr rfl

theorem or1 : ∀ x : BitVec 1, IntOp.ori 1#1 x = 1#1 := by decide

theorem and0 : ∀ x : BitVec 1, IntOp.andi 0#1 x = 0#1 := by decide

theorem r_left (p q : Ideal .f32 × BitVec 32) (h : p.1 < q.1) : reducer_argmin_f32_i32 (F := Ideal) p q = p := by
  have h2 : FloatOps.cmpf .olt p.1 q.1 = 1#1 := by simp [Ideal.cmpf_def, Ideal.cmp, h]
  unfold reducer_argmin_f32_i32
  simp only [h2, or1]
  rfl

theorem r_right (p a : Ideal .f32 × BitVec 32) (h : p.1 < a.1) : reducer_argmin_f32_i32 (F := Ideal) a p = p := by
  have h2 : FloatOps.cmpf .olt a.1 p.1 = 0#1 := by simp [Ideal.cmpf_def, Ideal.cmp, not_lt.2 h.le]
  have h3 : FloatOps.cmpf .une a.1 a.1 = 0#1 := by simp [Ideal.cmpf_def, Ideal.cmp]
  have h5 : FloatOps.cmpf .oeq a.1 p.1 = 0#1 := by simp [Ideal.cmpf_def, Ideal.cmp, h.ne']
  unfold reducer_argmin_f32_i32
  simp only [h2, h3, h5, and0]
  rfl

theorem r_self (p : Ideal .f32 × BitVec 32) : reducer_argmin_f32_i32 (F := Ideal) p p = p := by
  unfold reducer_argmin_f32_i32
  dsimp only
  unfold Scalar.select
  rw [ite_self, ite_self]

/-- A fold of the reducer over a list that holds `p`, whose value is below every other pair's, ends at `p`. -/
theorem argmin_fold (p : Ideal .f32 × BitVec 32) : ∀ (l : List (Ideal .f32 × BitVec 32)) (a : Ideal .f32 × BitVec 32),
    (∀ q ∈ l, q = p ∨ p.1 < q.1) → (a = p ∨ (p ∈ l ∧ p.1 < a.1)) → l.foldl (reducer_argmin_f32_i32 (F := Ideal)) a = p
  | [], a, _, h => by
    rcases h with h | h
    · exact h
    · exact absurd h.1 List.not_mem_nil
  | q :: l, a, hl, h => by
    rw [List.foldl_cons]
    refine argmin_fold p l _ (fun r hr => hl r (List.mem_cons_of_mem _ hr)) ?_
    have hq := hl q List.mem_cons_self
    rcases h with rfl | ⟨hm, ha⟩
    · left
      rcases hq with rfl | hq
      · exact r_self _
      · exact r_left _ _ hq
    · rcases hq with rfl | hq
      · left; exact r_right _ _ ha
      · right
        refine ⟨?_, ?_⟩
        · rcases List.mem_cons.1 hm with e | e
          · exact absurd hq (by rw [e]; exact lt_irrefl _)
          · exact e
        · rcases r_fst a q with e | e
          · rw [e]; exact ha
          · rw [e]; exact hq

section Single

variable {s t u : Shape} {a : Fin s.rank} (h' : s.ReducesTo [a] t) (h : s.Reduces [a] t) (hu : 0 < u.numel) (jj : t.Idx)

/-- The reducer over one axis, where one place's value is below every other's. -/
theorem argmin_single (x : s.Idx → Ideal .f32) (y : s.Idx → BitVec 32) (ix : u.Idx → Ideal .f32) (iy : u.Idx → BitVec 32)
    (k₀ : Fin (s.size a)) (hall : ∀ k, k ≠ k₀ → x (h.lift jj k₀) < x (h.lift jj k)) (hinit : x (h.lift jj k₀) < ix (Shape.Idx.first hu)) :
    Host.argReduce (reducer_argmin_f32_i32 (F := Ideal)) x y ix iy h' hu jj = (x (h.lift jj k₀), y (h.lift jj k₀)) := by
  rw [Ideal.argReduce_eq_reduce2, Host.reduce2_eq_foldl_fiber]
  refine argmin_fold _ _ _ ?_ (Or.inr ⟨?_, hinit⟩)
  · intro q hq
    unfold Host.argReduceFiber at hq
    obtain ⟨n, hn, rfl⟩ := List.mem_map.1 hq
    have hn2 := (List.mem_filter.1 hn).2
    rw [decide_eq_true_eq, Shape.ReducesTo.drop_eq_drop _ h] at hn2
    have e1 := h.lift_drop (s.rowMajor.symm n)
    rw [hn2] at e1
    rw [← e1]
    by_cases hk : (s.rowMajor.symm n) a = k₀
    · left; rw [hk]
    · right; exact hall _ hk
  · unfold Host.argReduceFiber
    refine List.mem_map.2 ⟨s.rowMajor (h.lift jj k₀), List.mem_filter.2 ⟨List.mem_finRange _, ?_⟩, ?_⟩
    · rw [decide_eq_true_eq, Shape.ReducesTo.drop_eq_drop _ h, Equiv.symm_apply_apply, Shape.Reduces.drop_lift]
    · rw [Equiv.symm_apply_apply]

/-- A conjunction over one axis of ones is one. -/
theorem and_single (x : s.Idx → BitVec 1) (init : u.Idx → BitVec 1) (h1 : init (Shape.Idx.first hu) = 1#1)
    (hx : ∀ k, x (h.lift jj k) = 1#1) : Host.reduce IntOp.andi x init h' hu jj = 1#1 := by
  rw [Host.reduce_eq_fold_single _ _ _ _ h, h1]
  generalize (Finset.univ : Finset (Fin (s.size a))) = S
  induction S using Finset.cons_induction with
  | empty => rfl
  | cons k S hk ih => rw [Finset.fold_cons, ih, Function.comp_apply, hx]; rfl

theorem max_single (x : s.Idx → Ideal .f32) (init : u.Idx → Ideal .f32) :
    Host.reduce (FloatOps.maximumf (F := Ideal) (φ := .f32)) x init h' hu jj
      = (Finset.univ : Finset (Fin (s.size a))).fold max (init (Shape.Idx.first hu)) (fun k => x (h.lift jj k)) := by
  rw [Host.reduce_eq_fold_single _ _ _ _ h]
  rfl

theorem sum_single (x : s.Idx → Ideal .f32) (init : u.Idx → Ideal .f32) :
    Host.reduceAdd (F := Ideal) (φ := .f32) x init h' hu jj = init (Shape.Idx.first hu) + ∑ k : Fin (s.size a), x (h.lift jj k) :=
  Ideal.hostReduceAdd_single h' h x _ jj

end Single

theorem inf_lit : (constant (F := Ideal) S_ .f32 0x7F800000#32) (Shape.Idx.first h_S_) = ⊤ := by
  show Ideal.ofBits .f32 0x7F800000#32 = ⊤
  simp [Ideal.ofBits, Ideal.ieee]

theorem iota_at (b c : Fin 8) (h w : Fin 224) (j : Fin 16) :
    iotaInDim S8x8x16x224x224 32 2 (ix5 b c j h w) = BitVec.ofNat 32 j.val := rfl

/-- The numbers the reducer ends at. -/
def argSnd {s t u : Shape} {axes : List (Fin s.rank)} (h' : s.ReducesTo axes t) (hu : 0 < u.numel) (x : s.Idx → Ideal .f32) (y : s.Idx → BitVec 32)
    (ix : u.Idx → Ideal .f32) (iy : u.Idx → BitVec 32) : t.Idx → BitVec 32 :=
  fun j => (Host.argReduce (reducer_argmin_f32_i32 (F := Ideal)) x y ix iy h' hu j).2

theorem argSnd_single {s t u : Shape} {a : Fin s.rank} (h' : s.ReducesTo [a] t) (h : s.Reduces [a] t) (hu : 0 < u.numel) (jj : t.Idx)
    (x : s.Idx → Ideal .f32) (y : s.Idx → BitVec 32) (ix : u.Idx → Ideal .f32) (iy : u.Idx → BitVec 32)
    (k₀ : Fin (s.size a)) (hall : ∀ k, k ≠ k₀ → x (h.lift jj k₀) < x (h.lift jj k)) (hinit : x (h.lift jj k₀) < ix (Shape.Idx.first hu)) :
    argSnd h' hu x y ix iy jj = y (h.lift jj k₀) := congrArg Prod.snd (argmin_single h' h hu jj x y ix iy k₀ hall hinit)

theorem RJ_fun (d : S8x8x16x224x224.Idx → Ideal .f32) :
    RJ d = argSnd reducesTo_S8x8x16x224x224_S8x8x224x224_d2 h_S_ d (iotaInDim S8x8x16x224x224 32 2) (constant S_ .f32 0x7F800000#32) (constantI S_ 32 0#32) := rfl

/-- The number of the nearest codeword, where one is nearer than every other. -/
theorem RJ_apply (d : S8x8x16x224x224.Idx → Ideal .f32) (b c : Fin 8) (h w : Fin 224) (D : Fin 16 → ℝ) (j : Fin 16)
    (hD : ∀ k, d (ix5 b c k h w) = (D k : EReal)) (hj : ∀ k, k ≠ j → D j < D k) :
    RJ d (ix4 b c h w) = BitVec.ofNat 32 j.val := by
  have e1 : ∀ k, d (reduces2.lift (ix4 b c h w) k) = (D k : EReal) := fun k => (congrArg d (lift2 b c k h w)).trans (hD k)
  have e2 := argSnd_single reducesTo_S8x8x16x224x224_S8x8x224x224_d2 reduces2 h_S_ (ix4 b c h w) d (iotaInDim S8x8x16x224x224 32 2)
    (constant S_ .f32 0x7F800000#32) (constantI S_ 32 0#32) j
    (fun k hk => by rw [e1 j, e1 k]; exact EReal.coe_lt_coe_iff.2 (hj k hk))
    (by rw [e1 j, inf_lit]; exact EReal.coe_lt_top _)
  rw [RJ_fun]
  exact e2.trans ((congrArg (iotaInDim S8x8x16x224x224 32 2) (lift2 b c j h w)).trans (iota_at b c h w j))

/-! ## The look-up -/

theorem RW_apply (I : S8x8x1x224x224.Idx → BitVec 32) (b c : Fin 8) (h w : Fin 224) (j : Fin 16)
    (hI : I (ix5 b c (0 : Fin 1) h w) = BitVec.ofNat 32 j.val) :
    RW I (ix6 b c (0 : Fin 1) h w (0 : Fin 1)) = BitVec.ofNat 32 j.val := by
  unfold RW
  rw [shapeCast_apply _ _ _ (ix5 b c (0 : Fin 1) h w) (by
    rw [Shape.rowMajor_val_five, Shape.rowMajor_val_six]
    show ((((b.val * 8 + c.val) * 1 + 0) * 224 + h.val) * 224 + w.val) = (((((b.val * 8 + c.val) * 1 + 0) * 224 + h.val) * 224 + w.val) * 1 + 0)
    omega)]
  show Scalar.select (IntOp.cmpi .slt (I (ix5 b c (0 : Fin 1) h w)) 0#32) (I (ix5 b c (0 : Fin 1) h w) + 16#32) (I (ix5 b c (0 : Fin 1) h w)) = _
  rw [hI]
  clear hI
  revert j
  decide

theorem RB_apply (W : S8x8x1x224x224x1.Idx → BitVec 32) (b c : Fin 8) (h w : Fin 224) (j : Fin 16)
    (hW : W (ix6 b c (0 : Fin 1) h w (0 : Fin 1)) = BitVec.ofNat 32 j.val) : RB W (ix5 b c (0 : Fin 1) h w) = 1#1 := by
  unfold RB
  refine and_single _ reduces5 h_S_ _ _ _ rfl fun k => ?_
  have e : W (reduces5.lift (ix5 b c (0 : Fin 1) h w) k) = BitVec.ofNat 32 j.val := (congrArg W (lift5 b c h w k)).trans hW
  show IntOp.andi (IntOp.cmpi .sge (W (reduces5.lift (ix5 b c (0 : Fin 1) h w) k)) 0#32)
    (IntOp.cmpi .sle (W (reduces5.lift (ix5 b c (0 : Fin 1) h w) k)) 15#32) = _
  rw [e]
  clear hW e
  revert j
  decide

theorem gather_apply (g : S8x16.Idx → Ideal .f32) (W : S8x8x1x224x224x1.Idx → BitVec 32) (b c : Fin 8) (h w : Fin 224) (j : Fin 16)
    (hW : W (ix6 b c (0 : Fin 1) h w (0 : Fin 1)) = BitVec.ofNat 32 j.val) :
    Host.gather gather_S8x16_S8x8x1x224x224x1_S8x8x1x224x224_n_1_0_1_1_5_11 g W (ix5 b c (0 : Fin 1) h w) = g (ix2 c j) := by
  unfold Host.gather
  congr 1
  funext a
  refine Fin.ext ?_
  set d := gather_S8x16_S8x8x1x224x224x1_S8x8x1x224x224_n_1_0_1_1_5_11 with hd
  show d.start (ix5 b c (0 : Fin 1) h w) W a + d.batchCoord (ix5 b c (0 : Fin 1) h w) a + d.offCoord (ix5 b c (0 : Fin 1) h w) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ d.operandBatchingDims from List.mem_singleton.mpr rfl)]
    rfl
  · rw [GatherDims.batchCoord_eq_zero _ _ _ (fun h => absurd (List.mem_singleton.1 h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ d.startIndexMap from List.mem_singleton.mpr rfl)]
    have hsi : d.siIdx (ix5 b c (0 : Fin 1) h w) ⟨List.idxOf (1 : Fin 2) d.startIndexMap,
        List.idxOf_lt_length_iff.2 (List.mem_singleton.mpr rfl)⟩ = ix6 b c (0 : Fin 1) h w (0 : Fin 1) := by
      funext q; refine Fin.ext ?_
      match q with
      | ⟨0, _⟩ => rfl
      | ⟨1, _⟩ => rfl
      | ⟨2, _⟩ => rfl
      | ⟨3, _⟩ => rfl
      | ⟨4, _⟩ => rfl
      | ⟨5, _⟩ => rfl
    rw [hsi, hW]
    show min ((BitVec.ofNat 32 j.val).toInt.toNat) 15 = j.val
    clear hW
    revert j
    decide

theorem RG_apply (f : S8x16.Idx → Ideal .f32) (c : Fin 8) (k : Fin 16) : RG f (ix2 c k) = f (ix2 c k) := by
  unfold RG
  rw [shapeCast_apply _ _ _ (ix5 (0 : Fin 1) c k (0 : Fin 1) (0 : Fin 1)) (by
    rw [Shape.rowMajor_val_five, Shape.rowMajor_val_two]
    show ((((0 * 8 + c.val) * 16 + k.val) * 1 + 0) * 1 + 0) = c.val * 16 + k.val
    omega), broadcastInDim_apply _ _ _ _ (ix2 c k) (by intro a; fin_cases a <;> rfl)]

theorem RF_apply (g : S8x16.Idx → Ideal .f32) (W : S8x8x1x224x224x1.Idx → BitVec 32) (b c : Fin 8) (h w : Fin 224) (j : Fin 16)
    (hW : W (ix6 b c (0 : Fin 1) h w (0 : Fin 1)) = BitVec.ofNat 32 j.val) : RF W g (ix5 b c (0 : Fin 1) h w) = g (ix2 c j) := by
  have e : ∀ (p : S8x8x1x224x224.Idx → BitVec 1) (x y : S8x8x1x224x224.Idx → Ideal .f32) (i), select p x y i = Scalar.select (p i) (x i) (y i) :=
    fun _ _ _ _ => rfl
  unfold RF
  rw [e]
  rw [RB_apply W b c h w j hW, gather_apply g W b c h w j hW]
  rfl

/-! ## The softmax -/

theorem litneg1 : (Ideal.ofBits .f32 0xBF800000#32) = ((-1 : ℝ) : EReal) := by
  simp [Ideal.ofBits, Ideal.ieee, -EReal.coe_mul]
  norm_num

theorem litbot : (Ideal.ofBits .f32 0xFF800000#32) = ⊥ := by
  simp [Ideal.ofBits, Ideal.ieee]

/-- The greatest of sixteen reals is real. -/
theorem fold_real (a : Fin 16 → ℝ) : ∃ M : ℝ, (Finset.univ : Finset (Fin 16)).fold max (⊥ : EReal) (fun k => (a k : EReal)) = (M : EReal) := by
  have : ∀ s : Finset (Fin 16), s.Nonempty → ∃ M : ℝ, s.fold max (⊥ : EReal) (fun k => (a k : EReal)) = (M : EReal) := by
    intro s hs
    induction hs using Finset.Nonempty.cons_induction with
    | singleton k => exact ⟨a k, by rw [Finset.fold_singleton]; exact max_eq_left bot_le⟩
    | cons k s hk _ ih =>
      obtain ⟨M, hM⟩ := ih
      exact ⟨max (a k) M, by rw [Finset.fold_cons, hM, max_coe]⟩
  exact this _ ⟨0, Finset.mem_univ _⟩

theorem divf_at (x y : S8x8x16x224x224.Idx → Ideal .f32) (i : S8x8x16x224x224.Idx) : Host.divf x y i = Ideal.div (x i) (y i) := rfl

theorem mul_at (x y z : S8x8x16x224x224.Idx → Ideal .f32) (i : S8x8x16x224x224.Idx) : mulf (mulf x y) z i = (x i * y i) * z i := rfl

theorem neg_at (i : S8x8x16x224x224.Idx) :
    broadcastInDim S8x8x16x224x224 ![] bcast_S_S8x8x16x224x224 (constant (F := Ideal) S_ .f32 0xBF800000#32) i = ((-1 : ℝ) : EReal) := litneg1

theorem coe_sum {n : ℕ} (a : Fin n → ℝ) : ((∑ i, a i : ℝ) : EReal) = ∑ i, (a i : EReal) := by
  generalize (Finset.univ : Finset (Fin n)) = S
  induction S using Finset.cons_induction with
  | empty => simp
  | cons k S hk ih => rw [Finset.sum_cons, Finset.sum_cons, EReal.coe_add, ih]

theorem bot_lit : (constant (F := Ideal) S_ .f32 0xFF800000#32) (Shape.Idx.first h_S_) = ⊥ := litbot

theorem zero_lit : (constant (F := Ideal) S_ .f32 0x00000000#32) (Shape.Idx.first h_S_) = (0 : EReal) := Ideal.ofBits_zero_f32

theorem maxf_at {s : Shape} (x y : s.Idx → Ideal .f32) (i : s.Idx) : maximumf x y i = max (x i) (y i) := rfl

theorem bot_at (i : S8x8x224x224.Idx) :
    broadcastInDim S8x8x224x224 ![] bcast_S_S8x8x224x224 (constant (F := Ideal) S_ .f32 0xFF800000#32) i = ⊥ := litbot

theorem exp_at {s : Shape} (x y : s.Idx → Ideal .f32) (i : s.Idx) : Host.exp (subf x y) i = Ideal.exp (x i - y i) := rfl

theorem RM_fun (s : S8x8x16x224x224.Idx → Ideal .f32) :
    RM s = maximumf (broadcastInDim S8x8x224x224 ![] bcast_S_S8x8x224x224 (constant S_ .f32 0xFF800000#32))
      (Host.reduce FloatOps.maximumf s (constant S_ .f32 0xFF800000#32) reducesTo_S8x8x16x224x224_S8x8x224x224_d2 h_S_) := rfl

theorem RE_fun (s : S8x8x16x224x224.Idx → Ideal .f32) : RE s = Host.exp (subf s (RX (RM s))) := rfl

/-- The largest exponent of a pixel is a real. -/
theorem RM_apply (s : S8x8x16x224x224.Idx → Ideal .f32) (b c : Fin 8) (h w : Fin 224) (a : Fin 16 → ℝ)
    (hs : ∀ k, s (ix5 b c k h w) = (a k : EReal)) : ∃ M : ℝ, RM s (ix4 b c h w) = (M : EReal) := by
  obtain ⟨M, hM⟩ := fold_real a
  refine ⟨M, ?_⟩
  have e1 := max_single reducesTo_S8x8x16x224x224_S8x8x224x224_d2 reduces2 h_S_ (ix4 b c h w) s (constant S_ .f32 0xFF800000#32)
  rw [bot_lit] at e1
  have e2 := congrArg (fun f : Fin 16 → EReal => (Finset.univ : Finset (Fin 16)).fold max ⊥ f)
    (funext fun k => (congrArg s (lift2 b c k h w)).trans (hs k))
  rw [RM_fun, maxf_at, bot_at, max_eq_right bot_le]
  exact e1.trans (e2.trans hM)

theorem RE_apply (s : S8x8x16x224x224.Idx → Ideal .f32) (b c : Fin 8) (h w : Fin 224) (a : Fin 16 → ℝ)
    (hs : ∀ k, s (ix5 b c k h w) = (a k : EReal)) (M : ℝ) (hM : RM s (ix4 b c h w) = (M : EReal)) (i : Fin 16) :
    RE s (ix5 b c i h w) = ((Real.exp (a i - M) : ℝ) : EReal) := by
  rw [RE_fun, exp_at]
  unfold RX
  rw [b4, hM, hs, ← EReal.coe_sub, Ideal.exp_coe]

theorem sum_apply (e : S8x8x16x224x224.Idx → Ideal .f32) (b c : Fin 8) (h w : Fin 224) (a : Fin 16 → ℝ)
    (he : ∀ k, e (ix5 b c k h w) = (a k : EReal)) :
    Host.reduceAdd (F := Ideal) e (constant S_ .f32 0x00000000#32) reducesTo_S8x8x16x224x224_S8x8x224x224_d2 h_S_ (ix4 b c h w)
      = ((∑ i, a i : ℝ) : EReal) := by
  have e1 := sum_single reducesTo_S8x8x16x224x224_S8x8x224x224_d2 reduces2 h_S_ (ix4 b c h w) e (constant S_ .f32 0x00000000#32)
  rw [zero_lit, zero_add] at e1
  refine e1.trans ?_
  rw [coe_sum]
  exact Finset.sum_congr rfl fun i _ => (congrArg e (lift2 b c i h w)).trans (he i)

theorem softmax_apply (s : S8x8x16x224x224.Idx → Ideal .f32) (b c : Fin 8) (h w : Fin 224) (a : Fin 16 → ℝ)
    (hs : ∀ k, s (ix5 b c k h w) = (a k : EReal)) (k : Fin 16) :
    RO s (ix4 b (⟨c.val * 16 + k.val, by omega⟩ : Fin 128) h w) = ((Real.exp (a k) * (1 / ∑ i, Real.exp (a i)) : ℝ) : EReal) := by
  obtain ⟨M, hM⟩ := RM_apply s b c h w a hs
  have hE := RE_apply s b c h w a hs M hM
  unfold RO
  rw [shapeCast_apply _ _ _ (ix5 b c k h w) (by
    rw [Shape.rowMajor_val_five, Shape.rowMajor_val_four]
    show ((((b.val * 8 + c.val) * 16 + k.val) * 224 + h.val) * 224 + w.val) = ((b.val * 128 + (c.val * 16 + k.val)) * 224 + h.val) * 224 + w.val
    omega)]
  have hsum : (0 : ℝ) < ∑ i, Real.exp (a i - M) := Finset.sum_pos (fun i _ => Real.exp_pos _) ⟨0, Finset.mem_univ _⟩
  have hX : RX (Host.reduceAdd (RE s) (constant S_ .f32 0x00000000#32) reducesTo_S8x8x16x224x224_S8x8x224x224_d2 h_S_) (ix5 b c k h w)
      = ((∑ i, Real.exp (a i - M) : ℝ) : EReal) := by
    unfold RX
    rw [b4]
    exact sum_apply _ b c h w _ hE
  rw [divf_at, hX, hE, Ideal.div_coe hsum.ne', ← EReal.coe_mul, ← shifted a M k]
  exact congrArg (fun r : ℝ => (r : EReal)) (by ring)

/-! ## The result -/

/-- The reference at codeword `k` of channel `c`. -/
theorem RR_apply (X : S8x8x224x224.Idx → Ideal .f32) (E Fo : S8x16.Idx → Ideal .f32) (b c : Fin 8) (h w : Fin 224)
    (x e s f0 fs : ℝ) (j : Fin 16) (hx : X (ix4 b c h w) = (x : EReal)) (he : ∀ k : Fin 16, E (ix2 c k) = ((e + k.val * s : ℝ) : EReal))
    (hf : ∀ k : Fin 16, Fo (ix2 c k) = ((f0 + k.val * fs : ℝ) : EReal))
    (hj : ∀ k : Fin 16, k ≠ j → |x - (e + j.val * s)| < |x - (e + k.val * s)|) (k : Fin 16) :
    RR X E Fo (ix4 b (⟨c.val * 16 + k.val, by omega⟩ : Fin 128) h w)
      = ((Real.exp (ak x e s f0 fs j k) * (1 / ∑ i, Real.exp (ak x e s f0 fs j i)) : ℝ) : EReal) := by
  have hD : ∀ k, RD X E (ix5 b c k h w) = ((|x - (e + k.val * s)| : ℝ) : EReal) := by
    intro k
    rw [RD_apply, hx, he, ds_coe]
  unfold RR
  refine softmax_apply _ b c h w _ (fun i => ?_) k
  unfold RS
  have hI : RI (RJ (RD X E)) (ix5 b c (0 : Fin 1) h w) = BitVec.ofNat 32 j.val := by
    unfold RI
    rw [broadcastInDim_apply _ _ _ _ (ix4 b c h w) (by intro a; fin_cases a <;> rfl)]
    exact RJ_apply _ b c h w _ j hD hj
  rw [mul_at, neg_at, b5, RF_apply _ _ b c h w j (RW_apply _ b c h w j hI), RG_apply, hf, hD, ← EReal.coe_mul, ← EReal.coe_mul]
  exact congrArg (fun r : ℝ => (r : EReal)) (by unfold ak; ring)

end Cert.Proof.Ref

end
-- ==== Proof.Algebraic.lean ====
/-
  The kernel's result is the reference's, over the extended reals.
-/
module

public import proofs.«01_k».proof.Defs
public import proofs.«01_k».proof.Proof.Frames
public import proofs.«01_k».proof.Proof.Table
public import proofs.«01_k».proof.Proof.Pre
public import proofs.«01_k».proof.Proof.RefVal

@[expose] public section

noncomputable section

namespace Cert.Proof

open Idealize.ShloMosaic Idealize.ShloMosaic.ValueIdx Idealize.SL.Sem
open Cert.Proof.Scm (GG TBL TBL_at T20 lane lane_congr lane_eq nearest_of row0 row1 row2 row3 row_book OUT TB_eq run_main)

/-! ## The frames -/

/-- The kernel over the extended reals, given the precondition. -/
theorem frame_ideal_pre : Cert.quiescent_KernelIdeal_pre_affine_codebooks (hKernelIdeal := Cert.KernelIdeal.Gen.facts) (hPre_affine_codebooks := Pre.facts) :=
  fun m ρ _ => Scm.frame_ideal m ρ trivial

/-- The reference over the extended reals. -/
theorem frame_ref : Cert.quiescent_ReferenceIdeal (hReferenceIdeal := Cert.ReferenceIdeal.Gen.facts) := fun m ρ _ =>
  (θ_run (Cert.ReferenceIdeal.defs (F := Ideal)) _ _).mono
    (fun r h => ⟨fun c => ⟨(h c).2.1, (h c).2.2.1, (h c).2.2.2⟩, Idealize.ShloMosaic.sem_eq_zero_of_no_sems (by decide) r.2⟩)
    (Ref.run_ref (F := Ideal) m ρ)

/-- The reference over the extended reals, given the precondition. -/
theorem frame_ref_pre : Cert.quiescent_ReferenceIdeal_pre_affine_codebooks (hReferenceIdeal := Cert.ReferenceIdeal.Gen.facts) (hPre_affine_codebooks := Pre.facts) :=
  fun m ρ _ => frame_ref m ρ trivial

/-! ## The value -/

/-- Every index of the result, by batch, channel, codeword and pixel. -/
theorem ix_split (y : Cert.KernelIdeal.S8x128x224x224.Idx) :
    ∃ (b c : Fin 8) (k : Fin 16) (h w : Fin 224), y = ix4 b (⟨c.val * 16 + k.val, by omega⟩ : Fin 128) h w := by
  have h1 : (y 1).val < 128 := (y 1).isLt
  refine ⟨y 0, ⟨(y 1).val / 16, by omega⟩, ⟨(y 1).val % 16, by omega⟩, y 2, y 3, ?_⟩
  funext a
  fin_cases a
  · rfl
  · exact Fin.ext (show (y 1).val = (y 1).val / 16 * 16 + (y 1).val % 16 by omega)
  · rfl
  · rfl

/-- The kernel's value at an index. -/
theorem GG_at (X : Cert.KernelIdeal.S8x8x224x224.Idx → Ideal .f32) (E Fo : Cert.KernelIdeal.S8x16.Idx → Ideal .f32) (b c : Fin 8) (k : Fin 16) (h w : Fin 224) :
    GG X (TBL E Fo) (ix4 b (⟨c.val * 16 + k.val, by omega⟩ : Fin 128) h w) = lane (fun r => T20 E Fo (ix2 c r)) (X (ix4 b c h w)) k := by
  unfold GG
  refine lane_congr (fun r => ?_) (congrArg X ?_) ?_
  · refine Eq.trans (congrArg (TBL E Fo) ?_) (TBL_at E Fo c r ⟨w.val % 16, by omega⟩ ⟨c.val * 320 + r.val * 16 + w.val % 16, by omega⟩ rfl)
    funext a
    fin_cases a
    refine Fin.ext ?_
    show (c.val * 16 + k.val) / 16 * 320 + r.val * 16 + w.val % 16 = c.val * 320 + r.val * 16 + w.val % 16
    omega
  · funext a
    fin_cases a
    · rfl
    · exact Fin.ext (show (c.val * 16 + k.val) / 16 = c.val by omega)
    · rfl
    · rfl
  · exact Fin.ext (show (c.val * 16 + k.val) % 16 = k.val by omega)

/-- The kernel's result is the reference's. -/
theorem value_eq (X : Cert.KernelIdeal.S8x8x224x224.Idx → Ideal .f32) (E Fo : Cert.KernelIdeal.S8x16.Idx → Ideal .f32)
    (hp : letI := Pre.facts; Cert.Pre_affine_codebooks.fn (F := Ideal) X E Fo = fun _ => 1#1) : GG X (TBL E Fo) = Ref.RR X E Fo := by
  funext y
  obtain ⟨b, c, k, h, w, rfl⟩ := ix_split y
  obtain ⟨x, e, s, f0, fs, hs, hx, he, hf, hd⟩ := Pre.pre_reals X E Fo hp b c h w
  obtain ⟨j, hj, hmin⟩ := nearest_of x e s hs hd
  rw [GG_at, hx, lane_eq (fun r => T20 E Fo (ix2 c r)) x e s f0 fs j (row0 E Fo c e s he) (row1 E Fo c e s he hs) (row2 E Fo c f0 fs hf)
    (row3 E Fo c f0 fs hf) (row_book E Fo c e s he) hj k]
  exact (Ref.RR_apply X E Fo b c h w x e s f0 fs j hx he hf hmin k).symm

/-- From equal arguments both programs end with equal results. -/
theorem algebraic : Cert.algebraic_KernelIdeal_ReferenceIdeal_pre_affine_codebooks (hKernelIdeal := Cert.KernelIdeal.Gen.facts)
    (hReferenceIdeal := Cert.ReferenceIdeal.Gen.facts) (hPre_affine_codebooks := Pre.facts) := fun m g m' g' hpre hag =>
  ⟨fun c => OUT m c,
    (θ_run (Cert.KernelIdeal.defs (F := Ideal)) _ _).mono (fun _ h c => ⟨(h.1 c).2.2.2, (h.1 c).1, (h.1 c).2.1, (h.1 c).2.2.1⟩) (run_main (F := Ideal) m g),
    (θ_run (Cert.ReferenceIdeal.defs (F := Ideal)) _ _).mono (fun r h c => ⟨(h c).1.trans (by
      rw [(hag c).1, (hag c).2.1, (hag c).2.2]
      show _ = GG _ (Scm.TB m c)
      rw [TB_eq]
      exact (value_eq _ _ _ (hpre c)).symm), (h c).2.1, (h c).2.2.1, (h c).2.2.2⟩) (Ref.run_ref (F := Ideal) m' g')⟩

end Cert.Proof

end
-- ==== Proof.lean ====
/-
  The certificate's claims, put together.
-/
module

public import proofs.«01_k».proof.Proof.Gen.ReferenceIdeal
public import proofs.«01_k».proof.Defs
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts, Pre.facts, Scm.frame_kernel, Scm.frame_ideal,
    frame_ideal_pre, frame_ref, frame_ref_pre, trivial, algebraic⟩

end Cert.Proof

end
